-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![1, 1024, 16, 128]⟩ ⟨4, ![1, 2048, 16, 128]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)

variable [Facts]

def fn {F : FTy → Type} [FloatOps F] (main_arg0 : FVec F S1x1024x16x128 .f32) (main_arg1 : FVec F S1x1024x16x128 .f32) (main_arg2 : FVec F S1x1024x16x128 .f32) : IVec S1x1024x16x128 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_v3 : FVec F S1x1024x16x128 .f32 := Host.absf main_arg1
  let main_cst_0 : FVec F S_ .f32 := constant S_ .f32 0x7F800000#32
  let main_v4 : FVec F S1x1024x16x128 .f32 := broadcastInDim S1x1024x16x128 ![] bcast_S_S1x1024x16x128 main_cst_0
  let main_v5 : IVec S1x1024x16x128 1 := cmpf .olt main_v3 main_v4
  let main_v6 : IVec S1x1024x16x128 1 := andi main_v2 main_v5
  main_v6
-- ==== Pre_finite_scores_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)

variable [Facts]

def fn {F : FTy → Type} [FloatOps F] (main_arg0 : FVec F S1x2048x16x128 .f32) (main_arg1 : FVec F S1x2048x16x128 .f32) (main_arg2 : FVec F S1x2048x16x128 .f32) : IVec S1x2048x16x128 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_v3 : FVec F S1x2048x16x128 .f32 := Host.absf main_arg1
  let main_cst_0 : FVec F S_ .f32 := constant S_ .f32 0x7F800000#32
  let main_v4 : FVec F S1x2048x16x128 .f32 := broadcastInDim S1x2048x16x128 ![] bcast_S_S1x2048x16x128 main_cst_0
  let main_v5 : IVec S1x2048x16x128 1 := cmpf .olt main_v3 main_v4
  let main_v6 : IVec S1x2048x16x128 1 := andi main_v2 main_v5
  main_v6
-- ==== Kernel.lean ====
abbrev S1x1024x16x128 : Shape := ⟨4, ![1, 1024, 16, 128]⟩
abbrev S4x1024x128 : Shape := ⟨3, ![4, 1024, 128]⟩
abbrev S16x1024x128 : Shape := ⟨3, ![16, 1024, 128]⟩
abbrev S3x4 : Shape := ⟨2, ![3, 4]⟩
abbrev S16 : Shape := ⟨1, ![16]⟩
abbrev S4 : Shape := ⟨1, ![4]⟩
abbrev S2 : Shape := ⟨1, ![2]⟩
abbrev S1x1 : Shape := ⟨2, ![1, 1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1 : Shape := ⟨1, ![1]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1x1024x16x128, .f32⟩
  | .local _ .vmem, ⟨0, _⟩ => ⟨S1x1024x16x128, .f32⟩
  | .local _ .vmem, ⟨1, _⟩ => ⟨S1x1024x16x128, .f32⟩
  | .local _ .vmem, ⟨2, _⟩ => ⟨S1x1024x16x128, .f32⟩
  | .local _ .vmem, ⟨3, _⟩ => ⟨S1x1024x16x128, .f32⟩
  | .local _ .vmem, ⟨4, _⟩ => ⟨S4x1024x128, .f32⟩
  | .local _ .vmem, ⟨5, _⟩ => ⟨S4x1024x128, .f32⟩
  | .local _ .vmem, ⟨6, _⟩ => ⟨S4x1024x128, .f32⟩
  | .local _ .vmem, ⟨7, _⟩ => ⟨S4x1024x128, .bf16⟩
  | .local _ .vmem, ⟨8, _⟩ => ⟨S4x1024x128, .bf16⟩
  | .local _ .vmem, ⟨9, _⟩ => ⟨S16x1024x128, .bf16⟩
  | .local _ .vmem, ⟨10, _⟩ => ⟨S16x1024x128, .f32⟩
  | .local _ .vmem, ⟨11, _⟩ => ⟨S4x1024x128, .bf16⟩
  | .local _ .vmem, ⟨12, _⟩ => ⟨S4x1024x128, .bf16⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_15 : BitVec 32 := 0#32
  let c0_i32_21 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_14 : BitVec 32 := 4#32
  let v24 : BitVec 32 := Scalar.muli v13 c4_i32_14
  let v25 : BitVec 32 := Scalar.addi v24 c0_i32
  let c0_i32_22 : BitVec 32 := 0#32
  ![0, 0, v25.toNat, 0]
def k0_dev1 (d0 : Dev nD) : Nat :=
  let c0_i32_118 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_117 : BitVec 32 := 4#32
  let v105 : BitVec 32 := Scalar.muli v9 c4_i32_117
  let v106 : BitVec 32 := Scalar.addi c0_i32_118 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v107 : BitVec 32 := Scalar.muli v5 c2_i32_119
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v109 : BitVec 32 := Scalar.muli v8 c1_i32_120
  let v110 : BitVec 32 := Scalar.addi v108 v109
  v110.toNat
def k0_dev2 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v111 : BitVec 32 := Scalar.muli v2 c4_i32_122
  let v112 : BitVec 32 := Scalar.addi c0_i32_123 v111
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_124 : BitVec 32 := 2#32
  let v113 : BitVec 32 := Scalar.muli v10 c2_i32_124
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v115 : BitVec 32 := Scalar.muli v8 c1_i32_125
  let v116 : BitVec 32 := Scalar.addi v114 v115
  v116.toNat
def k0_dev3 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v117 : BitVec 32 := Scalar.muli v2 c4_i32_127
  let v118 : BitVec 32 := Scalar.addi c0_i32_128 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v119 : BitVec 32 := Scalar.muli v5 c2_i32_129
  let v120 : BitVec 32 := Scalar.addi v118 v119
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_130 : BitVec 32 := 1#32
  let v121 : BitVec 32 := Scalar.muli v11 c1_i32_130
  let v122 : BitVec 32 := Scalar.addi v120 v121
  v122.toNat
def k0_dev4 (d0 : Dev nD) : Nat :=
  let c0_i32_164 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_163 : BitVec 32 := 4#32
  let v147 : BitVec 32 := Scalar.muli v9 c4_i32_163
  let v148 : BitVec 32 := Scalar.addi c0_i32_164 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v149 : BitVec 32 := Scalar.muli v5 c2_i32_165
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v151 : BitVec 32 := Scalar.muli v8 c1_i32_166
  let v152 : BitVec 32 := Scalar.addi v150 v151
  v152.toNat
def k0_dev5 (d0 : Dev nD) : Nat :=
  let c0_i32_176 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_175 : BitVec 32 := 4#32
  let v161 : BitVec 32 := Scalar.muli v9 c4_i32_175
  let v162 : BitVec 32 := Scalar.addi c0_i32_176 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v163 : BitVec 32 := Scalar.muli v5 c2_i32_177
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v165 : BitVec 32 := Scalar.muli v8 c1_i32_178
  let v166 : BitVec 32 := Scalar.addi v164 v165
  v166.toNat
def k0_dev6 (d0 : Dev nD) : Nat :=
  let c0_i32_215 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_214 : BitVec 32 := 4#32
  let v199 : BitVec 32 := Scalar.muli v9 c4_i32_214
  let v200 : BitVec 32 := Scalar.addi c0_i32_215 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v201 : BitVec 32 := Scalar.muli v5 c2_i32_216
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v203 : BitVec 32 := Scalar.muli v8 c1_i32_217
  let v204 : BitVec 32 := Scalar.addi v202 v203
  v204.toNat
def k0_dev7 (d0 : Dev nD) : Nat :=
  let c0_i32_227 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_226 : BitVec 32 := 4#32
  let v213 : BitVec 32 := Scalar.muli v9 c4_i32_226
  let v214 : BitVec 32 := Scalar.addi c0_i32_227 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v215 : BitVec 32 := Scalar.muli v5 c2_i32_228
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v217 : BitVec 32 := Scalar.muli v8 c1_i32_229
  let v218 : BitVec 32 := Scalar.addi v216 v217
  v218.toNat
def k0_dev8 (d0 : Dev nD) : Nat :=
  let c0_i32_266 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_265 : BitVec 32 := 4#32
  let v251 : BitVec 32 := Scalar.muli v9 c4_i32_265
  let v252 : BitVec 32 := Scalar.addi c0_i32_266 v251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v253 : BitVec 32 := Scalar.muli v5 c2_i32_267
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v255 : BitVec 32 := Scalar.muli v8 c1_i32_268
  let v256 : BitVec 32 := Scalar.addi v254 v255
  v256.toNat
def k0_dev9 (d0 : Dev nD) : Nat :=
  let c0_i32_278 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_277 : BitVec 32 := 4#32
  let v265 : BitVec 32 := Scalar.muli v9 c4_i32_277
  let v266 : BitVec 32 := Scalar.addi c0_i32_278 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v267 : BitVec 32 := Scalar.muli v5 c2_i32_279
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v269 : BitVec 32 := Scalar.muli v8 c1_i32_280
  let v270 : BitVec 32 := Scalar.addi v268 v269
  v270.toNat
def k0_dev10 (d0 : Dev nD) : Nat :=
  let c0_i32_317 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_316 : BitVec 32 := 4#32
  let v303 : BitVec 32 := Scalar.muli v9 c4_i32_316
  let v304 : BitVec 32 := Scalar.addi c0_i32_317 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v305 : BitVec 32 := Scalar.muli v5 c2_i32_318
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_319 : BitVec 32 := 1#32
  let v307 : BitVec 32 := Scalar.muli v8 c1_i32_319
  let v308 : BitVec 32 := Scalar.addi v306 v307
  v308.toNat
def k0_dev11 (d0 : Dev nD) : Nat :=
  let c0_i32_329 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_328 : BitVec 32 := 4#32
  let v317 : BitVec 32 := Scalar.muli v9 c4_i32_328
  let v318 : BitVec 32 := Scalar.addi c0_i32_329 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v319 : BitVec 32 := Scalar.muli v5 c2_i32_330
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v321 : BitVec 32 := Scalar.muli v8 c1_i32_331
  let v322 : BitVec 32 := Scalar.addi v320 v321
  v322.toNat
@[reducible] def k0_t1_loop : Scf.Loop 32 :=
  let c0_i32_368 : BitVec 32 := 0#32
  let c2_i32_369 : BitVec 32 := 2#32
  let v361 : BitVec 32 := Scalar.addi c0_i32_368 c2_i32_369
  let c1_i32_370 : BitVec 32 := 1#32
  ⟨c0_i32_368, v361, c1_i32_370⟩
def k0_off2 (k0_t1 : Fin k0_t1_loop.trips) : Fin 3 → Nat :=
  let c0_1132 : Index := 0#32
  let c0_i32_368 : BitVec 32 := 0#32
  let c1_i32_370 : BitVec 32 := 1#32
  let arg27 : BitVec 32 := Scf.iv c0_i32_368 c1_i32_370 k0_t1
  let c512_i32 : BitVec 32 := 512#32
  let v1239 : BitVec 32 := Scalar.muli arg27 c512_i32
  let v1240 : Index := Scalar.indexCast v1239
  let c0_1133 : Index := 0#32
  ![0, v1240.toNat, 0]
def k0_off3 (d0 : Dev nD) (k0_t1 : Fin k0_t1_loop.trips) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_1153 : BitVec 32 := 4#32
  let v1273 : BitVec 32 := Scalar.muli v13 c4_i32_1153
  let c0_i32_1154 : BitVec 32 := 0#32
  let v1274 : BitVec 32 := Scalar.addi v1273 c0_i32_1154
  let v1276 : Index := Scalar.indexCast v1274
  let c0_i32_368 : BitVec 32 := 0#32
  let c1_i32_370 : BitVec 32 := 1#32
  let arg27 : BitVec 32 := Scf.iv c0_i32_368 c1_i32_370 k0_t1
  let c512_i32_1155 : BitVec 32 := 512#32
  let v1275 : BitVec 32 := Scalar.muli arg27 c512_i32_1155
  let v1277 : Index := Scalar.indexCast v1275
  let c0_1156 : Index := 0#32
  ![v1276.toNat, v1277.toNat, 0]
def k0_off4 (d0 : Dev nD) (c0_i32_373 : BitVec 32) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_372 : BitVec 32 := 4#32
  let v362 : BitVec 32 := Scalar.muli v13 c4_i32_372
  let v363 : BitVec 32 := Scalar.addi v362 c0_i32_373
  let v364 : Index := Scalar.indexCast v363
  let c0_374 : Index := 0#32
  let c0_375 : Index := 0#32
  ![v364.toNat, 0, 0]
def k0_off5 (d0 : Dev nD) (c0_i32_373 : BitVec 32) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_372 : BitVec 32 := 4#32
  let v362 : BitVec 32 := Scalar.muli v13 c4_i32_372
  let v363 : BitVec 32 := Scalar.addi v362 c0_i32_373
  ![v363.toNat]
def k0_off6 (d0 : Dev nD) (c0_i32_373 : BitVec 32) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_372 : BitVec 32 := 4#32
  let v362 : BitVec 32 := Scalar.muli v13 c4_i32_372
  let v363 : BitVec 32 := Scalar.addi v362 c0_i32_373
  let c0_i32_381 : BitVec 32 := 0#32
  let c0_i32_382 : BitVec 32 := 0#32
  ![v363.toNat, 0, 0]
def k0_dev12 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v378 : BitVec 32 := Scalar.muli v2 c4_i32_385
  let v379 : BitVec 32 := Scalar.addi c0_i32_386 v378
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_387 : BitVec 32 := 2#32
  let v380 : BitVec 32 := Scalar.muli v10 c2_i32_387
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v382 : BitVec 32 := Scalar.muli v8 c1_i32_388
  let v383 : BitVec 32 := Scalar.addi v381 v382
  v383.toNat
def k0_dev13 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v392 : BitVec 32 := Scalar.muli v2 c4_i32_395
  let v393 : BitVec 32 := Scalar.addi c0_i32_396 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v394 : BitVec 32 := Scalar.muli v5 c2_i32_397
  let v395 : BitVec 32 := Scalar.addi v393 v394
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_398 : BitVec 32 := 1#32
  let v396 : BitVec 32 := Scalar.muli v11 c1_i32_398
  let v397 : BitVec 32 := Scalar.addi v395 v396
  v397.toNat
@[reducible] def k0_t2_loop : Scf.Loop 32 :=
  let c0_i32_435 : BitVec 32 := 0#32
  let c2_i32_436 : BitVec 32 := 2#32
  let v436 : BitVec 32 := Scalar.addi c0_i32_435 c2_i32_436
  let c1_i32_437 : BitVec 32 := 1#32
  ⟨c0_i32_435, v436, c1_i32_437⟩
def k0_off7 (k0_t2 : Fin k0_t2_loop.trips) : Fin 3 → Nat :=
  let c1_1132 : Index := 1#32
  let c0_i32_435 : BitVec 32 := 0#32
  let c1_i32_437 : BitVec 32 := 1#32
  let arg27 : BitVec 32 := Scf.iv c0_i32_435 c1_i32_437 k0_t2
  let c512_i32 : BitVec 32 := 512#32
  let v1239 : BitVec 32 := Scalar.muli arg27 c512_i32
  let v1240 : Index := Scalar.indexCast v1239
  let c0_1133 : Index := 0#32
  ![1, v1240.toNat, 0]
def k0_off8 (d0 : Dev nD) (k0_t2 : Fin k0_t2_loop.trips) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_1153 : BitVec 32 := 4#32
  let v1273 : BitVec 32 := Scalar.muli v13 c4_i32_1153
  let c1_i32_1154 : BitVec 32 := 1#32
  let v1274 : BitVec 32 := Scalar.addi v1273 c1_i32_1154
  let v1276 : Index := Scalar.indexCast v1274
  let c0_i32_435 : BitVec 32 := 0#32
  let c1_i32_437 : BitVec 32 := 1#32
  let arg27 : BitVec 32 := Scf.iv c0_i32_435 c1_i32_437 k0_t2
  let c512_i32_1155 : BitVec 32 := 512#32
  let v1275 : BitVec 32 := Scalar.muli arg27 c512_i32_1155
  let v1277 : Index := Scalar.indexCast v1275
  let c0_1156 : Index := 0#32
  ![v1276.toNat, v1277.toNat, 0]
def k0_dev14 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v453 : BitVec 32 := Scalar.muli v2 c4_i32_452
  let v454 : BitVec 32 := Scalar.addi c0_i32_453 v453
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_454 : BitVec 32 := 2#32
  let v455 : BitVec 32 := Scalar.muli v10 c2_i32_454
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_455 : BitVec 32 := 1#32
  let v457 : BitVec 32 := Scalar.muli v8 c1_i32_455
  let v458 : BitVec 32 := Scalar.addi v456 v457
  v458.toNat
def k0_dev15 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v467 : BitVec 32 := Scalar.muli v2 c4_i32_462
  let v468 : BitVec 32 := Scalar.addi c0_i32_463 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v469 : BitVec 32 := Scalar.muli v5 c2_i32_464
  let v470 : BitVec 32 := Scalar.addi v468 v469
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_465 : BitVec 32 := 1#32
  let v471 : BitVec 32 := Scalar.muli v11 c1_i32_465
  let v472 : BitVec 32 := Scalar.addi v470 v471
  v472.toNat
@[reducible] def k0_t3_loop : Scf.Loop 32 :=
  let c0_i32_502 : BitVec 32 := 0#32
  let c2_i32_503 : BitVec 32 := 2#32
  let v511 : BitVec 32 := Scalar.addi c0_i32_502 c2_i32_503
  let c1_i32_504 : BitVec 32 := 1#32
  ⟨c0_i32_502, v511, c1_i32_504⟩
def k0_off9 (k0_t3 : Fin k0_t3_loop.trips) : Fin 3 → Nat :=
  let c2_1132 : Index := 2#32
  let c0_i32_502 : BitVec 32 := 0#32
  let c1_i32_504 : BitVec 32 := 1#32
  let arg27 : BitVec 32 := Scf.iv c0_i32_502 c1_i32_504 k0_t3
  let c512_i32 : BitVec 32 := 512#32
  let v1239 : BitVec 32 := Scalar.muli arg27 c512_i32
  let v1240 : Index := Scalar.indexCast v1239
  let c0_1133 : Index := 0#32
  ![2, v1240.toNat, 0]
def k0_off10 (d0 : Dev nD) (k0_t3 : Fin k0_t3_loop.trips) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_1153 : BitVec 32 := 4#32
  let v1273 : BitVec 32 := Scalar.muli v13 c4_i32_1153
  let c2_i32_1154 : BitVec 32 := 2#32
  let v1274 : BitVec 32 := Scalar.addi v1273 c2_i32_1154
  let v1276 : Index := Scalar.indexCast v1274
  let c0_i32_502 : BitVec 32 := 0#32
  let c1_i32_504 : BitVec 32 := 1#32
  let arg27 : BitVec 32 := Scf.iv c0_i32_502 c1_i32_504 k0_t3
  let c512_i32_1155 : BitVec 32 := 512#32
  let v1275 : BitVec 32 := Scalar.muli arg27 c512_i32_1155
  let v1277 : Index := Scalar.indexCast v1275
  let c0_1156 : Index := 0#32
  ![v1276.toNat, v1277.toNat, 0]
def k0_dev16 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v528 : BitVec 32 := Scalar.muli v2 c4_i32_519
  let v529 : BitVec 32 := Scalar.addi c0_i32_520 v528
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_521 : BitVec 32 := 2#32
  let v530 : BitVec 32 := Scalar.muli v10 c2_i32_521
  let v531 : BitVec 32 := Scalar.addi v529 v530
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_522 : BitVec 32 := 1#32
  let v532 : BitVec 32 := Scalar.muli v8 c1_i32_522
  let v533 : BitVec 32 := Scalar.addi v531 v532
  v533.toNat
def k0_dev17 (d0 : Dev nD) : Nat :=
  let c0_i32_530 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_529 : BitVec 32 := 4#32
  let v542 : BitVec 32 := Scalar.muli v2 c4_i32_529
  let v543 : BitVec 32 := Scalar.addi c0_i32_530 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_531 : BitVec 32 := 2#32
  let v544 : BitVec 32 := Scalar.muli v5 c2_i32_531
  let v545 : BitVec 32 := Scalar.addi v543 v544
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_532 : BitVec 32 := 1#32
  let v546 : BitVec 32 := Scalar.muli v11 c1_i32_532
  let v547 : BitVec 32 := Scalar.addi v545 v546
  v547.toNat
@[reducible] def k0_t4_loop : Scf.Loop 32 :=
  let c0_i32_569 : BitVec 32 := 0#32
  let c2_i32_570 : BitVec 32 := 2#32
  let v586 : BitVec 32 := Scalar.addi c0_i32_569 c2_i32_570
  let c1_i32_571 : BitVec 32 := 1#32
  ⟨c0_i32_569, v586, c1_i32_571⟩
def k0_off11 (k0_t4 : Fin k0_t4_loop.trips) : Fin 3 → Nat :=
  let c3_1132 : Index := 3#32
  let c0_i32_569 : BitVec 32 := 0#32
  let c1_i32_571 : BitVec 32 := 1#32
  let arg27 : BitVec 32 := Scf.iv c0_i32_569 c1_i32_571 k0_t4
  let c512_i32 : BitVec 32 := 512#32
  let v1239 : BitVec 32 := Scalar.muli arg27 c512_i32
  let v1240 : Index := Scalar.indexCast v1239
  let c0_1133 : Index := 0#32
  ![3, v1240.toNat, 0]
def k0_off12 (d0 : Dev nD) (k0_t4 : Fin k0_t4_loop.trips) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_1153 : BitVec 32 := 4#32
  let v1273 : BitVec 32 := Scalar.muli v13 c4_i32_1153
  let c3_i32_1154 : BitVec 32 := 3#32
  let v1274 : BitVec 32 := Scalar.addi v1273 c3_i32_1154
  let v1276 : Index := Scalar.indexCast v1274
  let c0_i32_569 : BitVec 32 := 0#32
  let c1_i32_571 : BitVec 32 := 1#32
  let arg27 : BitVec 32 := Scf.iv c0_i32_569 c1_i32_571 k0_t4
  let c512_i32_1155 : BitVec 32 := 512#32
  let v1275 : BitVec 32 := Scalar.muli arg27 c512_i32_1155
  let v1277 : Index := Scalar.indexCast v1275
  let c0_1156 : Index := 0#32
  ![v1276.toNat, v1277.toNat, 0]
def k0_dev18 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v603 : BitVec 32 := Scalar.muli v2 c4_i32_586
  let v604 : BitVec 32 := Scalar.addi c0_i32_587 v603
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_588 : BitVec 32 := 2#32
  let v605 : BitVec 32 := Scalar.muli v10 c2_i32_588
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_589 : BitVec 32 := 1#32
  let v607 : BitVec 32 := Scalar.muli v8 c1_i32_589
  let v608 : BitVec 32 := Scalar.addi v606 v607
  v608.toNat
def k0_dev19 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v617 : BitVec 32 := Scalar.muli v2 c4_i32_596
  let v618 : BitVec 32 := Scalar.addi c0_i32_597 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v619 : BitVec 32 := Scalar.muli v5 c2_i32_598
  let v620 : BitVec 32 := Scalar.addi v618 v619
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_599 : BitVec 32 := 1#32
  let v621 : BitVec 32 := Scalar.muli v11 c1_i32_599
  let v622 : BitVec 32 := Scalar.addi v620 v621
  v622.toNat
def k0_off13 (d0 : Dev nD) (c0_i32_605 : BitVec 32) : Fin 3 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_604 : BitVec 32 := 4#32
  let v631 : BitVec 32 := Scalar.muli v16 c4_i32_604
  let v632 : BitVec 32 := Scalar.addi v631 c0_i32_605
  let c0_i32_612 : BitVec 32 := 0#32
  let c0_i32_613 : BitVec 32 := 0#32
  ![v632.toNat, 0, 0]
def k0_off14 (d0 : Dev nD) (c0_i32_605 : BitVec 32) : Fin 3 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_604 : BitVec 32 := 4#32
  let v631 : BitVec 32 := Scalar.muli v16 c4_i32_604
  let v632 : BitVec 32 := Scalar.addi v631 c0_i32_605
  let v645 : Index := Scalar.indexCast v632
  let c0_616 : Index := 0#32
  let c0_617 : Index := 0#32
  ![v645.toNat, 0, 0]
def k0_off15 (d0 : Dev nD) (c0_i32_605 : BitVec 32) : Fin 1 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_604 : BitVec 32 := 4#32
  let v631 : BitVec 32 := Scalar.muli v16 c4_i32_604
  let v632 : BitVec 32 := Scalar.addi v631 c0_i32_605
  ![v632.toNat]
def k0_off16 (d0 : Dev nD) (c0_i32_605 : BitVec 32) : Fin 4 → Nat :=
  let c0_i32_620 : BitVec 32 := 0#32
  let c0_i32_621 : BitVec 32 := 0#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_604 : BitVec 32 := 4#32
  let v631 : BitVec 32 := Scalar.muli v16 c4_i32_604
  let v632 : BitVec 32 := Scalar.addi v631 c0_i32_605
  let c0_i32_622 : BitVec 32 := 0#32
  ![0, 0, v632.toNat, 0]
def k0_dev20 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v659 : BitVec 32 := Scalar.muli v2 c4_i32_627
  let v660 : BitVec 32 := Scalar.addi c0_i32_628 v659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_629 : BitVec 32 := 2#32
  let v661 : BitVec 32 := Scalar.muli v5 c2_i32_629
  let v662 : BitVec 32 := Scalar.addi v660 v661
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_630 : BitVec 32 := 1#32
  let v663 : BitVec 32 := Scalar.muli v11 c1_i32_630
  let v664 : BitVec 32 := Scalar.addi v662 v663
  v664.toNat
def k0_dev21 (d0 : Dev nD) : Nat :=
  let c0_i32_659 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_658 : BitVec 32 := 4#32
  let v701 : BitVec 32 := Scalar.muli v2 c4_i32_658
  let v702 : BitVec 32 := Scalar.addi c0_i32_659 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_660 : BitVec 32 := 2#32
  let v703 : BitVec 32 := Scalar.muli v5 c2_i32_660
  let v704 : BitVec 32 := Scalar.addi v702 v703
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_661 : BitVec 32 := 1#32
  let v705 : BitVec 32 := Scalar.muli v11 c1_i32_661
  let v706 : BitVec 32 := Scalar.addi v704 v705
  v706.toNat
def k0_off17 (d0 : Dev nD) (c2_i32_667 : BitVec 32) : Fin 3 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_666 : BitVec 32 := 4#32
  let v715 : BitVec 32 := Scalar.muli v19 c4_i32_666
  let v716 : BitVec 32 := Scalar.addi v715 c2_i32_667
  let c0_i32_674 : BitVec 32 := 0#32
  let c0_i32_675 : BitVec 32 := 0#32
  ![v716.toNat, 0, 0]
def k0_off18 (d0 : Dev nD) (c2_i32_667 : BitVec 32) : Fin 3 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_666 : BitVec 32 := 4#32
  let v715 : BitVec 32 := Scalar.muli v19 c4_i32_666
  let v716 : BitVec 32 := Scalar.addi v715 c2_i32_667
  let v729 : Index := Scalar.indexCast v716
  let c0_678 : Index := 0#32
  let c0_679 : Index := 0#32
  ![v729.toNat, 0, 0]
def k0_off19 (d0 : Dev nD) (c2_i32_667 : BitVec 32) : Fin 1 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_666 : BitVec 32 := 4#32
  let v715 : BitVec 32 := Scalar.muli v19 c4_i32_666
  let v716 : BitVec 32 := Scalar.addi v715 c2_i32_667
  ![v716.toNat]
def k0_off20 (d0 : Dev nD) (c2_i32_667 : BitVec 32) : Fin 4 → Nat :=
  let c0_i32_682 : BitVec 32 := 0#32
  let c0_i32_683 : BitVec 32 := 0#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_666 : BitVec 32 := 4#32
  let v715 : BitVec 32 := Scalar.muli v19 c4_i32_666
  let v716 : BitVec 32 := Scalar.addi v715 c2_i32_667
  let c0_i32_684 : BitVec 32 := 0#32
  ![0, 0, v716.toNat, 0]
def k0_dev22 (d0 : Dev nD) : Nat :=
  let c0_i32_690 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_689 : BitVec 32 := 4#32
  let v743 : BitVec 32 := Scalar.muli v2 c4_i32_689
  let v744 : BitVec 32 := Scalar.addi c0_i32_690 v743
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_691 : BitVec 32 := 2#32
  let v745 : BitVec 32 := Scalar.muli v10 c2_i32_691
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_692 : BitVec 32 := 1#32
  let v747 : BitVec 32 := Scalar.muli v8 c1_i32_692
  let v748 : BitVec 32 := Scalar.addi v746 v747
  v748.toNat
def k0_dev23 (d0 : Dev nD) : Nat :=
  let c0_i32_721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_720 : BitVec 32 := 4#32
  let v785 : BitVec 32 := Scalar.muli v2 c4_i32_720
  let v786 : BitVec 32 := Scalar.addi c0_i32_721 v785
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_722 : BitVec 32 := 2#32
  let v787 : BitVec 32 := Scalar.muli v10 c2_i32_722
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_723 : BitVec 32 := 1#32
  let v789 : BitVec 32 := Scalar.muli v8 c1_i32_723
  let v790 : BitVec 32 := Scalar.addi v788 v789
  v790.toNat
def k0_off21 (d0 : Dev nD) (c0_i32_813 : BitVec 32) : Fin 3 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_812 : BitVec 32 := 4#32
  let v911 : BitVec 32 := Scalar.muli v23 c4_i32_812
  let v912 : BitVec 32 := Scalar.addi v911 c0_i32_813
  let c0_i32_820 : BitVec 32 := 0#32
  let c0_i32_821 : BitVec 32 := 0#32
  ![v912.toNat, 0, 0]
def k0_off22 (d0 : Dev nD) (c0_i32_813 : BitVec 32) : Fin 3 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_812 : BitVec 32 := 4#32
  let v911 : BitVec 32 := Scalar.muli v23 c4_i32_812
  let v912 : BitVec 32 := Scalar.addi v911 c0_i32_813
  let v925 : Index := Scalar.indexCast v912
  let c0_824 : Index := 0#32
  let c0_825 : Index := 0#32
  ![v925.toNat, 0, 0]
def k0_off23 (d0 : Dev nD) (c0_i32_813 : BitVec 32) : Fin 1 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_812 : BitVec 32 := 4#32
  let v911 : BitVec 32 := Scalar.muli v23 c4_i32_812
  let v912 : BitVec 32 := Scalar.addi v911 c0_i32_813
  ![v912.toNat]
def k0_off24 (d0 : Dev nD) (c0_i32_813 : BitVec 32) : Fin 4 → Nat :=
  let c0_i32_828 : BitVec 32 := 0#32
  let c0_i32_829 : BitVec 32 := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_812 : BitVec 32 := 4#32
  let v911 : BitVec 32 := Scalar.muli v23 c4_i32_812
  let v912 : BitVec 32 := Scalar.addi v911 c0_i32_813
  let c0_i32_830 : BitVec 32 := 0#32
  ![0, 0, v912.toNat, 0]
abbrev stage0_0 : Fin 1 → Memref sig .tc .vmem S1x1024x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S_, .f32⟩
  | .hbm, ⟨8, _⟩ => ⟨S1x16x2048, .f32⟩
  | .hbm, ⟨9, _⟩ => ⟨S1x16x2048x1, .f32⟩
  | .hbm, ⟨10, _⟩ => ⟨S1x16x2048x2048, .f32⟩
  | .hbm, ⟨11, _⟩ => ⟨S1x16x2048x2048, .f32⟩
  | .hbm, ⟨12, _⟩ => ⟨S1x16x2048x2048, .f32⟩
  | .hbm, ⟨13, _⟩ => ⟨S_, .f32⟩
  | .hbm, ⟨14, _⟩ => ⟨S1x16x2048, .f32⟩
  | .hbm, ⟨15, _⟩ => ⟨S1x16x2048x1, .f32⟩
  | .hbm, ⟨16, _⟩ => ⟨S1x16x2048x2048, .f32⟩
  | .hbm, ⟨17, _⟩ => ⟨S1x16x2048x2048, .f32⟩
  | .hbm, ⟨18, _⟩ => ⟨S1x16x128x2048, .f32⟩
  | .hbm, ⟨19, _⟩ => ⟨S1x2048x16x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Rows.lean ====
/-
Rows of a stack of matrices, and heads of a `[1, s, h, d]` array: the sets of elements the kernel's slices name,
and what a slice of one matrix reads and writes, element by element.
-/
module

public import proofs.«01_k».proof.Proof.Gen.KernelIdeal
public import Idealize.ShloMosaic.Lib.ValueLayout
public import Idealize.ShloMosaic.Lib.Pipeline.Kit

@[expose] public section

namespace Cert.Attn

open Idealize.ShloMosaic Idealize.ShloMosaic.ValueIdx

variable {sig : RefSig} {κ : Kind} {sp : Space} {e : EltTy} {Val : EltTy → Type}

/-- The elements of matrix `h` of a stack of `n` matrices. -/
def rowSet (n h : ℕ) : Finset (⟨3, ![n, 1024, 128]⟩ : Shape).Idx := Finset.univ.filter fun j => (j 0 : ℕ) = h

/-- The elements of head `h` of a `[1, 1024, 16, 128]` array. -/
def headSet (h : ℕ) : Finset (⟨4, ![1, 1024, 16, 128]⟩ : Shape).Idx := Finset.univ.filter fun j => (j 2 : ℕ) = h

/-- An index is in a row when its first coordinate is the row. -/
theorem mem_rowSet {n h : ℕ} {j : (⟨3, ![n, 1024, 128]⟩ : Shape).Idx} : j ∈ rowSet n h ↔ (j 0 : ℕ) = h := by
  simp [rowSet]
/-- An index is in a head when its head coordinate is the head. -/
theorem mem_headSet {h : ℕ} {j : (⟨4, ![1, 1024, 16, 128]⟩ : Shape).Idx} : j ∈ headSet h ↔ (j 2 : ℕ) = h := by
  simp [headSet]

/-- A rectangle of one whole matrix covers exactly that matrix. -/
theorem rect_row {n h : ℕ} (off : Fin 3 → ℕ) (ho : off = ![h, 0, 0])
    (inb : ∀ a, off a + ![1, 1024, 128] a ≤ (⟨3, ![n, 1024, 128]⟩ : Shape).size a) :
    (Rect.unit (s := ⟨3, ![n, 1024, 128]⟩) off ![1, 1024, 128] inb).set = rowSet n h := by
  subst ho
  ext j
  rw [Rect.mem_set_unit, mem_rowSet]
  constructor
  · intro H
    have := H 0
    simp at this
    omega
  · intro H a
    fin_cases a
    · simp; omega
    · exact ⟨Nat.zero_le _, by simpa using (j 1).isLt⟩
    · exact ⟨Nat.zero_le _, by simpa using (j 2).isLt⟩

/-- A rectangle of one whole head covers exactly that head. -/
theorem rect_head {h : ℕ} (off : Fin 4 → ℕ) (ho : off = ![0, 0, h, 0])
    (inb : ∀ a, off a + ![1, 1024, 1, 128] a ≤ (⟨4, ![1, 1024, 16, 128]⟩ : Shape).size a) :
    (Rect.unit (s := ⟨4, ![1, 1024, 16, 128]⟩) off ![1, 1024, 1, 128] inb).set = headSet h := by
  subst ho
  ext j
  rw [Rect.mem_set_unit, mem_headSet]
  constructor
  · intro H
    have := H 2
    simp at this
    omega
  · intro H a
    fin_cases a
    · exact ⟨Nat.zero_le _, by simpa using (j 0).isLt⟩
    · exact ⟨Nat.zero_le _, by simpa using (j 1).isLt⟩
    · simp; omega
    · exact ⟨Nat.zero_le _, by simpa using (j 3).isLt⟩

/-- A rectangle of some rows of one matrix lies in that matrix. -/
theorem rect_rows_subset {n h t m : ℕ} (off : Fin 3 → ℕ) (ho : off = ![h, t, 0])
    (inb : ∀ a, off a + ![1, m, 128] a ≤ (⟨3, ![n, 1024, 128]⟩ : Shape).size a) :
    (Rect.unit (s := ⟨3, ![n, 1024, 128]⟩) off ![1, m, 128] inb).set ⊆ rowSet n h := by
  subst ho
  intro j hj
  rw [Rect.mem_set_unit] at hj
  rw [mem_rowSet]
  have := hj 0
  simp at this
  omega

/-- Where a matrix of the stack, read as a matrix, has its element `(x, y)`. -/
theorem emb_row {n h : ℕ} (v : View sig κ sp ⟨3, ![n, 1024, 128]⟩ e) (off : Fin 3 → ℕ) (ho : off = ![h, 0, 0])
    (inb : ∀ a, off a + ![1, 1024, 128] a ≤ (⟨3, ![n, 1024, 128]⟩ : Shape).size a)
    (hn : (⟨2, ![1024, 128]⟩ : Shape).numel = (Rect.unit (s := ⟨3, ![n, 1024, 128]⟩) off ![1, 1024, 128] inb).shape.numel)
    (x : Fin 1024) (y : Fin 128) (hh : h < n) :
    ((v.slice (Rect.unit off ![1, 1024, 128] inb)).reshape ⟨2, ![1024, 128]⟩ hn).emb (ix2 x y) = v.emb (ix3 ⟨h, hh⟩ x y) := by
  subst ho
  show v.emb ((Rect.unit _ _ inb).emb (Shape.reshapeEquiv hn (ix2 x y))) = _
  rw [show Shape.reshapeEquiv hn (ix2 x y) = ix3 (⟨0, Nat.one_pos⟩ : Fin 1) x y from reshapeEquiv_ix2_1ab _ x y]
  congr 1
  funext a
  apply Fin.ext
  rw [Rect.emb_apply]
  fin_cases a <;> simp [ix3]

/-- Where a matrix of the stack, as a stack of one, has its element `(0, x, y)`. -/
theorem emb_row3 {n h t m : ℕ} (v : View sig κ sp ⟨3, ![n, 1024, 128]⟩ e) (off : Fin 3 → ℕ) (ho : off = ![h, t, 0])
    (inb : ∀ a, off a + ![1, m, 128] a ≤ (⟨3, ![n, 1024, 128]⟩ : Shape).size a)
    (u : Fin 1) (x : Fin m) (y : Fin 128) (hh : h < n) (hx : t + x.val < 1024) :
    (v.slice (Rect.unit off ![1, m, 128] inb)).emb (ix3 u x y) = v.emb (ix3 ⟨h, hh⟩ ⟨t + x.val, hx⟩ y) := by
  subst ho
  show v.emb ((Rect.unit _ _ inb).emb (ix3 u x y)) = _
  congr 1
  funext a
  apply Fin.ext
  match a with
  | ⟨0, _⟩ => show h + 1 * u.val = h; omega
  | ⟨1, _⟩ => show t + 1 * x.val = t + x.val; omega
  | ⟨2, _⟩ => show 0 + 1 * y.val = y.val; omega

/-- An index `(x, y)` matched with shape `[1, a, 1, b]` is `(0, x, 0, y)`. -/
theorem reshape_head {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- Where a head, read as a matrix, has its element `(x, y)`. -/
theorem emb_head {h : ℕ} (v : View sig κ sp ⟨4, ![1, 1024, 16, 128]⟩ e) (off : Fin 4 → ℕ) (ho : off = ![0, 0, h, 0])
    (inb : ∀ a, off a + ![1, 1024, 1, 128] a ≤ (⟨4, ![1, 1024, 16, 128]⟩ : Shape).size a)
    (hn : (⟨2, ![1024, 128]⟩ : Shape).numel = (Rect.unit (s := ⟨4, ![1, 1024, 16, 128]⟩) off ![1, 1024, 1, 128] inb).shape.numel)
    (x : Fin 1024) (y : Fin 128) (hh : h < 16) :
    ((v.slice (Rect.unit off ![1, 1024, 1, 128] inb)).reshape ⟨2, ![1024, 128]⟩ hn).emb (ix2 x y)
      = v.emb (ix4 (0 : Fin 1) x ⟨h, hh⟩ y) := by
  subst ho
  show v.emb ((Rect.unit _ _ inb).emb (Shape.reshapeEquiv hn (ix2 x y))) = _
  rw [show Shape.reshapeEquiv hn (ix2 x y) = ix4 (⟨0, Nat.one_pos⟩ : Fin 1) x (⟨0, Nat.one_pos⟩ : Fin 1) y from reshape_head _ x y]
  congr 1
  funext a
  apply Fin.ext
  rw [Rect.emb_apply]
  fin_cases a <;> simp [ix4]

end Cert.Attn
-- ==== Proof.Has.lean ====
/-
Memory held by value: the elements `R` of a memref held at a share, with the contents written as a function of
the memref's own indices; and one rule each for the local operations of the kernel — the loads, the stores, the
local copies and their waits — stated on memory so held.
-/
module

public import proofs.«01_k».proof.Proof.Rows
public import proofs.«01_k».proof.Proof.Gen.KernelIdeal.Skeleton
public import proofs.«01_k».proof.Proof.Gen.KernelIdeal.Launch
public import Idealize.ShloMosaic.Lib.Pipeline.Launch
public import Idealize.ShloMosaic.Lib.Transfers
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL

/-- The kernel's own rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local copies' counters. -/
abbrev EC : UEmb Counters 𝕄 := countersEmb

/-! ## Memory held by value -/

variable {sp : Space} {s s' : Shape} {e : EltTy}

/-- Device `c` holds the elements `R` of the memref `m` at share `q`, with contents `X`. -/
def has (c : Dev nD) (m : Memref sig .tc sp s e) (R : Finset s.Idx) (q : PosShare TreeShare) (X : s.Idx → Elt F e) : sProp 𝕄 :=
  m.view.loc (c : Thread nD τ) ↦[m.view.setOn R]{q} (m.view.rep X)

/-- Device `c` holds the elements `R` of `m` with some contents. -/
def hasAny (c : Dev nD) (m : Memref sig .tc sp s e) (R : Finset s.Idx) : sProp 𝕄 :=
  iprop(∃ X : s.Idx → Elt F e, has c m R fullShare X)

instance has_storable (c : Dev nD) (m : Memref sig .tc sp s e) (R : Finset s.Idx) (q : PosShare TreeShare) (X : s.Idx → Elt F e) :
    BI.Storable (upEmb : UEmb _ 𝕄) (has (F := F) c m R q X) := by unfold has; infer_instance
instance hasAny_storable (c : Dev nD) (m : Memref sig .tc sp s e) (R : Finset s.Idx) :
    BI.Storable (upEmb : UEmb _ 𝕄) (hasAny (F := F) c m R) := by unfold hasAny; infer_instance

variable {c : Dev nD} {m : Memref sig .tc sp s e} {R R' : Finset s.Idx} {q : PosShare TreeShare} {X Y : s.Idx → Elt F e}

/-- Memory whose contents read `X` on `R` is held at `X`. -/
theorem has_of (f : Buf (Elt F) (m.view.loc (c : Thread nD τ))) (h : ∀ j ∈ R, m.view.read (Elt F) f j = X j) :
    (m.view.loc (c : Thread nD τ) ↦[m.view.setOn R]{q} f : sProp 𝕄) = has c m R q X := by
  refine pointsTo_congr fun i hi => ?_
  obtain ⟨j, hj, rfl⟩ := Finset.mem_map.1 hi
  have := h j hj
  rw [View.rep_emb, ← this, View.read_apply]
  simp

/-- Only the contents at the indices held matter. -/
theorem has_congr (h : ∀ j ∈ R, X j = Y j) : has c m R q X = has c m R q Y := by
  refine pointsTo_congr fun i hi => ?_
  obtain ⟨j, hj, rfl⟩ := Finset.mem_map.1 hi
  rw [View.rep_emb, View.rep_emb, h j hj]

/-- Holding two disjoint sets is holding each. -/
theorem has_union (h : Disjoint R R') : (has c m (R ∪ R') q X : sProp 𝕄) ⊣⊢ iprop(has c m R q X ∗ has c m R' q X) := by
  unfold has
  have : m.view.setOn (R ∪ R') = m.view.setOn R ∪ m.view.setOn R' := Finset.map_union _ _
  rw [this]
  exact pointsTo_union (by unfold View.setOn; exact (Finset.disjoint_map _).2 h)

/-- A full share is its two halves. -/
theorem has_share : (has c m R fullShare X : sProp 𝕄) ⊣⊢ iprop(has c m R fullShare.left X ∗ has c m R fullShare.right X) :=
  pointsTo_share (PosShare.mem_left_op_right fullShare)

/-- A buffer, as all of its indices held. -/
theorem has_whole (b : Ref sig .tc) (f : b.ty.Contents (Elt F)) :
    ((c : Thread nD τ).loc b ↦{q} f : sProp 𝕄) = has c (Memref.whole b) Finset.univ q f := by
  rw [← has_of (m := Memref.whole b) (R := Finset.univ) (X := f) f (fun j _ => rfl)]
  congr 1
  rw [View.setOn_univ]; exact (View.set_whole _).symm

/-- Known contents may be forgotten. -/
theorem hasAny_intro : (has c m R fullShare X : sProp 𝕄) ⊢ hasAny c m R := by
  unfold hasAny; iintro H; iexists X; iexact H

/-! ## A slice, squeezed -/

/-- The slice's own elements are the rectangle's. -/
theorem has_slice {r : Rect s} (hr : r.set = R) {hin : ∀ a, r.stride a = 1} (hs : r.shape.Squeezes s') :
    (has c m R q X : sProp 𝕄) = (((m.slice r hin).squeeze s' hs).view.loc (c : Thread nD τ) ↦[((m.slice r hin).squeeze s' hs).view.set]{q} (m.view.rep X)) := by
  unfold has; congr 1
  subst hr
  exact ((View.set_reshape _ _).trans (View.set_slice _ _)).symm

/-- Where element `y` of a slice, squeezed, is in the memref it was cut from. -/
abbrev at' (r : Rect s) (hs : r.shape.Squeezes s') (y : s'.Idx) : s.Idx := r.emb (Shape.reshapeEquiv hs.numel_eq y)

/-- The slice written whole with what another slice reads: the elements it names hold the other's. -/
theorem has_written {sp₁ : Space} {s₁ : Shape} {c₁ c₂ : Dev nD} {ms : Memref sig .tc sp₁ s₁ e} {md : Memref sig .tc sp s e}
    {rs : Rect s₁} {rd : Rect s} (hr : rd.set = R) {h₁ : ∀ a, rs.stride a = 1} {h₂ : ∀ a, rd.stride a = 1}
    (hs : rs.shape.Squeezes s') (hd : rd.shape.Squeezes s') (X : s₁.Idx → Elt F e) (Y Z : s.Idx → Elt F e)
    (hZ : ∀ y : s'.Idx, Z (at' rd hd y) = X (at' rs hs y)) :
    (((md.slice rd h₂).squeeze s' hd).view.loc (c : Thread nD τ) ↦[((md.slice rd h₂).squeeze s' hd).view.set]{q}
        (((md.slice rd h₂).squeeze s' hd).view.write (Elt F) (md.view.rep Y)
          (((ms.slice rs h₁).squeeze s' hs).view.read (Elt F) (ms.view.rep X)) Finset.univ) : sProp 𝕄)
      = has c md R q Z := by
  rw [has_slice hr hd]
  refine pointsTo_congr fun i hi => ?_
  obtain ⟨y, hy, rfl⟩ := Finset.mem_map.1 hi
  rw [View.write_emb_of_mem _ _ (Finset.mem_univ y)]
  have e1 : ((ms.slice rs h₁).squeeze s' hs).view.read (Elt F) (ms.view.rep X) y = X (at' rs hs y) := by
    conv_rhs => rw [← View.read_rep (Val := Elt F) ms.view X]
    rfl
  have e2 : (md.view.rep Z) (((md.slice rd h₂).squeeze s' hd).view.emb y) = _root_.cast (congrArg (Elt F) md.view.elt_eq.symm) (Z (at' rd hd y)) :=
    View.rep_emb md.view Z (at' rd hd y)
  rw [e1, e2, hZ]

/-! ## The local operations -/

abbrev 𝒱₀ : Variants := Variants.none

variable {α : Type} {Q : α → sProp (MT nD τ sig Unit (Elt F) ℕ UU ℕ)}

/-- A load within the elements held reads the contents. -/
theorem step_load {cs : CoreSpace} {m : Memref sig .tc cs s e} {r : LoadRect s} {hl : m.view.LoadsAt r} {k : (r.shape.Idx → Elt F e) → Prog (TpuEff nD τ sig (Elt F) Λ₀ (c : Thread nD τ).2) α}
    (hsub : r.set ⊆ R) :
    (has c m R q X : sProp 𝕄)
      ⊢ iprop((has c m R q X -∗ wp frame (wpE (defs₀ (F := F)) 𝒱₀ (c : Thread nD τ) none) Set.univ (k (fun y => X (r.idx y))) Q)
        -∗ wp frame (wpE (defs₀ (F := F)) 𝒱₀ (c : Thread nD τ) none) Set.univ (.op (.load m r hl) k) Q) := by
  unfold has
  have h := wp_load (defs := defs₀ (F := F)) 𝒱₀ (c : Thread nD τ) none Set.univ (Γ := .empty) (m := m) (r := r) (hl := hl) (k := k) (Q := Q)
    (S := m.view.setOn R) (q := q) (f := m.view.rep X) (Finset.map_subset_map.2 hsub)
  rw [View.readAt_rep] at h
  exact h

/-- A store within the elements held replaces the contents on its rectangle. -/
theorem step_store {cs : CoreSpace} {m : Memref sig .tc cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ (c : Thread nD τ).2) α}
    (hsub : r.set ⊆ R) (Y : s.Idx → Elt F e) (h1 : ∀ y, Y (r.emb y) = w y) (h2 : ∀ j ∈ R, j ∉ r.set → Y j = X j) :
    (has c m R fullShare X : sProp 𝕄)
      ⊢ iprop((has c m R fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  have hset : (m.access r).setOn Finset.univ = m.view.setOn r.set := by rw [View.setOn_univ]; exact View.set_slice _ _
  have hY : ((m.access r).loc (c : Thread nD τ) ↦[m.view.setOn R]{fullShare} ((m.access r).write (Elt F) (m.view.rep X) w Finset.univ) : sProp 𝕄)
      = has c m R fullShare Y := by
    refine pointsTo_congr fun i hi => ?_
    obtain ⟨j, hj, rfl⟩ := Finset.mem_map.1 hi
    have eY := View.rep_emb m.view Y j
    by_cases hjr : j ∈ r.set
    · obtain ⟨y, rfl⟩ : ∃ y, r.emb y = j := r.exists_idx_of_mem hjr
      have e1 := View.write_emb_of_mem (v := m.access r) (m.view.rep X) w (M := Finset.univ) (Finset.mem_univ y)
      rw [eY, h1]
      exact e1
    · have hn : m.view.emb j ∉ (m.access r).setOn Finset.univ := by
        rw [hset]; intro hh
        obtain ⟨j', hj', hjj⟩ := Finset.mem_map.1 hh
        exact hjr (m.view.emb.injective hjj ▸ hj')
      have e1 := View.write_of_not_mem (v := m.access r) (m.view.rep X) w _ hn
      rw [eY, h2 j hj hjr, ← View.rep_emb m.view X j]
      exact e1
  have h := wp_store (defs := defs₀ (F := F)) 𝒱₀ (c : Thread nD τ) none Set.univ (Γ := .empty) (m := m) (r := r) (w := w) (Mk := Finset.univ) (hx := hx) (hm := hm) (k := k) (Q := Q)
    (S := m.view.setOn R) (f := m.view.rep X) (by rw [hset]; exact Finset.map_subset_map.2 hsub)
  rw [hY] at h
  exact h

/-- A local copy of one slice onto another, issued: the flight will hand back the destination rewritten and the source. -/
theorem step_copy {sp₁ : Space} {s₁ : Shape} {ms : Memref sig .tc sp₁ s₁ e} {rs : Rect s₁} {rd : Rect s} {R₁ : Finset s₁.Idx}
    {h₁ : ∀ a, rs.stride a = 1} {h₂ : ∀ a, rd.stride a = 1} {hs : rs.shape.Squeezes s'} {hd : rd.shape.Squeezes s'} {sm sm' : SemLoc sig}
    {hsrc : ((ms.slice rs h₁).squeeze s' hs).view.WordExact} {hdst : ((m.slice rd h₂).squeeze s' hd).view.WordExact}
    {hsem : DmaTarget.Typed (nD := nD) sp₁ sm' (DmaTarget.here (p := (c : Thread nD τ).2) ((m.slice rd h₂).squeeze s' hd))}
    {k : PUnit → Prog (TpuEff nD τ sig (Elt F) Λ₀ (c : Thread nD τ).2) α} {X₁ : s₁.Idx → Elt F e}
    (hsm : sm' = sm) (hr₁ : rs.set = R₁) (hr : rd.set = R) (N : ℕ) (hN : ((m.slice rd h₂).squeeze s' hd).view.amount sm = N) (hN0 : 0 < N)
    (Z : s.Idx → Elt F e) (hZ : ∀ y : s'.Idx, Z (at' rd hd y) = X₁ (at' rs hs y)) :
    iprop(has c ms R₁ q X₁ ∗ has c m R fullShare X ∗ semVal (c, sm) 0)
      ⊢ iprop((Transfers.Flight EC (c : Thread nD τ) sm () N iprop(has c m R fullShare Z ∗ has c ms R₁ q X₁)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs ((ms.slice rs h₁).squeeze s' hs) (.here ((m.slice rd h₂).squeeze s' hd)) .same sm' hsrc hdst hsem) k) Q) := by
  subst hsm
  have h := Transfers.wp_dmaLocal (defs := defs₀ (F := F)) (Val := Elt F) (EC := (EC : UEmb Counters 𝕄)) 𝒱₀ (c : Thread nD τ) none (Q := Q) (k := k) (hsrc := hsrc) (hdst := hdst) (hsem := hsem)
    (src := (ms.slice rs h₁).squeeze s' hs) (dst := (m.slice rd h₂).squeeze s' hd) (via := .same) (sm := sm') (q := q) (fs := ms.view.rep X₁)
    (Sd := ((m.slice rd h₂).squeeze s' hd).view.set) (fd := m.view.rep X) () N hN hN0 (Finset.Subset.refl _)
  rw [← has_slice hr₁ hs (hin := h₁), ← has_slice hr hd (hin := h₂)] at h
  have hw := has_written (c := c) (q := fullShare) (c₁ := c) (c₂ := c) (ms := ms) (md := m) (h₁ := h₁) (h₂ := h₂) hr hs hd X₁ X Z hZ
  refine h.trans (wand_mono_left (wand_mono_left (Transfers.Flight_mono _ _ (sep_mono_left ?_))))
  exact hw ▸ Entails.rfl

end Cert.Attn
-- ==== Proof.Protocol.lean ====
/-
The protocol between the eight devices of the 2 × 2 × 2 mesh: who a device's three neighbours are, which heads its
group and its neighbours' groups work on, what each buffer holds, the cells, the schedule of the barrier and of the
twenty remote copies, what a device owes and in what order it pays.
-/
module

public import proofs.«01_k».proof.Proof.Has

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The mesh -/

/-- The device across the `x` axis. -/
def pN (c : Dev nD) : Dev nD := ⟨(2 * ((c.val / 2) % 2) + (c.val % 2) + 4) - 4 * (c.val / 4), by have := c.isLt; show _ < 8; omega⟩
/-- The device across the `y` axis. -/
def yN (c : Dev nD) : Dev nD := ⟨(4 * (c.val / 4) + (c.val % 2) + 2) - 2 * ((c.val / 2) % 2), by have := c.isLt; show _ < 8; change c.val < 8 at this; omega⟩
/-- The device across the `z` axis. -/
def zN (c : Dev nD) : Dev nD := ⟨(4 * (c.val / 4) + 2 * ((c.val / 2) % 2) + 1) - (c.val % 2), by have := c.isLt; show _ < 8; change c.val < 8 at this; omega⟩

/-- Head `i` of the group at distance `a` (its two bits: `y`, `z`) from device `c`'s own group. -/
def head (c : Dev nD) (a i : Fin 4) : Fin 16 := ⟨4 * ((c.val % 4) ^^^ a.val) + i.val, by
  have : (c.val % 4) ^^^ a.val < 2 ^ 2 := Nat.xor_lt_two_pow (Nat.mod_lt _ (by decide)) a.isLt
  have := i.isLt; omega⟩

/-- The arithmetic by which the kernel names the heads of its own group. -/
theorem head0 : ∀ (c : Dev nD) (i : Fin 4), 8 * ((c.val / 2) % 2) + 4 * (c.val % 2) + i.val = (head c 0 i).val := by decide
/-- The arithmetic by which the kernel names the heads of the group across `y`. -/
theorem head2 : ∀ (c : Dev nD) (i : Fin 4), (4 * (c.val % 2) + i.val + 8) - 8 * ((c.val / 2) % 2) = (head c 2 i).val := by decide
/-- The arithmetic by which the kernel names the heads of the group across `z`. -/
theorem head1 : ∀ (c : Dev nD) (i : Fin 4), (8 * ((c.val / 2) % 2) + i.val + 4) - 4 * (c.val % 2) = (head c 1 i).val := by decide
/-- The arithmetic by which the kernel names the heads of the group across both. -/
theorem head3 : ∀ (c : Dev nD) (i : Fin 4), (i.val + 12) - (8 * ((c.val / 2) % 2) + 4 * (c.val % 2)) = (head c 3 i).val := by decide

/-! ## The memrefs -/

abbrev qM : Memref sig .tc .vmem S1x1024x16x128 .f32 := Memref.whole cc0_stg0_0
abbrev kM : Memref sig .tc .vmem S1x1024x16x128 .f32 := Memref.whole cc0_stg1_0
abbrev vM : Memref sig .tc .vmem S1x1024x16x128 .f32 := Memref.whole cc0_stg2_0
abbrev oM : Memref sig .tc .vmem S1x1024x16x128 .f32 := Memref.whole cc0_stg3_0
abbrev qsM : Memref sig .tc .vmem S4x1024x128 .f32 := Memref.whole cc0_scratch0
abbrev ksM : Memref sig .tc .vmem S4x1024x128 .f32 := Memref.whole cc0_scratch1
abbrev vsM : Memref sig .tc .vmem S4x1024x128 .f32 := Memref.whole cc0_scratch2
abbrev ksbM : Memref sig .tc .vmem S4x1024x128 .bf16 := Memref.whole cc0_scratch3
abbrev vsbM : Memref sig .tc .vmem S4x1024x128 .bf16 := Memref.whole cc0_scratch4
abbrev ogM : Memref sig .tc .vmem S16x1024x128 .bf16 := Memref.whole cc0_scratch5
abbrev og32M : Memref sig .tc .vmem S16x1024x128 .f32 := Memref.whole cc0_scratch6
abbrev krM : Memref sig .tc .vmem S4x1024x128 .bf16 := Memref.whole cc0_scratch7
abbrev vrM : Memref sig .tc .vmem S4x1024x128 .bf16 := Memref.whole cc0_scratch8

/-! ## Contents -/

/-- Matrix `h` of a stack, as a stack of one. -/
def rowOf {n : ℕ} {e : EltTy} (X : (⟨3, ![n, 1024, 128]⟩ : Shape).Idx → Elt F e) (h : Fin n) : Vec F S1x1024x128 e :=
  fun j => X (ix3 h (j 1) (j 2))

/-- Rows `512 t` and on of matrix `h` of a stack, as a stack of one. -/
def tileOf {n : ℕ} {e : EltTy} (X : (⟨3, ![n, 1024, 128]⟩ : Shape).Idx → Elt F e) (h : Fin n) (t : Fin 2) : Vec F S1x512x128 e :=
  fun j => X (ix3 h (⟨512 * t.val + (j 1).val, by have h1 : (j 1).val < 512 := (j 1).isLt; have := t.isLt; omega⟩ : Fin 1024) (j 2))

/-- The head of `c`'s own group that row `i` of its stacks holds. -/
def pick (X : S1x1024x16x128.Idx → Elt F .f32) (c : Dev nD) : S4x1024x128.Idx → Elt F .f32 :=
  fun j => X (ix4 (0 : Fin 1) (j 1) (head c 0 (j 0)) (j 2))

def Qin (c : Dev nD) : S1x1024x16x128.Idx → Elt F .f32 := (win0_0.blk (0 : Fin 1)).view.read (Elt F) (m ((c : Thread nD τ).loc main_arg0))
def Kin (c : Dev nD) : S1x1024x16x128.Idx → Elt F .f32 := (win0_1.blk (0 : Fin 1)).view.read (Elt F) (m ((c : Thread nD τ).loc main_arg1))
def Vin (c : Dev nD) : S1x1024x16x128.Idx → Elt F .f32 := (win0_2.blk (0 : Fin 1)).view.read (Elt F) (m ((c : Thread nD τ).loc main_arg2))

def QS (c : Dev nD) : S4x1024x128.Idx → Elt F .f32 := pick (Qin m c) c
def KS (c : Dev nD) : S4x1024x128.Idx → Elt F .f32 := pick (Kin m c) c
def VS (c : Dev nD) : S4x1024x128.Idx → Elt F .f32 := pick (Vin m c) c
/-- The keys and values rounded for the wire. -/
def KSB (c : Dev nD) : S4x1024x128.Idx → Elt F .bf16 := fun j => k0_pay5 (rowOf (KS m c) (j 0)) (ix3 (0 : Fin 1) (j 1) (j 2))
def VSB (c : Dev nD) : S4x1024x128.Idx → Elt F .bf16 := fun j => k0_pay6 (rowOf (VS m c) (j 0)) (ix3 (0 : Fin 1) (j 1) (j 2))

/-- Tile `t` of the attention output of device `c` at row `i` of its group. -/
def ATT (c : Dev nD) (i : Fin 4) (t : Fin 2) : Vec F S1x512x128 .bf16 :=
  k0_pay14 (k0_pay1 (tileOf (QS m c) i t) (rowOf (KSB m c) i) (rowOf (KSB m (pN c)) i) (rowOf (VSB m c) i) (rowOf (VSB m (pN c)) i))

/-- The device of `c`'s own `x` half that works on head `h`. -/
def devH (c : Dev nD) (h : Fin 16) : Dev nD := ⟨4 * (c.val / 4) + h.val / 4, by have := c.isLt; have := h.isLt; show _ < 8; change c.val < 8 at *; omega⟩
/-- Its row there. -/
def rowH (h : Fin 16) : Fin 4 := ⟨h.val % 4, Nat.mod_lt _ (by decide)⟩

/-- The gathered outputs: every head of the device's own half of the sequence. -/
def OG (c : Dev nD) : S16x1024x128.Idx → Elt F .bf16 := fun j =>
  ATT m (devH c (j 0)) (rowH (j 0)) ⟨(j 1).val / 512, by have h : (j 1).val < 1024 := (j 1).isLt; omega⟩
    (ix3 (0 : Fin 1) (⟨(j 1).val % 512, Nat.mod_lt _ (by decide)⟩ : Fin 512) (j 2))
def OG32 (c : Dev nD) : S16x1024x128.Idx → Elt F .f32 := fun j => k0_pay15 (rowOf (OG m c) (j 0)) (ix3 (0 : Fin 1) (j 1) (j 2))
/-- The kernel's result on device `c`. -/
def OUT (c : Dev nD) : S1x1024x16x128.Idx → Elt F .f32 := fun j => OG32 m c (ix3 (j 2) (j 1) (j 3))

/-- The `y` neighbour gets each head from the same device. -/
theorem devH_yN : ∀ (c : Dev nD) (h : Fin 16), devH (yN c) h = devH c h := by decide
/-- The `z` neighbour gets each head from the same device. -/
theorem devH_zN : ∀ (c : Dev nD) (h : Fin 16), devH (zN c) h = devH c h := by decide
/-- The `y` neighbour gathers the same outputs. -/
theorem OG_yN (c : Dev nD) : OG m (yN c) = OG m c := by
  funext j; exact congrArg (fun d => ATT m d _ _ _) (devH_yN c (j 0))
/-- The `z` neighbour gathers the same outputs. -/
theorem OG_zN (c : Dev nD) : OG m (zN c) = OG m c := by
  funext j; exact congrArg (fun d => ATT m d _ _ _) (devH_zN c (j 0))

/-! ## The remote copies -/

/-- The twenty remote copies a device makes. -/
inductive Xf where
  | k (i : Fin 4) | v (i : Fin 4) | y (i : Fin 4) | z (i : Fin 4) | zf (i : Fin 2) | yf (i : Fin 2)
  deriving DecidableEq

/-- All twenty, in the order a device issues them. -/
def order : List Xf :=
  [.k 0, .v 0, .k 1, .v 1, .k 2, .v 2, .k 3, .v 3, .y 0, .z 0, .y 1, .z 1, .y 2, .z 2, .y 3, .z 3, .zf 0, .zf 1, .yf 0, .yf 1]

instance : Fintype Xf where
  elems := order.toFinset
  complete x := by cases x <;> (rename_i i; revert i; decide)

/-- Whom a copy goes to (and whom the same copy comes from). -/
def peer : Xf → Dev nD → Dev nD
  | .k _, c | .v _, c => pN c
  | .y _, c | .yf _, c => yN c
  | .z _, c | .zf _, c => zN c

/-- The semaphores: `false` counts at the sender, `true` at the receiver. -/
def semOf : Bool → Xf → DmaSem sig
  | false, .k i => (⟨32 + i.val, by have := i.isLt; omega⟩ : Fin 72)
  | true, .k i => (⟨36 + i.val, by have := i.isLt; omega⟩ : Fin 72)
  | false, .v i => (⟨40 + i.val, by have := i.isLt; omega⟩ : Fin 72)
  | true, .v i => (⟨44 + i.val, by have := i.isLt; omega⟩ : Fin 72)
  | false, .y i => (⟨48 + i.val, by have := i.isLt; omega⟩ : Fin 72)
  | true, .y i => (⟨52 + i.val, by have := i.isLt; omega⟩ : Fin 72)
  | false, .yf i => (⟨56 + i.val, by have := i.isLt; omega⟩ : Fin 72)
  | true, .yf i => (⟨58 + i.val, by have := i.isLt; omega⟩ : Fin 72)
  | false, .z i => (⟨60 + i.val, by have := i.isLt; omega⟩ : Fin 72)
  | true, .z i => (⟨64 + i.val, by have := i.isLt; omega⟩ : Fin 72)
  | false, .zf i => (⟨68 + i.val, by have := i.isLt; omega⟩ : Fin 72)
  | true, .zf i => (⟨70 + i.val, by have := i.isLt; omega⟩ : Fin 72)

/-- Which copy a semaphore counts, if any. -/
def kindOf (s : DmaSem sig) : Option (Bool × Xf) :=
  let n : ℕ := (show Fin 72 from s).val
  let r4 : Fin 4 := ⟨n % 4, Nat.mod_lt _ (by decide)⟩
  let r2 : Fin 2 := ⟨n % 2, Nat.mod_lt _ (by decide)⟩
  if n < 32 then none else if n < 36 then some (false, .k r4) else if n < 40 then some (true, .k r4)
  else if n < 44 then some (false, .v r4) else if n < 48 then some (true, .v r4)
  else if n < 52 then some (false, .y r4) else if n < 56 then some (true, .y r4)
  else if n < 58 then some (false, .yf r2) else if n < 60 then some (true, .yf r2)
  else if n < 64 then some (false, .z r4) else if n < 68 then some (true, .z r4)
  else if n < 70 then some (false, .zf r2) else some (true, .zf r2)

/-- A transfer is read back off its semaphore. -/
theorem kindOf_semOf : ∀ (b : Bool) (x : Xf), kindOf (semOf b x) = some (b, x) := by decide

/-- The row of the gathered outputs a device sends. -/
def srcRow (c : Dev nD) : Xf → Fin 16
  | .k _ | .v _ => 0
  | .y i | .z i => head c 0 i
  | .zf i => head c 2 ⟨i.val, by have := i.isLt; omega⟩
  | .yf i => head c 1 ⟨2 + i.val, by have := i.isLt; omega⟩
/-- The row of the gathered outputs a device receives. -/
def dstRow (c : Dev nD) : Xf → Fin 16
  | .k _ | .v _ => 0
  | .y i => head c 2 i
  | .z i => head c 1 i
  | .zf i => head c 3 ⟨i.val, by have := i.isLt; omega⟩
  | .yf i => head c 3 ⟨2 + i.val, by have := i.isLt; omega⟩

/-- The peer of a transfer's peer is the device itself. -/
theorem peer_peer : ∀ (x : Xf) (c : Dev nD), peer x (peer x c) = c := by decide
/-- The row that the peer receives is the row sent. -/
theorem dstRow_peer : ∀ (x : Xf) (c : Dev nD), dstRow (peer x c) x = srcRow c x := by decide

/-! ## The cells -/

abbrev barS : Sem sig := (SemArray.scalar (sig.barrier 0 rfl) : Sems sig S_).sem
abbrev barCell (c : Dev nD) : GSem nD τ sig := ((c : Thread nD τ), .reg barS)
abbrev xCell (b : Bool) (x : Xf) (c : Dev nD) : GSem nD τ sig := ((c : Thread nD τ), .dma (semOf b x))

/-- The credit of one remote copy. -/
abbrev NB : ℕ := (cc0_scratch5 : Ref sig .tc).dmaCredit S1024x128 .bf16
/-- The credit of a remote copy is positive. -/
theorem NB_pos : 0 < NB := sig.dmaCredit_pos _ _ _ _ _ (by decide)
/-- The credit of a row of the received keys. -/
theorem NB_kr : (cc0_scratch7 : Ref sig .tc).dmaCredit S1024x128 .bf16 = NB := rfl
/-- The credit of a row of the received values. -/
theorem NB_vr : (cc0_scratch8 : Ref sig .tc).dmaCredit S1024x128 .bf16 = NB := rfl
/-- The credit of one local copy. -/
abbrev NF : ℕ := (cc0_scratch6 : Ref sig .tc).dmaCredit S1024x128 .f32
/-- The credit of a local copy is positive. -/
theorem NF_pos : 0 < NF := sig.dmaCredit_pos _ _ _ _ _ (by decide)
/-- The credit of a head copied to the result. -/
theorem NF_o : (cc0_stg3_0 : Ref sig .tc).dmaCredit S1024x128 .f32 = NF := rfl
/-- The credit of a row copied into the gathered queries. -/
theorem NF_qs : (cc0_scratch0 : Ref sig .tc).dmaCredit S1024x128 .f32 = NF := rfl

/-! ## The schedule -/

/-- Four of a kind. -/
abbrev four (P : Fin 4 → sProp 𝕄) : sProp 𝕄 := iprop(P 0 ∗ P 1 ∗ P 2 ∗ P 3)

/-- What the barrier signal of each neighbour hands device `c`: the neighbour's memory that `c`'s copies write. -/
def barPay (c : Dev nD) : Fin 3 → sProp 𝕄
  | 0 => iprop(four (fun i => hasAny (pN c) krM (rowSet 4 i.val)) ∗ four (fun i => hasAny (pN c) vrM (rowSet 4 i.val)))
  | 1 => iprop(four (fun i => hasAny (yN c) ogM (rowSet 16 (head c 0 i).val))
      ∗ hasAny (yN c) ogM (rowSet 16 (head c 1 2).val) ∗ hasAny (yN c) ogM (rowSet 16 (head c 1 3).val))
  | 2 => iprop(four (fun i => hasAny (zN c) ogM (rowSet 16 (head c 0 i).val))
      ∗ hasAny (zN c) ogM (rowSet 16 (head c 2 0).val) ∗ hasAny (zN c) ogM (rowSet 16 (head c 2 1).val))

/-- What a copy hands its receiver `c`. -/
def recvPay (c : Dev nD) : Xf → sProp 𝕄
  | .k i => has c krM (rowSet 4 i.val) fullShare (KSB m (pN c))
  | .v i => has c vrM (rowSet 4 i.val) fullShare (VSB m (pN c))
  | x => has c ogM (rowSet 16 (dstRow c x).val) fullShare (OG m c)

/-- What a copy hands back to its sender `c`. -/
def sendPay (c : Dev nD) : Xf → sProp 𝕄
  | .k i => has c ksbM (rowSet 4 i.val) fullShare.left (KSB m c)
  | .v i => has c vsbM (rowSet 4 i.val) fullShare.left (VSB m c)
  | .y i => has c ogM (rowSet 16 (head c 0 i).val) fullShare.left (OG m c)
  | .z i => has c ogM (rowSet 16 (head c 0 i).val) fullShare.right (OG m c)
  | x => has c ogM (rowSet 16 (srcRow c x).val) fullShare (OG m c)

def xPay (c : Dev nD) : Bool × Xf → sProp 𝕄
  | (false, x) => sendPay m c x
  | (true, x) => recvPay m c x

/-- One round: a barrier cell has three duties of one unit, one per neighbour; a copy's cell one duty, of its credit. -/
def Rd : Rounds.Schedule (GSem nD τ sig) (Fin 3) 𝕄 where
  duties g r := if r = 0 ∧ g.1.2 = .tc then
      (match g.2 with
        | .reg s => if s = barS then Finset.univ else ∅
        | .dma s => if (kindOf s).isSome then {0} else ∅) else ∅
  unitless _ := False
  amount g _ _ := match g.2 with | .reg _ => 1 | .dma _ => NB
  payload g _ d := match g.2 with
    | .reg _ => barPay g.1.1 d
    | .dma s => match kindOf s with | some p => xPay m g.1.1 p | none => iprop(emp)
  amount_pos g _ _ _ := by
    rcases g with ⟨t, s | s⟩
    · exact Nat.one_pos
    · exact NB_pos

instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance

instance recvPay_storable (c : Dev nD) (x : Xf) : BI.Storable (upEmb : UEmb _ 𝕄) (recvPay (F := F) m c x) := by
  cases x <;> exact has_storable _ _ _ _ _
instance sendPay_storable (c : Dev nD) (x : Xf) : BI.Storable (upEmb : UEmb _ 𝕄) (sendPay (F := F) m c x) := by
  cases x <;> exact has_storable _ _ _ _ _
instance xPay_storable (c : Dev nD) (p : Bool × Xf) : BI.Storable (upEmb : UEmb _ 𝕄) (xPay (F := F) m c p) := by
  rcases p with ⟨b, x⟩
  cases b
  · exact sendPay_storable m c x
  · exact recvPay_storable m c x

instance Rd_payload_storable (g : GSem nD τ sig) (r : ℕ) (d : Fin 3) : BI.Storable (upEmb : UEmb _ 𝕄) ((Rd (F := F) m).payload g r d) := by
  rcases g with ⟨t, s | s⟩
  · show BI.Storable upEmb (barPay t.1 d); infer_instance
  · show BI.Storable upEmb (match kindOf s with | some p => xPay m t.1 p | none => iprop(emp))
    split <;> infer_instance

section Tables
variable (c : Dev nD) (b : Bool) (x : Xf)

/-- The barrier has a duty for each axis. -/
theorem duties_bar : (Rd (F := F) m).duties (barCell c) 0 = Finset.univ := by
  dsimp only [Rd]; rw [if_pos ⟨rfl, rfl⟩]; exact if_pos rfl
/-- The semaphore of a remote copy has one duty. -/
theorem duties_x : (Rd (F := F) m).duties (xCell b x c) 0 = {0} := by
  dsimp only [Rd]; rw [if_pos ⟨rfl, rfl⟩, kindOf_semOf]; rfl
/-- No cell has a second round. -/
theorem duties_later (g : GSem nD τ sig) : ∀ r, 1 ≤ r → (Rd (F := F) m).duties g r = ∅ := fun r hr => by
  dsimp only [Rd]; rw [if_neg fun h => by omega]
/-- What the completion of a remote copy hands over. -/
theorem payload_x (r : ℕ) (d : Fin 3) : (Rd (F := F) m).payload (xCell b x c) r d = xPay m c (b, x) := by
  show (match kindOf (semOf b x) with | some p => xPay m c p | none => iprop(emp)) = _
  rw [kindOf_semOf]
/-- The barrier expects three signals. -/
theorem expect_bar : (Rd (F := F) m).expect (barCell c) 0 = 3 := by
  unfold Schedule.expect Schedule.amountOf
  rw [duties_bar, Finset.sum_congr rfl fun d _ => (show (Rd (F := F) m).amount (barCell c) 0 d = 1 from rfl), Finset.sum_const, Finset.card_univ]; rfl
/-- The semaphore of a remote copy expects the credit of one. -/
theorem expect_x : (Rd (F := F) m).expect (xCell b x c) 0 = NB := by
  unfold Schedule.expect Schedule.amountOf; rw [duties_x, Finset.sum_singleton]; rfl
/-- All that a wait on a remote copy's semaphore receives. -/
theorem rest_x : bigSep ((Rd (F := F) m).duties (xCell b x c) 0 \ ∅) (fun d => (Rd (F := F) m).payload (xCell b x c) 0 d) = xPay m c (b, x) := by
  rw [Finset.sdiff_empty, duties_x, bigSep_singleton, payload_x]
/-- All that the wait on the barrier receives. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
end Tables

/-! ## What a device owes, and the levels -/

/-- The credits a device owes for the copies of a list, the head of the list last. -/
def Owe (c : Dev nD) : List Xf → CellTallies nD τ sig Unit
  | [] => 0
  | x :: l => Owe c l + tallyAt (xCell true x (peer x c)) () NB

/-- The neighbour a barrier signal goes to, in the order of the signals. -/
def nbr : Fin 3 → Dev nD → Dev nD
  | 0, c => pN c
  | 1, c => yN c
  | 2, c => zN c

def O₂ (c : Dev nD) : CellTallies nD τ sig Unit := Owe c order + tallyAt (barCell (zN c)) () 1
def O₁ (c : Dev nD) : CellTallies nD τ sig Unit := O₂ c + tallyAt (barCell (yN c)) () 1
/-- At launch: all the copies, and a unit to each neighbour's barrier. -/
def O₀ (c : Dev nD) : CellTallies nD τ sig Unit := O₁ c + tallyAt (barCell (pN c)) () 1

/-- The level of a copy's landing: keys and values, then outputs, then forwarded outputs. -/
def lvX : Xf → ℕ
  | .k _ | .v _ => 2
  | .y _ | .z _ => 3
  | .zf _ | .yf _ => 4

def L (g : GSem nD τ sig) : Finset Unit := if g.1.2 = .tc then {()} else ∅
def lvS : SemLoc sig → ℕ
  | .reg _ => 1
  | .dma s => match kindOf s with | some (true, x) => lvX x | _ => 0
def lv (g : GSem nD τ sig) (_ : Unit) : ℕ := lvS g.2

/-- Only the TensorCores' semaphores carry levels. -/
theorem L_of_ne (g : GSem nD τ sig) (h : g.1.2 ≠ .tc) : L g = ∅ := if_neg h
/-- Each semaphore of a TensorCore carries one level. -/
theorem L_tc (c : Dev nD) (sm : SemLoc sig) : L ((c : Thread nD τ), sm) = {()} := if_pos rfl
/-- The level of a receive semaphore is its transfer's. -/
theorem lvS_recv (x : Xf) : lvS (.dma (semOf true x) : SemLoc sig) = lvX x := by
  show (match kindOf (semOf true x) with | some (true, x) => lvX x | _ => 0) = _
  rw [kindOf_semOf]
/-- A send semaphore is at the lowest level. -/
theorem lvS_send (x : Xf) : lvS (.dma (semOf false x) : SemLoc sig) = 0 := by
  show (match kindOf (semOf false x) with | some (true, x) => lvX x | _ => 0) = _
  rw [kindOf_semOf]

/-- What is owed after one more obligation was owed before or is the new one. -/
theorem pos_add {g h : GSem nD τ sig} {u : Unit} {O : CellTallies nD τ sig Unit} {n : ℕ} (H : 0 < (O + tallyAt h () n) g u) : 0 < O g u ∨ g = h := by
  rw [Pi.add_apply, Finsupp.add_apply, tallyAt_apply] at H
  by_cases e : g = h ∧ u = ()
  · exact .inr e.1
  · rw [if_neg e] at H; exact .inl H

/-- What the list of copies owes is owed to a receive semaphore of a copy on the list. -/
theorem Owe_pos {c : Dev nD} {g : GSem nD τ sig} {u : Unit} : ∀ {l : List Xf}, 0 < Owe c l g u → ∃ x ∈ l, g = xCell true x (peer x c)
  | [], h => absurd h (Nat.lt_irrefl 0)
  | x :: l, h => by
    rcases pos_add h with h | h
    · obtain ⟨y, hy, e⟩ := Owe_pos h; exact ⟨y, List.mem_cons_of_mem _ hy, e⟩
    · exact ⟨x, List.mem_cons_self, h⟩

/-- A device that owes copies landing only at higher levels may wait. -/
theorem mayWait_owe (c : Dev nD) (sm : SemLoc sig) (l : List Xf) (h : ∀ x ∈ l, lvS sm < lvX x) :
    (levAts L lv : sProp 𝕄) ⊢ MayWait (c : Thread nD τ) sm () (Owe c l) :=
  MayOwe.of_cut (L := L) (lev := lv) (lvS sm) (fun p hp => by rw [Finset.mem_singleton.mp hp, L_tc]; exact Finset.mem_singleton_self _)
    (fun g u hg => by obtain ⟨x, _, rfl⟩ := Owe_pos hg; exact Finset.mem_singleton_self _)
    (fun p hp => by rw [Finset.mem_singleton.mp hp]; exact Nat.le_refl _)
    (fun g u hg => by obtain ⟨x, hx, rfl⟩ := Owe_pos hg; show lvS sm < lvS _; rw [lvS_recv]; exact h x hx)

/-- What is owed at the start is owed to a receive semaphore or to a neighbour's barrier. -/
theorem O₀_pos {c : Dev nD} {g : GSem nD τ sig} {u : Unit} (h : 0 < O₀ c g u) :
    (∃ x ∈ order, g = xCell true x (peer x c)) ∨ ∃ d, g = barCell (nbr d c) := by
  rcases pos_add h with h | h
  · rcases pos_add h with h | h
    · rcases pos_add h with h | h
      · exact .inl (Owe_pos h)
      · exact .inr ⟨2, h⟩
    · exact .inr ⟨1, h⟩
  · exact .inr ⟨0, h⟩

/-- The level of a transfer is positive. -/
theorem lvX_pos (x : Xf) : 0 < lvX x := by cases x <;> exact Nat.succ_pos _

/-- The pipeline's own waits, on the staging semaphores, are below everything owed at launch. -/
theorem mayWait_stage (c : Dev nD) (q : DmaSem sig) (hq : lvS (.dma q : SemLoc sig) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, _, rfl⟩ | ⟨d, rfl⟩ <;> exact Finset.mem_singleton_self _)
      (fun p hp => by rw [Finset.mem_singleton.mp hp]; exact Nat.le_of_eq hq)
      (fun g u hg => by
        rcases O₀_pos hg with ⟨x, _, rfl⟩ | ⟨d, rfl⟩
        · show 0 < lvS _; rw [lvS_recv]; exact lvX_pos x
        · exact Nat.one_pos)
  · rw [MayWait_zero]; iintro -; iempintro

end Cert.Attn
-- ==== Proof.Steps.lean ====
/-
One rule for each operation of the kernel that another device sees — the barrier's signals and wait, the remote
copies, the waits on their semaphores — and for the waits on the local copies, under what the device still owes.
-/
module

public import proofs.«01_k».proof.Proof.Protocol

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of the protocol, all devices' -/

/-- A device's cells: its barrier, and two per copy. -/
abbrev CellIx := Option (Bool × Xf)
def cellAt (ck : Dev nD × CellIx) : GSem nD τ sig :=
  match ck.2 with
  | none => barCell ck.1
  | some p => xCell p.1 p.2 ck.1

/-- Every cell's invariant, under the names `K`, and that every cell has reached its round. -/
def Invs (K : Dev nD × CellIx → ℕ) : sProp 𝕄 :=
  bigSep Finset.univ fun ck => iprop(cellInv ER (Rd m) (K ck) (cellAt ck) ∗ reached ER (cellAt ck) 0)

instance Invs_persistent (K : Dev nD × CellIx → ℕ) : BI.Persistent (Invs m K) := by unfold Invs; infer_instance

/-- What every step may use: the cells and the levels. -/
def Env (K : Dev nD × CellIx → ℕ) : sProp 𝕄 := iprop(Invs m K ∗ levAts L lv)
instance Env_persistent (K : Dev nD × CellIx → ℕ) : BI.Persistent (Env m K) := by unfold Env; infer_instance

/-- One cell's invariant, out of all of them. -/
theorem Invs_at (K : Dev nD × CellIx → ℕ) (ck : Dev nD × CellIx) :
    Invs m K ⊢ iprop(cellInv ER (Rd m) (K ck) (cellAt ck) ∗ reached ER (cellAt ck) 0) := by
  unfold Invs; exact bigSep_elim (Finset.mem_univ ck)

/-- What device `c` owes, whatever it has waited for. -/
def Ow (c : Dev nD) (O : CellTallies nD τ sig Unit) : sProp 𝕄 := iprop(∃ W, owes (c : Thread nD τ) O W)

/-- What device `c` issues copy `x` with; -/
def Snd (c : Dev nD) (x : Xf) : sProp 𝕄 :=
  iprop(dutyTok ER (xCell false x c) 0 0 ∗ dutyTok ER (xCell true x (peer x c)) 0 0 ∗ atPos ER (xCell false x c) 0 ∅ 0)
/-- and what it then waits for it with. -/
def SndW (c : Dev nD) (x : Xf) : sProp 𝕄 :=
  iprop(cred (tallyAt (xCell false x c) () NB) ∗ atPos ER (xCell false x c) 0 ∅ 0)
/-- What device `c` waits for the landing of copy `x` with. -/
def RcvW (c : Dev nD) (x : Xf) : sProp 𝕄 :=
  iprop(cred (tallyAt (xCell true x c) () NB) ∗ atPos ER (xCell true x c) 0 ∅ 0)
def BarW (c : Dev nD) : sProp 𝕄 := iprop(cred (tallyAt (barCell c) () 3) ∗ atPos ER (barCell c) 0 ∅ 0)

abbrev zero (c : Dev nD) (s : DmaSem sig) : sProp 𝕄 := semVal ((c : Thread nD τ), .dma s) 0

variable {α : Type} {Q : α → sProp (MT nD τ sig Unit (Elt F) ℕ UU ℕ)} {c : Dev nD} (K : Dev nD × CellIx → ℕ)

/-- A wait on a copy's semaphore, at either end: what the copy hands over, and the semaphore back at zero. -/
theorem step_waitX {sem : DmaSem sig} {b : Ref sig .tc} {s : Shape} {e : EltTy} {hk : (c : Thread nD τ).2 = .tc ∨ b.HasMemref s e}
    {k : PUnit → Prog (TpuEff nD τ sig (Elt F) Λ₀ (c : Thread nD τ).2) α}
    (d : Bool) (x : Xf) (hsem : sem = semOf d x) (hN : b.dmaCredit s e = NB) (l : List Xf)
    (hl : ∀ y ∈ l, lvS (.dma (semOf d x) : SemLoc sig) < lvX y) :
    iprop(Env m K ∗ (cred (tallyAt (xCell d x c) () NB) ∗ atPos ER (xCell d x c) 0 ∅ 0) ∗ Ow c (Owe c l))
      ⊢ iprop((iprop(xPay m c (d, x) ∗ zero c (semOf d x) ∗ Ow c (Owe c l)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma sem b s e hk) k) Q) := by
  subst hsem
  unfold Env Ow
  iintro ⟨⟨#HI, #Hlev⟩, ⟨Hc, Hat⟩, ⟨%W, HO⟩⟩ Hk
  ihave #Hx := (Invs_at m K (c, some (d, x))) $$ HI
  icases Hx with ⟨#Hinv, -⟩
  iapply (Rounds.wp_wait_rest_token 𝒱₀ ER (Rd m) (c : Thread nD τ) none (κ := K (c, some (d, x))) (sm := .dma (semOf d x)) (k' := NB)
      (fun K' => by rw [← hN]; exact wpE_waitDma_eq 𝒱₀ (c : Thread nD τ) none Set.univ K') (Set.mem_univ _) () (O := Owe c l) (W := W) (R := 0) (m := 0) (T := ∅)
      (by rw [Nat.zero_add]; exact (expect_x m c d x).symm)) $$ [Hc HO Hat]
  · isplitr; · iexact Hinv
    isplitl [Hc]; · iexact Hc
    isplitl [HO]; · iexact HO
    isplitr; · iapply (mayWait_owe c (.dma (semOf d x)) l hl); iexact Hlev
    iexact Hat
  iintro ⟨HO, Hat, -, Hpay⟩
  ihave Hp := (Entails.of_eq (rest_x m c d x)) $$ Hpay
  imod (Rounds.cell_close ER (Rd m) (Set.mem_univ (K (c, some (d, x)))) (fun h => h) (R := 0 + 1) (duties_later m (xCell d x c))) $$ [Hat] with Hz
  · isplitr; · iexact Hinv
    iexact Hat
  iapply Hk
  isplitl [Hp]; · iexact Hp
  isplitl [Hz]; · iexact Hz
  iexists _; iexact HO

/-- A wait on a local copy: what its flight delivers, and the semaphore back at zero. -/
theorem step_waitL {sem sem' : DmaSem sig} {b : Ref sig .tc} {s : Shape} {e : EltTy} {hk : (c : Thread nD τ).2 = .tc ∨ b.HasMemref s e}
    {k : PUnit → Prog (TpuEff nD τ sig (Elt F) Λ₀ (c : Thread nD τ).2) α} {D : sProp (MT nD τ sig Unit (Elt F) ℕ UU ℕ)}
    (hsem : sem = sem') (hN : b.dmaCredit s e = NF) (l : List Xf) (hlv : lvS (.dma sem' : SemLoc sig) = 0) :
    iprop(Env m K ∗ Transfers.Flight EC (c : Thread nD τ) (.dma sem') () NF D ∗ Ow c (Owe c l))
      ⊢ iprop((iprop(D ∗ zero c sem' ∗ Ow c (Owe c l)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma sem b s e hk) k) Q) := by
  subst hsem
  unfold Env Ow
  iintro ⟨⟨#HI, #Hlev⟩, Hf, ⟨%W, HO⟩⟩ Hk
  iapply (Transfers.wp_waitLocalOSized (EC := EC) 𝒱₀ (c : Thread nD τ) none () hN (O := Owe c l) (W := W)) $$ [Hf HO]
  · isplitl [Hf]; · iexact Hf
    isplitl [HO]; · iexact HO
    iapply (mayWait_owe c (.dma sem) l (fun y _ => by rw [hlv]; exact lvX_pos y)); iexact Hlev
  iintro ⟨HD, Hz, HO⟩
  iapply Hk
  isplitl [HD]; · iexact HD
  isplitl [Hz]; · iexact Hz
  iexists _; iexact HO

/-- A remote copy of one row onto the peer's. -/
theorem step_send {sp₁ sp : Space} {s₁ s s' : Shape} {e : EltTy} {ms : Memref sig .tc sp₁ s₁ e} {md : Memref sig .tc sp s e}
    {rs : Rect s₁} {rd : Rect s} {R₁ : Finset s₁.Idx} {R : Finset s.Idx} {q : PosShare TreeShare} {n : Dev nD}
    {h₁ : ∀ a, rs.stride a = 1} {h₂ : ∀ a, rd.stride a = 1} {hs : rs.shape.Squeezes s'} {hd : rd.shape.Squeezes s'} {sS sR : SemLoc sig}
    {hsrc : ((ms.slice rs h₁).squeeze s' hs).view.WordExact} {hdst : ((md.slice rd h₂).squeeze s' hd).view.WordExact}
    {hsc : ((md.slice rd h₂).squeeze s' hd).view.ref.isScScratch = false}
    {hsem : DmaTarget.Typed sp₁ sR (DmaTarget.remote (p := (c : Thread nD τ).2) (Dev.tc n : Thread nD τ) ((md.slice rd h₂).squeeze s' hd) sS hsc)}
    {k : PUnit → Prog (TpuEff nD τ sig (Elt F) Λ₀ (c : Thread nD τ).2) α} {X₁ : s₁.Idx → Elt F e}
    (x : Xf) (hn : n = peer x c) (hS : sS = .dma (semOf false x)) (hR : sR = .dma (semOf true x)) (hr₁ : rs.set = R₁) (hr : rd.set = R)
    (hN : md.view.ref.dmaCredit s' e = NB) (l : List Xf) (Z : s.Idx → Elt F e) (hZ : ∀ y : s'.Idx, Z (at' rd hd y) = X₁ (at' rs hs y))
    (hp₁ : sendPay m c x = has c ms R₁ q X₁) (hp₂ : recvPay m (peer x c) x = has (peer x c) md R fullShare Z) :
    iprop(Env m K ∗ Snd c x ∗ has c ms R₁ q X₁ ∗ hasAny (peer x c) md R ∗ Ow c (Owe c (x :: l)))
      ⊢ iprop((iprop(SndW c x ∗ Ow c (Owe c l)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs ((ms.slice rs h₁).squeeze s' hs) (.remote (Dev.tc n : Thread nD τ) ((md.slice rd h₂).squeeze s' hd) sS hsc) .same sR hsrc hdst hsem) k) Q) := by
  subst hn hS hR
  unfold Env Ow Snd SndW hasAny
  iintro ⟨⟨#HI, #Hlev⟩, ⟨Ht₁, Ht₂, Hat⟩, Hs, ⟨%X, Hd⟩, ⟨%W, HO⟩⟩ Hk
  ihave #Hx₁ := (Invs_at m K (c, some (false, x))) $$ HI
  icases Hx₁ with ⟨#Hinv₁, #Hr₁⟩
  ihave #Hx₂ := (Invs_at m K (peer x c, some (true, x))) $$ HI
  icases Hx₂ with ⟨#Hinv₂, #Hr₂⟩
  ihave Hs := (Entails.of_eq (has_slice (c := c) (q := q) (m := ms) (X := X₁) hr₁ hs (hin := h₁))) $$ Hs
  ihave Hd := (Entails.of_eq (has_slice (c := peer x c) (q := fullShare) (m := md) (X := X) hr hd (hin := h₂))) $$ Hd
  iapply (Rounds.wp_send_pointsTo 𝒱₀ ER (Rd m) (c : Thread nD τ) none (κ₁ := K (c, some (false, x))) (κ₂ := K (peer x c, some (true, x)))
      (src := (ms.slice rs h₁).squeeze s' hs) (dst := (md.slice rd h₂).squeeze s' hd) (sS := .dma (semOf false x)) (sem := .dma (semOf true x)) (hsc := hsc)
      (hsrc := hsrc) (hdst := hdst) (hsem := hsem)
      (r₁ := 0) (r₂ := 0) (d₁ := 0) (d₂ := 0) (fd := md.view.rep X) (fs := ms.view.rep X₁) (q := q) (c' := (peer x c : Thread nD τ))
      (by rw [duties_x]; exact Finset.mem_singleton_self _) (by rw [duties_x]; exact Finset.mem_singleton_self _) () () NB hN rfl rfl
      (O₀ := Owe c (x :: l)) (Owe c l) rfl (W := W)
      (by
        rw [← has_slice hr₁ hs (hin := h₁)]
        exact Entails.of_eq (hp₁.symm.trans (payload_x m c false x 0 0).symm))
      (by
        refine (Entails.of_eq (has_written (c := peer x c) (q := fullShare) (c₁ := c) (c₂ := c) (ms := ms) (md := md) (h₁ := h₁) (h₂ := h₂) hr hs hd X₁ X Z hZ)).trans ?_
        exact Entails.of_eq (hp₂.symm.trans (payload_x m (peer x c) true x 0 0).symm))) $$ [Hs Hd HO Ht₁ Ht₂]
  · isplitr; · iexact Hinv₁
    isplitr; · iexact Hinv₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc Hat]
  · isplitl [Hc]; · iexact Hc
    iexact Hat
  iexists _; iexact HO

/-- A barrier signal to a neighbour, handing it what its copies will write here. -/
theorem step_signal {n : Dev nD} {sem : Sem sig} {k' : ℕ} {k : PUnit → Prog (TpuEff nD τ sig (Elt F) Λ₀ (c : Thread nD τ).2) α}
    (d : Fin 3) (hn : n = nbr d c) (hsem : sem = barS) (hk' : k' = 1) (O : CellTallies nD τ sig Unit) :
    iprop(Env m K ∗ dutyTok ER (barCell (nbr d c)) 0 d ∗ barPay (nbr d c) d ∗ Ow c (O + tallyAt (barCell (nbr d c)) () 1))
      ⊢ iprop((Ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) sem k') k) Q) := by
  subst hn hsem hk'
  unfold Env Ow
  iintro ⟨⟨#HI, #Hlev⟩, Ht, Hp, ⟨%W, HO⟩⟩ Hk
  ihave #Hx := (Invs_at m K (nbr d c, none)) $$ HI
  icases Hx with ⟨#Hinv, #Hr⟩
  iapply (Rounds.wp_signal 𝒱₀ ER (Rd m) (c : Thread nD τ) none (dst := (nbr d c : Thread nD τ)) (κ := K (nbr d c, none))
      (d := d) (by rw [duties_bar]; exact Finset.mem_univ _) rfl () O rfl) $$ [HO Ht Hp]
  · isplitr; · iexact Hinv
    isplitl [HO]; · iexact HO
    isplitl [Ht]; · iexact Ht
    isplitl [Hp]; · iapply (Entails.of_eq (show barPay (nbr d c) d = (Rd m).payload (barCell (nbr d c)) 0 d from rfl)); iexact Hp
    iexact Hr
  iintro HO
  iapply Hk
  iexists _; iexact HO

/-- The barrier wait: what the three neighbours handed over. -/
theorem step_waitBar {sem : Sem sig} {k' : ℕ} {k : PUnit → Prog (TpuEff nD τ sig (Elt F) Λ₀ (c : Thread nD τ).2) α} (hsem : sem = barS) (hk' : k' = 3) :
    iprop(Env m K ∗ BarW c ∗ Ow c (Owe c order))
      ⊢ iprop((iprop((barPay c 0 ∗ barPay c 1 ∗ barPay c 2) ∗ semVal (barCell c) 0 ∗ Ow c (Owe c order)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem k') k) Q) := by
  subst hsem hk'
  unfold Env Ow BarW
  iintro ⟨⟨#HI, #Hlev⟩, ⟨Hc, Hat⟩, ⟨%W, HO⟩⟩ Hk
  ihave #Hx := (Invs_at m K (c, none)) $$ HI
  icases Hx with ⟨#Hinv, -⟩
  iapply (Rounds.wp_wait_rest_token 𝒱₀ ER (Rd m) (c : Thread nD τ) none (κ := K (c, none))
      (wpE_semWait_eq 𝒱₀ (c : Thread nD τ) none Set.univ) (Set.mem_univ _) () (O := Owe c order) (W := W) (R := 0) (m := 0) (T := ∅)
      (by rw [Nat.zero_add]; exact (expect_bar m c).symm)) $$ [Hc HO Hat]
  · isplitr; · iexact Hinv
    isplitl [Hc]; · iexact Hc
    isplitl [HO]; · iexact HO
    isplitr; · iapply (mayWait_owe c (.reg barS) order (by decide)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact Hinv
    iexact Hat
  iapply Hk
  isplitl [Hp]; · iexact Hp
  isplitl [Hz]; · iexact Hz
  iexists _; iexact HO

end Cert.Attn
-- ==== Proof.Ops.lean ====
/-
The operations again, one row of a stack (or one head) at a time: loads and stores of a row or of half of one,
copies of a head into a row and of a row into a head, and the remote copies of a row.
-/
module

public import proofs.«01_k».proof.Proof.Steps

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the elements of a row and of a head are -/

/-- The indices of a tile of a row, named by an offset. -/
theorem unit_row {n h t w : ℕ} (off : Fin 3 → ℕ) (ho : off = ![h, t, 0])
    (inb : ∀ a, off a + ![1, w, 128] a ≤ (⟨3, ![n, 1024, 128]⟩ : Shape).size a)
    (u : Fin 1) (x : Fin w) (y : Fin 128) (hh : h < n) (hx : t + x.val < 1024) :
    (Rect.unit (s := ⟨3, ![n, 1024, 128]⟩) off ![1, w, 128] inb).emb (ix3 u x y) = ix3 ⟨h, hh⟩ ⟨t + x.val, hx⟩ y := by
  subst ho
  funext a
  apply Fin.ext
  match a with
  | ⟨0, _⟩ => show h + 1 * u.val = h; omega
  | ⟨1, _⟩ => show t + 1 * x.val = t + x.val; omega
  | ⟨2, _⟩ => show 0 + 1 * y.val = y.val; omega

/-- The indices of a whole row, named by an offset. -/
theorem at_row {n : ℕ} (h : Fin n) (off : Fin 3 → ℕ) (ho : off = ![h.val, 0, 0])
    (inb : ∀ a, off a + ![1, 1024, 128] a ≤ (⟨3, ![n, 1024, 128]⟩ : Shape).size a)
    (hs : (⟨3, ![1, 1024, 128]⟩ : Shape).Squeezes ⟨2, ![1024, 128]⟩) (y : (⟨2, ![1024, 128]⟩ : Shape).Idx) :
    at' (s := ⟨3, ![n, 1024, 128]⟩) (Rect.unit off ![1, 1024, 128] inb) hs y = ix3 h (y 0) (y 1) := by
  have e : Shape.reshapeEquiv hs.numel_eq y = ix3 (⟨0, Nat.one_pos⟩ : Fin 1) (y 0) (y 1) := by
    conv_lhs => rw [eq_ix2 y]
    exact reshapeEquiv_ix2_1ab _ _ _
  show (Rect.unit (s := ⟨3, ![n, 1024, 128]⟩) off ![1, 1024, 128] inb).emb _ = _
  refine (congrArg _ e).trans ((unit_row off ho inb _ _ _ h.isLt (by have : (y 0).val < 1024 := (y 0).isLt; omega)).trans ?_)
  funext a
  apply Fin.ext
  match a with
  | ⟨0, _⟩ => rfl
  | ⟨1, _⟩ => exact Nat.zero_add _
  | ⟨2, _⟩ => rfl

/-- The indices of a head's column of an argument, named by an offset. -/
theorem at_head (h : Fin 16) (off : Fin 4 → ℕ) (ho : off = ![0, 0, h.val, 0])
    (inb : ∀ a, off a + ![1, 1024, 1, 128] a ≤ (⟨4, ![1, 1024, 16, 128]⟩ : Shape).size a)
    (hs : (⟨4, ![1, 1024, 1, 128]⟩ : Shape).Squeezes ⟨2, ![1024, 128]⟩) (y : (⟨2, ![1024, 128]⟩ : Shape).Idx) :
    at' (s := ⟨4, ![1, 1024, 16, 128]⟩) (Rect.unit off ![1, 1024, 1, 128] inb) hs y = ix4 (0 : Fin 1) (y 0) h (y 1) := by
  subst ho
  have e : Shape.reshapeEquiv hs.numel_eq y = ix4 (⟨0, Nat.one_pos⟩ : Fin 1) (y 0) (⟨0, Nat.one_pos⟩ : Fin 1) (y 1) := by
    conv_lhs => rw [eq_ix2 y]
    exact reshape_head _ _ _
  show (Rect.unit (s := ⟨4, ![1, 1024, 16, 128]⟩) ![0, 0, h.val, 0] ![1, 1024, 1, 128] inb).emb _ = _
  refine (congrArg _ e).trans ?_
  funext a
  apply Fin.ext
  match a with
  | ⟨0, _⟩ => rfl
  | ⟨1, _⟩ => show 0 + 1 * (y 0).val = (y 0).val; omega
  | ⟨2, _⟩ => show h.val + 1 * 0 = h.val; omega
  | ⟨3, _⟩ => show 0 + 1 * (y 1).val = (y 1).val; omega

/-! ## Loads and stores of rows -/

variable {α : Type} {Q : α → sProp (MT nD τ sig Unit (Elt F) ℕ UU ℕ)} {c : Dev nD} {e : EltTy} {n : ℕ} {q : PosShare TreeShare}

/-- The elements of row `h` of a stack. -/
abbrev row (n : ℕ) (h : Fin n) : Finset (⟨3, ![n, 1024, 128]⟩ : Shape).Idx := rowSet n h.val

/-- Loading a row that is held. -/
theorem step_loadRow {M : Memref sig .tc .vmem ⟨3, ![n, 1024, 128]⟩ e} {off : Fin 3 → ℕ} {inb : ∀ a, off a + ![1, 1024, 128] a ≤ (⟨3, ![n, 1024, 128]⟩ : Shape).size a}
    {hl : M.view.LoadsAt (Rect.unit (s := ⟨3, ![n, 1024, 128]⟩) off ![1, 1024, 128] inb).toLoadRect}
    {k : Vec F S1x1024x128 e → Prog (TpuEff nD τ sig (Elt F) Λ₀ (c : Thread nD τ).2) α}
    (h : Fin n) (ho : off = ![h.val, 0, 0]) (X : (⟨3, ![n, 1024, 128]⟩ : Shape).Idx → Elt F e) :
    (has c M (row n h) q X : sProp 𝕄)
      ⊢ iprop((has c M (row n h) q X -∗ wp frame (wpE (defs₀ (F := F)) 𝒱₀ (c : Thread nD τ) none) Set.univ (k (rowOf X h)) Q)
        -∗ wp frame (wpE (defs₀ (F := F)) 𝒱₀ (c : Thread nD τ) none) Set.univ (.op (.load M (Rect.unit (s := ⟨3, ![n, 1024, 128]⟩) off ![1, 1024, 128] inb).toLoadRect hl) k) Q) := by
  have hv : (fun y => X ((Rect.unit (s := ⟨3, ![n, 1024, 128]⟩) off ![1, 1024, 128] inb).toLoadRect.idx y)) = rowOf X h := by
    funext y
    show X ((Rect.unit (s := ⟨3, ![n, 1024, 128]⟩) off ![1, 1024, 128] inb).emb y) = X _
    congr 1
    refine (congrArg _ (eq_ix3 y)).trans ((unit_row off ho inb _ _ _ h.isLt (by have : (y 1).val < 1024 := (y 1).isLt; omega)).trans ?_)
    funext a
    apply Fin.ext
    match a with
    | ⟨0, _⟩ => rfl
    | ⟨1, _⟩ => exact Nat.zero_add _
    | ⟨2, _⟩ => rfl
  rw [← hv]
  exact step_load (le_of_eq (rect_row off ho inb))

/-- Loading a tile of a row that is held. -/
theorem step_loadTile {M : Memref sig .tc .vmem ⟨3, ![n, 1024, 128]⟩ e} {off : Fin 3 → ℕ} {inb : ∀ a, off a + ![1, 512, 128] a ≤ (⟨3, ![n, 1024, 128]⟩ : Shape).size a}
    {hl : M.view.LoadsAt (Rect.unit (s := ⟨3, ![n, 1024, 128]⟩) off ![1, 512, 128] inb).toLoadRect}
    {k : Vec F S1x512x128 e → Prog (TpuEff nD τ sig (Elt F) Λ₀ (c : Thread nD τ).2) α}
    (h : Fin n) (t : Fin 2) (ho : off = ![h.val, 512 * t.val, 0]) (X : (⟨3, ![n, 1024, 128]⟩ : Shape).Idx → Elt F e) :
    (has c M (row n h) q X : sProp 𝕄)
      ⊢ iprop((has c M (row n h) q X -∗ wp frame (wpE (defs₀ (F := F)) 𝒱₀ (c : Thread nD τ) none) Set.univ (k (tileOf X h t)) Q)
        -∗ wp frame (wpE (defs₀ (F := F)) 𝒱₀ (c : Thread nD τ) none) Set.univ (.op (.load M (Rect.unit (s := ⟨3, ![n, 1024, 128]⟩) off ![1, 512, 128] inb).toLoadRect hl) k) Q) := by
  have hv : (fun y => X ((Rect.unit (s := ⟨3, ![n, 1024, 128]⟩) off ![1, 512, 128] inb).toLoadRect.idx y)) = tileOf X h t := by
    funext y
    show X ((Rect.unit (s := ⟨3, ![n, 1024, 128]⟩) off ![1, 512, 128] inb).emb y) = X _
    congr 1
    refine (congrArg _ (eq_ix3 y)).trans ((unit_row off ho inb _ _ _ h.isLt (by have h1 : (y 1).val < 512 := (y 1).isLt; have := t.isLt; omega)).trans ?_)
    rfl
  rw [← hv]
  exact step_load (rect_rows_subset off ho inb)

/-- A load whose value the program drops. -/
theorem step_loadAny {M : Memref sig .tc .vmem ⟨3, ![n, 1024, 128]⟩ e} {off : Fin 3 → ℕ}
    {inb : ∀ a, off a + ![1, 1024, 128] a ≤ (⟨3, ![n, 1024, 128]⟩ : Shape).size a}
    {hl : M.view.LoadsAt (Rect.unit (s := ⟨3, ![n, 1024, 128]⟩) off ![1, 1024, 128] inb).toLoadRect}
    {k : Prog (TpuEff nD τ sig (Elt F) Λ₀ (c : Thread nD τ).2) α}
    (h : Fin n) (ho : off = ![h.val, 0, 0]) :
    (hasAny c M (row n h) : sProp 𝕄)
      ⊢ iprop((hasAny c M (row n h) -∗ wp frame (wpE (defs₀ (F := F)) 𝒱₀ (c : Thread nD τ) none) Set.univ k Q)
        -∗ wp frame (wpE (defs₀ (F := F)) 𝒱₀ (c : Thread nD τ) none) Set.univ (.op (.load M (Rect.unit (s := ⟨3, ![n, 1024, 128]⟩) off ![1, 1024, 128] inb).toLoadRect hl) fun _ => k) Q) := by
  unfold hasAny
  iintro ⟨%X, H⟩ Hk
  iapply (step_loadRow h ho X) $$ H
  iintro H
  iapply Hk
  iexists X; iexact H

/-- A store of a whole row. -/
theorem step_storeRow {M : Memref sig .tc .vmem ⟨3, ![n, 1024, 128]⟩ e} {off : Fin 3 → ℕ} {inb : ∀ a, off a + ![1, 1024, 128] a ≤ (⟨3, ![n, 1024, 128]⟩ : Shape).size a}
    {w : Vec F S1x1024x128 e} {hx : (M.access (Rect.unit (s := ⟨3, ![n, 1024, 128]⟩) off ![1, 1024, 128] inb)).Stores Finset.univ}
    {hm : (Finset.univ : Finset (Rect.unit (s := ⟨3, ![n, 1024, 128]⟩) off ![1, 1024, 128] inb).shape.Idx) = Finset.univ ∨ ∀ a, (Rect.unit (s := ⟨3, ![n, 1024, 128]⟩) off ![1, 1024, 128] inb).stride a = 1}
    {k : PUnit → Prog (TpuEff nD τ sig (Elt F) Λ₀ (c : Thread nD τ).2) α}
    (h : Fin n) (ho : off = ![h.val, 0, 0]) (Z : (⟨3, ![n, 1024, 128]⟩ : Shape).Idx → Elt F e)
    (hZ : ∀ (x : Fin 1024) (y : Fin 128), Z (ix3 h x y) = w (ix3 (0 : Fin 1) x y)) :
    (hasAny c M (row n h) : sProp 𝕄)
      ⊢ iprop((has c M (row n h) fullShare Z -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := ⟨3, ![n, 1024, 128]⟩) off ![1, 1024, 128] inb) w Finset.univ hx hm) k) Q) := by
  have hset := rect_row off ho inb
  unfold hasAny
  iintro ⟨%X, H⟩ Hk
  iapply (step_store (r := Rect.unit (s := ⟨3, ![n, 1024, 128]⟩) off ![1, 1024, 128] inb) (le_of_eq hset) Z
    (fun y => by
      refine (congrArg Z ((congrArg _ (eq_ix3 y)).trans ((unit_row off ho inb _ _ _ h.isLt (by have : (y 1).val < 1024 := (y 1).isLt; omega)).trans ?_))).trans ((hZ (y 1) (y 2)).trans (congrArg w ?_))
      · funext a
        apply Fin.ext
        match a with
        | ⟨0, _⟩ => rfl
        | ⟨1, _⟩ => exact Nat.zero_add _
        | ⟨2, _⟩ => rfl
      · rw [eq_ix3 y]; congr 1; exact Subsingleton.elim _ _)
    (fun j hj hn => absurd (hset ▸ hj) hn)) $$ H
  iexact Hk

/-! ## Copies -/

/-- A head copied into a row. -/
theorem step_copyIn {Ms : Memref sig .tc .vmem ⟨4, ![1, 1024, 16, 128]⟩ .f32} {Md : Memref sig .tc .vmem ⟨3, ![n, 1024, 128]⟩ .f32}
    {os : Fin 4 → ℕ} {od : Fin 3 → ℕ} {ins : ∀ a, os a + ![1, 1024, 1, 128] a ≤ (⟨4, ![1, 1024, 16, 128]⟩ : Shape).size a}
    {ind : ∀ a, od a + ![1, 1024, 128] a ≤ (⟨3, ![n, 1024, 128]⟩ : Shape).size a}
    {h₁ : ∀ a, (Rect.unit (s := ⟨4, ![1, 1024, 16, 128]⟩) os ![1, 1024, 1, 128] ins).stride a = 1} {h₂ : ∀ a, (Rect.unit (s := ⟨3, ![n, 1024, 128]⟩) od ![1, 1024, 128] ind).stride a = 1}
    {hs : (⟨4, ![1, 1024, 1, 128]⟩ : Shape).Squeezes ⟨2, ![1024, 128]⟩} {hd : (⟨3, ![1, 1024, 128]⟩ : Shape).Squeezes ⟨2, ![1024, 128]⟩} {sm' : SemLoc sig}
    {hsrc : ((Ms.slice (Rect.unit (s := ⟨4, ![1, 1024, 16, 128]⟩) os ![1, 1024, 1, 128] ins) h₁).squeeze ⟨2, ![1024, 128]⟩ hs).view.WordExact}
    {hdst : ((Md.slice (Rect.unit (s := ⟨3, ![n, 1024, 128]⟩) od ![1, 1024, 128] ind) h₂).squeeze ⟨2, ![1024, 128]⟩ hd).view.WordExact}
    {hsem : DmaTarget.Typed (nD := nD) .vmem sm' (DmaTarget.here (p := (c : Thread nD τ).2) ((Md.slice (Rect.unit (s := ⟨3, ![n, 1024, 128]⟩) od ![1, 1024, 128] ind) h₂).squeeze ⟨2, ![1024, 128]⟩ hd))}
    {k : PUnit → Prog (TpuEff nD τ sig (Elt F) Λ₀ (c : Thread nD τ).2) α}
    (s : DmaSem sig) (hsm : sm' = .dma s) (h : Fin 16) (i : Fin n) (ho₁ : os = ![0, 0, h.val, 0]) (ho₂ : od = ![i.val, 0, 0])
    (hN : Md.view.ref.dmaCredit S1024x128 .f32 = NF) (X : (⟨4, ![1, 1024, 16, 128]⟩ : Shape).Idx → Elt F .f32) (Z : (⟨3, ![n, 1024, 128]⟩ : Shape).Idx → Elt F .f32)
    (hZ : ∀ x y, Z (ix3 i x y) = X (ix4 (0 : Fin 1) x h y)) :
    iprop(has c Ms (headSet h.val) q X ∗ hasAny c Md (row n i) ∗ zero c s)
      ⊢ iprop((Transfers.Flight EC (c : Thread nD τ) (.dma s) () NF iprop(has c Md (row n i) fullShare Z ∗ has c Ms (headSet h.val) q X)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs ((Ms.slice (Rect.unit (s := ⟨4, ![1, 1024, 16, 128]⟩) os ![1, 1024, 1, 128] ins) h₁).squeeze ⟨2, ![1024, 128]⟩ hs)
              (.here ((Md.slice (Rect.unit (s := ⟨3, ![n, 1024, 128]⟩) od ![1, 1024, 128] ind) h₂).squeeze ⟨2, ![1024, 128]⟩ hd)) .same sm' hsrc hdst hsem) k) Q) := by
  unfold hasAny
  iintro ⟨Hs, ⟨%Y, Hd⟩, Hz⟩ Hk
  iapply (step_copy (c := c) (m := Md) (ms := Ms) (hs := hs) (hd := hd) (X := Y) (X₁ := X) (q := q) hsm (rect_head os ho₁ ins) (rect_row od ho₂ ind) NF hN NF_pos Z
    (fun y => by rw [at_row i od ho₂ ind hd y, at_head h os ho₁ ins hs y]; exact hZ _ _)) $$ [Hs Hd Hz]
  · isplitl [Hs]; · iexact Hs
    isplitl [Hd]; · iexact Hd
    iexact Hz
  iexact Hk

/-- A row copied into a head. -/
theorem step_copyOut {Ms : Memref sig .tc .vmem ⟨3, ![n, 1024, 128]⟩ .f32} {Md : Memref sig .tc .vmem ⟨4, ![1, 1024, 16, 128]⟩ .f32}
    {os : Fin 3 → ℕ} {od : Fin 4 → ℕ} {ins : ∀ a, os a + ![1, 1024, 128] a ≤ (⟨3, ![n, 1024, 128]⟩ : Shape).size a}
    {ind : ∀ a, od a + ![1, 1024, 1, 128] a ≤ (⟨4, ![1, 1024, 16, 128]⟩ : Shape).size a}
    {h₁ : ∀ a, (Rect.unit (s := ⟨3, ![n, 1024, 128]⟩) os ![1, 1024, 128] ins).stride a = 1} {h₂ : ∀ a, (Rect.unit (s := ⟨4, ![1, 1024, 16, 128]⟩) od ![1, 1024, 1, 128] ind).stride a = 1}
    {hs : (⟨3, ![1, 1024, 128]⟩ : Shape).Squeezes ⟨2, ![1024, 128]⟩} {hd : (⟨4, ![1, 1024, 1, 128]⟩ : Shape).Squeezes ⟨2, ![1024, 128]⟩} {sm' : SemLoc sig}
    {hsrc : ((Ms.slice (Rect.unit (s := ⟨3, ![n, 1024, 128]⟩) os ![1, 1024, 128] ins) h₁).squeeze ⟨2, ![1024, 128]⟩ hs).view.WordExact}
    {hdst : ((Md.slice (Rect.unit (s := ⟨4, ![1, 1024, 16, 128]⟩) od ![1, 1024, 1, 128] ind) h₂).squeeze ⟨2, ![1024, 128]⟩ hd).view.WordExact}
    {hsem : DmaTarget.Typed (nD := nD) .vmem sm' (DmaTarget.here (p := (c : Thread nD τ).2) ((Md.slice (Rect.unit (s := ⟨4, ![1, 1024, 16, 128]⟩) od ![1, 1024, 1, 128] ind) h₂).squeeze ⟨2, ![1024, 128]⟩ hd))}
    {k : PUnit → Prog (TpuEff nD τ sig (Elt F) Λ₀ (c : Thread nD τ).2) α}
    (s : DmaSem sig) (hsm : sm' = .dma s) (i : Fin n) (h : Fin 16) (ho₁ : os = ![i.val, 0, 0]) (ho₂ : od = ![0, 0, h.val, 0])
    (hN : Md.view.ref.dmaCredit S1024x128 .f32 = NF) (X : (⟨3, ![n, 1024, 128]⟩ : Shape).Idx → Elt F .f32) (Z : (⟨4, ![1, 1024, 16, 128]⟩ : Shape).Idx → Elt F .f32)
    (hZ : ∀ x y, Z (ix4 (0 : Fin 1) x h y) = X (ix3 i x y)) :
    iprop(has c Ms (row n i) q X ∗ hasAny c Md (headSet h.val) ∗ zero c s)
      ⊢ iprop((Transfers.Flight EC (c : Thread nD τ) (.dma s) () NF iprop(has c Md (headSet h.val) fullShare Z ∗ has c Ms (row n i) q X)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs ((Ms.slice (Rect.unit (s := ⟨3, ![n, 1024, 128]⟩) os ![1, 1024, 128] ins) h₁).squeeze ⟨2, ![1024, 128]⟩ hs)
              (.here ((Md.slice (Rect.unit (s := ⟨4, ![1, 1024, 16, 128]⟩) od ![1, 1024, 1, 128] ind) h₂).squeeze ⟨2, ![1024, 128]⟩ hd)) .same sm' hsrc hdst hsem) k) Q) := by
  unfold hasAny
  iintro ⟨Hs, ⟨%Y, Hd⟩, Hz⟩ Hk
  iapply (step_copy (c := c) (m := Md) (ms := Ms) (hs := hs) (hd := hd) (X := Y) (X₁ := X) (q := q) hsm (rect_row os ho₁ ins) (rect_head od ho₂ ind) NF hN NF_pos Z
    (fun y => by rw [at_row i os ho₁ ins hs y, at_head h od ho₂ ind hd y]; exact hZ _ _)) $$ [Hs Hd Hz]
  · isplitl [Hs]; · iexact Hs
    isplitl [Hd]; · iexact Hd
    iexact Hz
  iexact Hk

/-- A row copied onto the same row of a stack at the peer. -/
theorem step_sendRow (K : Dev nD × CellIx → ℕ) {Ms Md : Memref sig .tc .vmem ⟨3, ![n, 1024, 128]⟩ e}
    {os od : Fin 3 → ℕ} {ins : ∀ a, os a + ![1, 1024, 128] a ≤ (⟨3, ![n, 1024, 128]⟩ : Shape).size a}
    {ind : ∀ a, od a + ![1, 1024, 128] a ≤ (⟨3, ![n, 1024, 128]⟩ : Shape).size a}
    {h₁ : ∀ a, (Rect.unit (s := ⟨3, ![n, 1024, 128]⟩) os ![1, 1024, 128] ins).stride a = 1} {h₂ : ∀ a, (Rect.unit (s := ⟨3, ![n, 1024, 128]⟩) od ![1, 1024, 128] ind).stride a = 1}
    {hs hd : (⟨3, ![1, 1024, 128]⟩ : Shape).Squeezes ⟨2, ![1024, 128]⟩} {sS sR : SemLoc sig} {n' : Dev nD}
    {hsrc : ((Ms.slice (Rect.unit (s := ⟨3, ![n, 1024, 128]⟩) os ![1, 1024, 128] ins) h₁).squeeze ⟨2, ![1024, 128]⟩ hs).view.WordExact}
    {hdst : ((Md.slice (Rect.unit (s := ⟨3, ![n, 1024, 128]⟩) od ![1, 1024, 128] ind) h₂).squeeze ⟨2, ![1024, 128]⟩ hd).view.WordExact}
    {hsc : ((Md.slice (Rect.unit (s := ⟨3, ![n, 1024, 128]⟩) od ![1, 1024, 128] ind) h₂).squeeze ⟨2, ![1024, 128]⟩ hd).view.ref.isScScratch = false}
    {hsem : DmaTarget.Typed .vmem sR (DmaTarget.remote (p := (c : Thread nD τ).2) (Dev.tc n' : Thread nD τ) ((Md.slice (Rect.unit (s := ⟨3, ![n, 1024, 128]⟩) od ![1, 1024, 128] ind) h₂).squeeze ⟨2, ![1024, 128]⟩ hd) sS hsc)}
    {k : PUnit → Prog (TpuEff nD τ sig (Elt F) Λ₀ (c : Thread nD τ).2) α}
    (x : Xf) (l : List Xf) (i : Fin n) (hn : n' = peer x c) (hS : sS = .dma (semOf false x)) (hR : sR = .dma (semOf true x))
    (ho₁ : os = ![i.val, 0, 0]) (ho₂ : od = ![i.val, 0, 0])
    (hN : Md.view.ref.dmaCredit S1024x128 e = NB) (X : (⟨3, ![n, 1024, 128]⟩ : Shape).Idx → Elt F e)
    (hp₁ : sendPay m c x = has c Ms (row n i) q X) (hp₂ : recvPay m (peer x c) x = has (peer x c) Md (row n i) fullShare X) :
    iprop(Env m K ∗ Snd c x ∗ has c Ms (row n i) q X ∗ hasAny (peer x c) Md (row n i) ∗ Ow c (Owe c (x :: l)))
      ⊢ iprop((iprop(SndW c x ∗ Ow c (Owe c l)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs ((Ms.slice (Rect.unit (s := ⟨3, ![n, 1024, 128]⟩) os ![1, 1024, 128] ins) h₁).squeeze ⟨2, ![1024, 128]⟩ hs)
              (.remote (Dev.tc n' : Thread nD τ) ((Md.slice (Rect.unit (s := ⟨3, ![n, 1024, 128]⟩) od ![1, 1024, 128] ind) h₂).squeeze ⟨2, ![1024, 128]⟩ hd) sS hsc) .same sR hsrc hdst hsem) k) Q) :=
  step_send m K (hs := hs) (hd := hd) x hn hS hR (rect_row os ho₁ ins) (rect_row od ho₂ ind) hN l X
    (fun y => by rw [at_row i os ho₁ ins hs y, at_row i od ho₂ ind hd y]) hp₁ hp₂

end Cert.Attn
-- ==== Proof.Atoms.lean ====
/-
The pieces of memory that the kernel's parts take and give back, the closed forms of its offsets, devices and
semaphores in terms of them, and the rules of the operations with one hypothesis after another.
-/
module

public import proofs.«01_k».proof.Proof.Ops

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Offsets, devices, semaphores -/

section Offsets
variable (c : Dev nD) (i : Fin 4)

/-- Offset 1 of the kernel names head `i` of its own group. -/
theorem at1 : k0_off1 c (BitVec.ofNat 32 i.val) = ![0, 0, (head c 0 i).val, 0] := by rw [k0_off1_eq, head0]
/-- Offset 4 of the kernel names head `i` of its own group. -/
theorem at4 : k0_off4 c (BitVec.ofNat 32 i.val) = ![(head c 0 i).val, 0, 0] := by rw [k0_off4_eq, head0]
/-- Offset 5 of the kernel names head `i` of its own group. -/
theorem at5 : k0_off5 c (BitVec.ofNat 32 i.val) = ![(head c 0 i).val] := by rw [k0_off5_eq, head0]
/-- Offset 6 of the kernel names head `i` of its own group. -/
theorem at6 : k0_off6 c (BitVec.ofNat 32 i.val) = ![(head c 0 i).val, 0, 0] := by rw [k0_off6_eq, head0]
/-- Offset 13 of the kernel names head `i` of the group across `y`. -/
theorem at13 : k0_off13 c (BitVec.ofNat 32 i.val) = ![(head c 2 i).val, 0, 0] := by rw [k0_off13_eq, head2]
/-- Offset 14 of the kernel names head `i` of the group across `y`. -/
theorem at14 : k0_off14 c (BitVec.ofNat 32 i.val) = ![(head c 2 i).val, 0, 0] := by rw [k0_off14_eq, head2]
/-- Offset 15 of the kernel names head `i` of the group across `y`. -/
theorem at15 : k0_off15 c (BitVec.ofNat 32 i.val) = ![(head c 2 i).val] := by rw [k0_off15_eq, head2]
/-- Offset 16 of the kernel names head `i` of the group across `y`. -/
theorem at16 : k0_off16 c (BitVec.ofNat 32 i.val) = ![0, 0, (head c 2 i).val, 0] := by rw [k0_off16_eq, head2]
/-- Offset 17 of the kernel names head `i` of the group across `z`. -/
theorem at17 : k0_off17 c (BitVec.ofNat 32 i.val) = ![(head c 1 i).val, 0, 0] := by rw [k0_off17_eq, head1]
/-- Offset 18 of the kernel names head `i` of the group across `z`. -/
theorem at18 : k0_off18 c (BitVec.ofNat 32 i.val) = ![(head c 1 i).val, 0, 0] := by rw [k0_off18_eq, head1]
/-- Offset 19 of the kernel names head `i` of the group across `z`. -/
theorem at19 : k0_off19 c (BitVec.ofNat 32 i.val) = ![(head c 1 i).val] := by rw [k0_off19_eq, head1]
/-- Offset 20 of the kernel names head `i` of the group across `z`. -/
theorem at20 : k0_off20 c (BitVec.ofNat 32 i.val) = ![0, 0, (head c 1 i).val, 0] := by rw [k0_off20_eq, head1]
/-- Offset 21 of the kernel names head `i` of the group across both. -/
theorem at21 : k0_off21 c (BitVec.ofNat 32 i.val) = ![(head c 3 i).val, 0, 0] := by rw [k0_off21_eq, head3]
/-- Offset 22 of the kernel names head `i` of the group across both. -/
theorem at22 : k0_off22 c (BitVec.ofNat 32 i.val) = ![(head c 3 i).val, 0, 0] := by rw [k0_off22_eq, head3]
/-- Offset 23 of the kernel names head `i` of the group across both. -/
theorem at23 : k0_off23 c (BitVec.ofNat 32 i.val) = ![(head c 3 i).val] := by rw [k0_off23_eq, head3]
/-- Offset 24 of the kernel names head `i` of the group across both. -/
theorem at24 : k0_off24 c (BitVec.ofNat 32 i.val) = ![0, 0, (head c 3 i).val, 0] := by rw [k0_off24_eq, head3]
end Offsets

/-- The semaphore of the copy that fetches row `i` of the keys (`r = 0`), the values (1) or the queries (2). -/
def gatS (r : Fin 3) (i : Fin 4) : DmaSem sig := (⟨4 + 4 * r.val + i.val, by have := r.isLt; have := i.isLt; omega⟩ : Fin 72)
/-- The semaphore of the copy that writes head `h` of the output. -/
def stS (h : Fin 16) : DmaSem sig := (⟨16 + h.val, by have := h.isLt; omega⟩ : Fin 72)

/-- An element of the semaphore array of the copies out, named by its offset, is the head's own semaphore. -/
theorem stS_eq (h : Fin 16) (off : Fin 1 → ℕ) (ho : off = ![h.val]) (inb : ∀ a, off a + S1.size a ≤ S16.size a) :
    ((cc0_scratch10.slice (Rect.unit (s := S16) off S1.size inb)).squeeze S_ squeezes_S1_S_).sem = stS h := by
  subst ho
  revert h
  decide
/-- The semaphores of the copies in are at the lowest level. -/
theorem gatS_low : ∀ (r : Fin 3) (i : Fin 4), lvS (.dma (gatS r i) : SemLoc sig) = 0 := by decide
/-- The semaphores of the copies out are at the lowest level. -/
theorem stS_low : ∀ h : Fin 16, lvS (.dma (stS h) : SemLoc sig) = 0 := by decide

/-! ## Pieces of memory -/

section Pieces
variable (c : Dev nD)

/-- A head of the staged queries, keys and values of the device's own group. -/
abbrev qH (i : Fin 4) : sProp 𝕄 := has c qM (headSet (head c 0 i).val) fullShare (Qin m c)
abbrev kH (i : Fin 4) : sProp 𝕄 := has c kM (headSet (head c 0 i).val) fullShare (Kin m c)
abbrev vH (i : Fin 4) : sProp 𝕄 := has c vM (headSet (head c 0 i).val) fullShare (Vin m c)
/-- The same heads in the stacks. -/
abbrev qR (i : Fin 4) : sProp 𝕄 := has c qsM (row 4 i) fullShare (QS m c)
abbrev kR (i : Fin 4) : sProp 𝕄 := has c ksM (row 4 i) fullShare (KS m c)
abbrev vR (i : Fin 4) : sProp 𝕄 := has c vsM (row 4 i) fullShare (VS m c)
/-- Their rounded forms, at a share. -/
abbrev kB (q : PosShare TreeShare) (i : Fin 4) : sProp 𝕄 := has c ksbM (row 4 i) q (KSB m c)
abbrev vB (q : PosShare TreeShare) (i : Fin 4) : sProp 𝕄 := has c vsbM (row 4 i) q (VSB m c)
/-- The partner's, received. -/
abbrev kP (i : Fin 4) : sProp 𝕄 := has c krM (row 4 i) fullShare (KSB m (pN c))
abbrev vP (i : Fin 4) : sProp 𝕄 := has c vrM (row 4 i) fullShare (VSB m (pN c))
/-- Row `h` of the gathered outputs, rounded and widened, and head `h` of the result. -/
abbrev gR (q : PosShare TreeShare) (h : Fin 16) : sProp 𝕄 := has c ogM (row 16 h) q (OG m c)
abbrev wR (h : Fin 16) : sProp 𝕄 := has c og32M (row 16 h) fullShare (OG32 m c)
abbrev oH (h : Fin 16) : sProp 𝕄 := has c oM (headSet h.val) fullShare (OUT m c)
/-- A copy under way from a head to its row, -/
abbrev qF (i : Fin 4) : sProp 𝕄 := Transfers.Flight EC (c : Thread nD τ) (.dma (gatS 2 i)) () NF iprop(qR m c i ∗ qH m c i)
abbrev kF (i : Fin 4) : sProp 𝕄 := Transfers.Flight EC (c : Thread nD τ) (.dma (gatS 0 i)) () NF iprop(kR m c i ∗ kH m c i)
abbrev vF (i : Fin 4) : sProp 𝕄 := Transfers.Flight EC (c : Thread nD τ) (.dma (gatS 1 i)) () NF iprop(vR m c i ∗ vH m c i)
/-- and from a row to its head of the result. -/
abbrev oF (h : Fin 16) : sProp 𝕄 := Transfers.Flight EC (c : Thread nD τ) (.dma (stS h)) () NF iprop(oH m c h ∗ wR m c h)
end Pieces

/-! ## What the copies hand over, by kind -/

section Pays
variable (c : Dev nD)
/-- What the `x` neighbour receives of a key row. -/
theorem recv_k (i : Fin 4) : recvPay m (peer (.k i) c) (.k i) = has (peer (.k i) c) krM (row 4 i) fullShare (KSB m c) := by
  show has _ krM _ fullShare (KSB m (peer (.k i) (peer (.k i) c))) = _; rw [peer_peer]
/-- What the `x` neighbour receives of a value row. -/
theorem recv_v (i : Fin 4) : recvPay m (peer (.v i) c) (.v i) = has (peer (.v i) c) vrM (row 4 i) fullShare (VSB m c) := by
  show has _ vrM _ fullShare (VSB m (peer (.v i) (peer (.v i) c))) = _; rw [peer_peer]
/-- What the `y` neighbour receives of an own head. -/
theorem recv_y (i : Fin 4) : recvPay m (peer (.y i) c) (.y i) = has (peer (.y i) c) ogM (row 16 (head c 0 i)) fullShare (OG m c) := by
  show has (yN c) ogM (rowSet 16 (dstRow (peer (.y i) c) (.y i)).val) fullShare (OG m (yN c)) = _; rw [dstRow_peer, OG_yN]; rfl
/-- What the `z` neighbour receives of an own head. -/
theorem recv_z (i : Fin 4) : recvPay m (peer (.z i) c) (.z i) = has (peer (.z i) c) ogM (row 16 (head c 0 i)) fullShare (OG m c) := by
  show has (zN c) ogM (rowSet 16 (dstRow (peer (.z i) c) (.z i)).val) fullShare (OG m (zN c)) = _; rw [dstRow_peer, OG_zN]; rfl
/-- What the `z` neighbour receives of a forwarded head. -/
theorem recv_zf (i : Fin 2) : recvPay m (peer (.zf i) c) (.zf i) = has (peer (.zf i) c) ogM (row 16 (srcRow c (.zf i))) fullShare (OG m c) := by
  show has (zN c) ogM (rowSet 16 (dstRow (peer (.zf i) c) (.zf i)).val) fullShare (OG m (zN c)) = _; rw [dstRow_peer, OG_zN]; rfl
/-- What the `y` neighbour receives of a forwarded head. -/
theorem recv_yf (i : Fin 2) : recvPay m (peer (.yf i) c) (.yf i) = has (peer (.yf i) c) ogM (row 16 (srcRow c (.yf i))) fullShare (OG m c) := by
  show has (yN c) ogM (rowSet 16 (dstRow (peer (.yf i) c) (.yf i)).val) fullShare (OG m (yN c)) = _; rw [dstRow_peer, OG_yN]; rfl
end Pays

/-! ## One hypothesis after another -/

/-- Two hypotheses taken one at a time. -/
theorem curry2 {A B C : sProp 𝕄} (h : iprop(A ∗ B) ⊢ C) : A ⊢ iprop(B -∗ C) := BI.wand_intro h
/-- Three hypotheses taken one at a time. -/
theorem curry3 {A B C D : sProp 𝕄} (h : iprop(A ∗ B ∗ C) ⊢ D) : A ⊢ iprop(B -∗ C -∗ D) := by
  iintro HA HB HC; iapply h
  isplitl [HA]; · iexact HA
  isplitl [HB]; · iexact HB
  iexact HC
/-- Four hypotheses taken one at a time. -/
theorem curry4 {A B C D E : sProp 𝕄} (h : iprop(A ∗ B ∗ C ∗ D) ⊢ E) : A ⊢ iprop(B -∗ C -∗ D -∗ E) := by
  iintro HA HB HC HD; iapply h
  isplitl [HA]; · iexact HA
  isplitl [HB]; · iexact HB
  isplitl [HC]; · iexact HC
  iexact HD
/-- Five hypotheses taken one at a time. -/
theorem curry5 {A B C D E G : sProp 𝕄} (h : iprop(A ∗ B ∗ C ∗ D ∗ E) ⊢ G) : A ⊢ iprop(B -∗ C -∗ D -∗ E -∗ G) := by
  iintro HA HB HC HD HE; iapply h
  isplitl [HA]; · iexact HA
  isplitl [HB]; · iexact HB
  isplitl [HC]; · iexact HC
  isplitl [HD]; · iexact HD
  iexact HE

/-- A program of a device's body, run at device `c`. -/
abbrev WP {α : Type} (c : Dev nD) (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

/-- A program that has returned. -/
theorem wp_done {α : Type} {c : Dev nD} {a : α} {Q : α → sProp (MT nD τ sig Unit (Elt F) ℕ UU ℕ)} : Q a ⊢ WP c (Prog.ret a) Q := by
  unfold WP
  iintro H
  rw [wp_ret]; imodintro
  iexact H

/-! ## Waits -/

/-- The credit of a row copied into the gathered keys. -/
theorem NF_ks : (cc0_scratch1 : Ref sig .tc).dmaCredit S1024x128 .f32 = NF := rfl
/-- The credit of a row copied into the gathered values. -/
theorem NF_vs : (cc0_scratch2 : Ref sig .tc).dmaCredit S1024x128 .f32 = NF := rfl
/-- The credit of a row of the narrowed keys. -/
theorem NB_kb : (cc0_scratch3 : Ref sig .tc).dmaCredit S1024x128 .bf16 = NB := rfl
/-- The credit of a row of the narrowed values. -/
theorem NB_vb : (cc0_scratch4 : Ref sig .tc).dmaCredit S1024x128 .bf16 = NB := rfl
/-- The credit of a row of the gathered outputs. -/
theorem NB_og : (cc0_scratch5 : Ref sig .tc).dmaCredit S1024x128 .bf16 = NB := rfl

section Waits
variable {α : Type} {Q : α → sProp (MT nD τ sig Unit (Elt F) ℕ UU ℕ)} (K : Dev nD × CellIx → ℕ) (c : Dev nD)
  {sem sem' : DmaSem sig} {b : Ref sig .tc} {s : Shape} {e : EltTy} {hk : (c : Thread nD τ).2 = .tc ∨ b.HasMemref s e}
  {k : PUnit → Prog (TpuEff nD τ sig (Elt F) Λ₀ (c : Thread nD τ).2) α}

/-- The wait for the landing of a copy. -/
theorem op_recv (x : Xf) {P : sProp 𝕄} (hP : recvPay m c x = P) (hN : b.dmaCredit s e = NB) (hsem : sem = semOf true x) (l : List Xf)
    (hl : ∀ y ∈ l, lvS (.dma (semOf true x) : SemLoc sig) < lvX y) :
    Env m K ⊢ iprop(RcvW c x -∗ Ow c (Owe c l) -∗ (P -∗ zero c (semOf true x) -∗ Ow c (Owe c l) -∗ WP c (k ⟨⟩) Q)
      -∗ WP c (.op (.waitDma sem b s e hk) k) Q) := by
  iintro #HE H HO Hk
  iapply (curry3 (step_waitX m K true x hsem hN l hl)) $$ HE [H] HO
  · unfold RcvW; iexact H
  iintro ⟨HP, Hz, HO⟩
  iapply Hk $$ [HP] Hz HO
  iapply (Entails.of_eq (show xPay m c (true, x) = P from hP))
  iexact HP

/-- The wait for a copy's source to be free. -/
theorem op_sent (x : Xf) {P : sProp 𝕄} (hP : sendPay m c x = P) (hN : b.dmaCredit s e = NB) (hsem : sem = semOf false x) (l : List Xf)
    (hl : ∀ y ∈ l, lvS (.dma (semOf false x) : SemLoc sig) < lvX y) :
    Env m K ⊢ iprop(SndW c x -∗ Ow c (Owe c l) -∗ (P -∗ zero c (semOf false x) -∗ Ow c (Owe c l) -∗ WP c (k ⟨⟩) Q)
      -∗ WP c (.op (.waitDma sem b s e hk) k) Q) := by
  iintro #HE H HO Hk
  iapply (curry3 (step_waitX m K false x hsem hN l hl)) $$ HE [H] HO
  · unfold SndW; iexact H
  iintro ⟨HP, Hz, HO⟩
  iapply Hk $$ [HP] Hz HO
  iapply (Entails.of_eq (show xPay m c (false, x) = P from hP))
  iexact HP

/-- The wait for a local copy. -/
theorem op_local {D₁ D₂ : sProp 𝕄} (hN : b.dmaCredit s e = NF) (hsem : sem = sem') (hlv : lvS (.dma sem' : SemLoc sig) = 0) (l : List Xf) :
    Env m K ⊢ iprop(Transfers.Flight EC (c : Thread nD τ) (.dma sem') () NF iprop(D₁ ∗ D₂) -∗ Ow c (Owe c l)
      -∗ (D₁ -∗ D₂ -∗ zero c sem' -∗ Ow c (Owe c l) -∗ WP c (k ⟨⟩) Q)
      -∗ WP c (.op (.waitDma sem b s e hk) k) Q) := by
  iintro #HE H HO Hk
  iapply (curry3 (step_waitL m K hsem hN l hlv)) $$ HE H HO
  iintro ⟨⟨H₁, H₂⟩, Hz, HO⟩
  iapply Hk $$ H₁ H₂ Hz HO
end Waits

end Cert.Attn
-- ==== Proof.Loop.lean ====
/-
The attention loop of one head: two trips, each of which computes 512 rows of the head's output from the queries,
the device's own keys and values and its partner's.
-/
module

public import proofs.«01_k».proof.Proof.Atoms

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-! ## The output of a device's own heads -/

/-- A device works on its own heads itself. -/
theorem devH_own : ∀ (c : Dev nD) (i : Fin 4), devH c (head c 0 i) = c := by decide
/-- The row of its own head `i` is `i`. -/
theorem rowH_own : ∀ (c : Dev nD) (i : Fin 4), rowH (head c 0 i) = i := by decide

/-- Rows `512 t` and on of a device's own head are tile `t` of its attention output. -/
theorem OG_tile (i : Fin 4) (t : Fin 2) (x : Fin 512) (y : Fin 128) (hx : 512 * t.val + x.val < 1024) :
    OG m c (ix3 (head c 0 i) (⟨512 * t.val + x.val, hx⟩ : Fin 1024) y) = ATT m c i t (ix3 (0 : Fin 1) x y) := by
  have e₁ : (⟨(512 * t.val + x.val) / 512, by omega⟩ : Fin 2) = t := by apply Fin.ext; show (512 * t.val + x.val) / 512 = t.val; have := x.isLt; omega
  have e₂ : (⟨(512 * t.val + x.val) % 512, Nat.mod_lt _ (by decide)⟩ : Fin 512) = x := by apply Fin.ext; show (512 * t.val + x.val) % 512 = x.val; have := x.isLt; omega
  show ATT m (devH c (head c 0 i)) (rowH (head c 0 i)) ⟨(512 * t.val + x.val) / 512, _⟩ (ix3 (0 : Fin 1) (⟨(512 * t.val + x.val) % 512, _⟩ : Fin 512) y) = _
  rw [devH_own, rowH_own, e₁, e₂]

/-- Row `h` of the gathered outputs with its first `512 n` rows computed. -/
def upto (h : Fin 16) (n : ℕ) : sProp 𝕄 :=
  iprop(∃ X, ⌜∀ j : S16x1024x128.Idx, (j 1).val < 512 * n → j ∈ row 16 h → X j = OG m c j⌝ ∗ has c ogM (row 16 h) fullShare X)

/-- Before the first tile nothing is asked of the row. -/
theorem upto_zero (h : Fin 16) : hasAny c ogM (row 16 h) ⊢ upto m c h 0 := by
  unfold hasAny upto
  iintro ⟨%X, H⟩
  iexists X
  isplitr
  · ipureintro; intro j hj _; exact absurd hj (Nat.not_lt_zero _)
  · iexact H

/-- After both tiles the row is the attention output. -/
theorem upto_two (h : Fin 16) : upto m c h 2 ⊢ gR m c fullShare h := by
  unfold upto
  iintro ⟨%X, %hX, H⟩
  iapply (Entails.of_eq (has_congr (m := ogM) (R := row 16 h) (X := X) (Y := OG m c) (fun j hj => hX j (show (j 1).val < 1024 from (j 1).isLt) hj)))
  iexact H

/-! ## One trip -/

/-- The loop's memory before trip `n`. -/
def Inv (i : Fin 4) (n : ℕ) (_ : Unit) : sProp 𝕄 :=
  iprop(qR m c i ∗ kB m c fullShare.right i ∗ kP m c i ∗ vB m c fullShare.right i ∗ vP m c i ∗ upto m c (head c 0 i) n)

/-- A store of one tile of a row whose earlier tiles are computed. -/
theorem step_storeTile {α : Type} {Q : α → sProp (MT nD τ sig Unit (Elt F) ℕ UU ℕ)} {off : Fin 3 → ℕ} {inb : ∀ a, off a + ![1, 512, 128] a ≤ (⟨3, ![16, 1024, 128]⟩ : Shape).size a}
    {w : Vec F S1x512x128 .bf16} {hx : (ogM.access (Rect.unit (s := ⟨3, ![16, 1024, 128]⟩) off ![1, 512, 128] inb)).Stores Finset.univ}
    {hm : (Finset.univ : Finset (Rect.unit (s := ⟨3, ![16, 1024, 128]⟩) off ![1, 512, 128] inb).shape.Idx) = Finset.univ ∨ ∀ a, (Rect.unit (s := ⟨3, ![16, 1024, 128]⟩) off ![1, 512, 128] inb).stride a = 1}
    {k : PUnit → Prog (TpuEff nD τ sig (Elt F) Λ₀ (c : Thread nD τ).2) α}
    (i : Fin 4) (t : Fin 2) (ho : off = ![(head c 0 i).val, 512 * t.val, 0]) (hw : w = ATT m c i t) :
    upto m c (head c 0 i) t.val
      ⊢ iprop((upto m c (head c 0 i) (t.val + 1) -∗ WP c (k ⟨⟩) Q)
        -∗ WP c (.op (.store ogM (Rect.unit (s := ⟨3, ![16, 1024, 128]⟩) off ![1, 512, 128] inb) w Finset.univ hx hm) k) Q) := by
  have ht := t.isLt
  unfold upto
  iintro ⟨%X, %hX, H⟩ Hk
  iapply (step_store (r := Rect.unit (s := ⟨3, ![16, 1024, 128]⟩) off ![1, 512, 128] inb) (rect_rows_subset off ho inb)
    (fun j => if 512 * t.val ≤ (j 1).val ∧ (j 1).val < 512 * t.val + 512 then OG m c j else X j)
    (fun y => by
      have hy : (y 1).val < 512 := (y 1).isLt
      have e := (congrArg (Rect.unit (s := ⟨3, ![16, 1024, 128]⟩) off ![1, 512, 128] inb).emb (eq_ix3 y)).trans (unit_row off ho inb (y 0) (y 1) (y 2) (head c 0 i).isLt (by omega))
      rw [e, if_pos ⟨Nat.le_add_right _ _, by show 512 * t.val + (y 1).val < _; omega⟩]
      refine (OG_tile m c i t (y 1) (y 2) _).trans ?_
      rw [hw]
      refine congrArg _ ?_
      rw [eq_ix3 y]; congr 1; exact Subsingleton.elim _ _)
    (fun j hj hn => by
      refine if_neg fun h => hn ?_
      subst ho
      rw [Rect.mem_set_unit]
      have h0 := mem_rowSet.1 hj
      intro a
      match a with
      | ⟨0, _⟩ => exact ⟨Nat.le_of_eq h0.symm, by show (j 0).val < (head c 0 i).val + 1; omega⟩
      | ⟨1, _⟩ => exact ⟨h.1, h.2⟩
      | ⟨2, _⟩ => exact ⟨Nat.zero_le _, by show (j 2).val < 0 + 128; have : (j 2).val < 128 := (j 2).isLt; omega⟩)) $$ H
  iintro H
  iapply Hk
  iexists (fun j => if 512 * t.val ≤ (j 1).val ∧ (j 1).val < 512 * t.val + 512 then OG m c j else X j)
  isplitr
  · ipureintro
    intro j hj hr
    by_cases h : 512 * t.val ≤ (j 1).val ∧ (j 1).val < 512 * t.val + 512
    · exact if_pos h
    · exact (if_neg h).trans (hX j (by omega) hr)
  · iexact H

/-- A load of one tile of that row, whose value the program drops. -/
theorem step_loadDrop {α : Type} {Q : α → sProp (MT nD τ sig Unit (Elt F) ℕ UU ℕ)} {off : Fin 3 → ℕ} {inb : ∀ a, off a + ![1, 512, 128] a ≤ (⟨3, ![16, 1024, 128]⟩ : Shape).size a}
    {hl : ogM.view.LoadsAt (Rect.unit (s := ⟨3, ![16, 1024, 128]⟩) off ![1, 512, 128] inb).toLoadRect}
    {k : Prog (TpuEff nD τ sig (Elt F) Λ₀ (c : Thread nD τ).2) α}
    (i : Fin 4) (t : Fin 2) (ho : off = ![(head c 0 i).val, 512 * t.val, 0]) (n : ℕ) :
    upto m c (head c 0 i) n
      ⊢ iprop((upto m c (head c 0 i) n -∗ WP c k Q)
        -∗ WP c (.op (.load ogM (Rect.unit (s := ⟨3, ![16, 1024, 128]⟩) off ![1, 512, 128] inb).toLoadRect hl) fun _ => k) Q) := by
  unfold upto
  iintro ⟨%X, %hX, H⟩ Hk
  iapply (step_loadTile (head c 0 i) t ho X) $$ H
  iintro H
  iapply Hk
  iexists X
  isplitr
  · ipureintro; exact hX
  · iexact H

/-- One trip of the loop of head `i`, at any spelling of its offsets. -/
theorem trip (i : Fin 4) (t : Fin 2) {o₁ o₂ o₃ : Fin 3 → ℕ} (h₁ : o₁ = ![i.val, 512 * t.val, 0]) (h₂ : o₂ = ![i.val, 0, 0]) (h₃ : o₃ = ![(head c 0 i).val, 512 * t.val, 0])
    {b₁ : ∀ a, o₁ a + ![1, 512, 128] a ≤ (⟨3, ![4, 1024, 128]⟩ : Shape).size a} {b₂ : ∀ a, o₂ a + ![1, 1024, 128] a ≤ (⟨3, ![4, 1024, 128]⟩ : Shape).size a}
    {b₃ : ∀ a, o₃ a + ![1, 512, 128] a ≤ (⟨3, ![16, 1024, 128]⟩ : Shape).size a}
    {l₁ l₂ l₃ l₄ l₅ l₆} {hx} {hm} {pay : Vec F S1x512x128 .f32 → Vec F S1x1024x128 .bf16 → Vec F S1x1024x128 .bf16 → Vec F S1x1024x128 .bf16 → Vec F S1x1024x128 .bf16 → Vec F S1x512x128 .bf16}
    (hpay : pay (tileOf (QS m c) i t) (rowOf (KSB m c) i) (rowOf (KSB m (pN c)) i) (rowOf (VSB m c) i) (rowOf (VSB m (pN c)) i) = ATT m c i t) :
    Inv m c i t.val () ⊢ WP c
      (.op (.load qsM (Rect.unit (s := ⟨3, ![4, 1024, 128]⟩) o₁ ![1, 512, 128] b₁).toLoadRect l₁) fun a₁ =>
       .op (.load ksbM (Rect.unit (s := ⟨3, ![4, 1024, 128]⟩) o₂ ![1, 1024, 128] b₂).toLoadRect l₂) fun a₂ =>
       .op (.load krM (Rect.unit (s := ⟨3, ![4, 1024, 128]⟩) o₂ ![1, 1024, 128] b₂).toLoadRect l₃) fun a₃ =>
       .op (.load vsbM (Rect.unit (s := ⟨3, ![4, 1024, 128]⟩) o₂ ![1, 1024, 128] b₂).toLoadRect l₄) fun a₄ =>
       .op (.load vrM (Rect.unit (s := ⟨3, ![4, 1024, 128]⟩) o₂ ![1, 1024, 128] b₂).toLoadRect l₅) fun a₅ =>
       .op (.load ogM (Rect.unit (s := ⟨3, ![16, 1024, 128]⟩) o₃ ![1, 512, 128] b₃).toLoadRect l₆) fun _ =>
       .op (.store ogM (Rect.unit (s := ⟨3, ![16, 1024, 128]⟩) o₃ ![1, 512, 128] b₃) (pay a₁ a₂ a₃ a₄ a₅) Finset.univ hx hm) fun _ => .ret ())
      (Inv m c i (t.val + 1)) := by
  unfold Inv
  iintro ⟨Hq, Hk, Hp, Hv, Hw, Hg⟩
  iapply (step_loadTile i t h₁ (QS m c)) $$ Hq; iintro Hq
  iapply (step_loadRow i h₂ (KSB m c)) $$ Hk; iintro Hk
  iapply (step_loadRow i h₂ (KSB m (pN c))) $$ Hp; iintro Hp
  iapply (step_loadRow i h₂ (VSB m c)) $$ Hv; iintro Hv
  iapply (step_loadRow i h₂ (VSB m (pN c))) $$ Hw; iintro Hw
  iapply (step_loadDrop m c i t h₃ t.val) $$ Hg; iintro Hg
  iapply (step_storeTile m c i t h₃ hpay) $$ Hg; iintro Hg
  iapply wp_done
  isplitl [Hq]; · iexact Hq
  isplitl [Hk]; · iexact Hk
  isplitl [Hp]; · iexact Hp
  isplitl [Hv]; · iexact Hv
  isplitl [Hw]; · iexact Hw
  iexact Hg

/-! ## The four loops -/

/-- A loop of two trips, each of which keeps the invariant. -/
theorem loop_rule (i : Fin 4) {l : Scf.Loop 32} (hok : l.OK) (h2 : l.trips = 2) {body : Fin l.trips → Unit → Prog (TpuEff nD τ sig (Elt F) Λ₀ .tc) Unit}
    (hb : ∀ (t : Fin l.trips) (a : Unit), Inv m c i t.val a ⊢ WP c (body t a) (Inv m c i (t.val + 1)))
    {Q : Unit → sProp (MT nD τ sig Unit (Elt F) ℕ UU ℕ)} :
    qR m c i ⊢ iprop(kB m c fullShare.right i -∗ kP m c i -∗ vB m c fullShare.right i -∗ vP m c i -∗ hasAny c ogM (row 16 (head c 0 i))
      -∗ (qR m c i -∗ kB m c fullShare.right i -∗ kP m c i -∗ vB m c fullShare.right i -∗ vP m c i -∗ gR m c fullShare (head c 0 i) -∗ Q ())
      -∗ WP c (Scf.Loop.for l hok () body) Q) := by
  iintro Hq Hk Hp Hv Hw Hg HQ
  ihave Hg := (upto_zero m c (head c 0 i)) $$ Hg
  iapply (Scf.wp_for frame (wpE (defs₀ (F := F)) 𝒱₀ (c : Thread nD τ) none) Set.univ l.lb l.ub l.st hok () body (Inv m c i) hb)
  isplitl [Hq Hk Hp Hv Hw Hg]
  · unfold Inv
    isplitl [Hq]; · iexact Hq
    isplitl [Hk]; · iexact Hk
    isplitl [Hp]; · iexact Hp
    isplitl [Hv]; · iexact Hv
    isplitl [Hw]; · iexact Hw
    iexact Hg
  · iintro %a H
    ihave H := (Entails.of_eq (show Inv m c i (Scf.trips l.lb l.ub l.st) a = Inv m c i 2 () from by rw [show Scf.trips l.lb l.ub l.st = 2 from h2])) $$ H
    unfold Inv
    icases H with ⟨Hq, Hk, Hp, Hv, Hw, Hg⟩
    ihave Hg := (upto_two m c (head c 0 i)) $$ Hg
    iapply HQ $$ Hq Hk Hp Hv Hw Hg

/-- A trip of the first head's loop writes one tile. -/
theorem trip1 (v2 v8 v10 v13 : BitVec 32) (t : Fin k0_t1_loop.trips) (a : Unit) :
    Inv m c 0 t.val a ⊢ WP c (k0_t1_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v13 t a) (Inv m c 0 (t.val + 1)) := by
  unfold k0_t1_body
  simp only [k0_part1_eq_skeleton]
  unfold k0_part1_skel
  simp only [Prog.lift, Prog.bind_op, Prog.bind_ret, Prog.pure_eq_ret]
  exact trip m c 0 ⟨t.val, t.isLt⟩ (k0_off2_eq t) rfl ((k0_off3_eq c t).trans (by rw [← head0]; rfl)) rfl

/-- A trip of the second head's loop writes one tile. -/
theorem trip2 (v5 v8 v9 v13 : BitVec 32) (t : Fin k0_t2_loop.trips) (a : Unit) :
    Inv m c 1 t.val a ⊢ WP c (k0_t2_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 v13 t a) (Inv m c 1 (t.val + 1)) := by
  unfold k0_t2_body
  simp only [k0_part2_eq_skeleton]
  unfold k0_part2_skel
  simp only [Prog.lift, Prog.bind_op, Prog.bind_ret, Prog.pure_eq_ret]
  exact trip m c 1 ⟨t.val, t.isLt⟩ (k0_off7_eq t) rfl ((k0_off8_eq c t).trans (by rw [← head0]; rfl)) rfl

/-- A trip of the third head's loop writes one tile. -/
theorem trip3 (v2 v8 v10 v13 : BitVec 32) (t : Fin k0_t3_loop.trips) (a : Unit) :
    Inv m c 2 t.val a ⊢ WP c (k0_t3_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v13 t a) (Inv m c 2 (t.val + 1)) := by
  unfold k0_t3_body
  simp only [k0_part3_eq_skeleton]
  unfold k0_part3_skel
  simp only [Prog.lift, Prog.bind_op, Prog.bind_ret, Prog.pure_eq_ret]
  exact trip m c 2 ⟨t.val, t.isLt⟩ (k0_off9_eq t) rfl ((k0_off10_eq c t).trans (by rw [← head0]; rfl)) rfl

/-- A trip of the fourth head's loop writes one tile. -/
theorem trip4 (v5 v8 v9 v13 : BitVec 32) (t : Fin k0_t4_loop.trips) (a : Unit) :
    Inv m c 3 t.val a ⊢ WP c (k0_t4_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 v13 t a) (Inv m c 3 (t.val + 1)) := by
  unfold k0_t4_body
  simp only [k0_part4_eq_skeleton]
  unfold k0_part4_skel
  simp only [Prog.lift, Prog.bind_op, Prog.bind_ret, Prog.pure_eq_ret]
  exact trip m c 3 ⟨t.val, t.isLt⟩ (k0_off11_eq t) rfl ((k0_off12_eq c t).trans (by rw [← head0]; rfl)) rfl

end Cert.Attn
-- ==== Proof.Moves.lean ====
/-
The moves that the kernel repeats, each stated once: rounding a row for the wire, widening a gathered row, sending a
widened row to the result, sharing a row with a neighbour; and the list of the remote copies still to make.
-/
module

public import proofs.«01_k».proof.Proof.Loop

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-! ## The copies still to make, after so many are made -/

abbrev T20 : List Xf := []
abbrev T19 : List Xf := .yf 1 :: T20
abbrev T18 : List Xf := .yf 0 :: T19
abbrev T17 : List Xf := .zf 1 :: T18
abbrev T16 : List Xf := .zf 0 :: T17
abbrev T15 : List Xf := .z 3 :: T16
abbrev T14 : List Xf := .y 3 :: T15
abbrev T13 : List Xf := .z 2 :: T14
abbrev T12 : List Xf := .y 2 :: T13
abbrev T11 : List Xf := .z 1 :: T12
abbrev T10 : List Xf := .y 1 :: T11
abbrev T9 : List Xf := .z 0 :: T10
abbrev T8 : List Xf := .y 0 :: T9
abbrev T7 : List Xf := .v 3 :: T8
abbrev T6 : List Xf := .k 3 :: T7
abbrev T5 : List Xf := .v 2 :: T6
abbrev T4 : List Xf := .k 2 :: T5
abbrev T3 : List Xf := .v 1 :: T4
abbrev T2 : List Xf := .k 1 :: T3
abbrev T1 : List Xf := .v 0 :: T2
abbrev T0 : List Xf := .k 0 :: T1

/-- At the start every remote copy is still to make. -/
theorem T0_eq : order = T0 := rfl

/-! ## The moves -/

variable {α : Type} {Q : α → sProp (MT nD τ sig Unit (Elt F) ℕ UU ℕ)} {q : PosShare TreeShare}

/-- A program followed by another. -/
theorem wp_seq {β : Type} {p : Prog (TpuEff nD τ sig (Elt F) Λ₀ .tc) β} {k : β → Prog (TpuEff nD τ sig (Elt F) Λ₀ .tc) α} :
    WP c p (fun a => WP c (k a) Q) ⊢ WP c (p >>= k) Q := Entails.of_eq (wp_bind ..).symm

/-- A row is loaded, rounded and stored in another stack's row (whose old contents are loaded and dropped). -/
theorem op_round {Ms : Memref sig .tc .vmem ⟨3, ![4, 1024, 128]⟩ .f32} {Md : Memref sig .tc .vmem ⟨3, ![4, 1024, 128]⟩ .bf16} {off : Fin 3 → ℕ}
    {inb : ∀ a, off a + ![1, 1024, 128] a ≤ (⟨3, ![4, 1024, 128]⟩ : Shape).size a}
    {l₁ l₂} {hx} {hm} {k : PUnit → Prog (TpuEff nD τ sig (Elt F) Λ₀ .tc) α} {pay : Vec F S1x1024x128 .f32 → Vec F S1x1024x128 .bf16}
    (i : Fin 4) (ho : off = ![i.val, 0, 0]) (X : (⟨3, ![4, 1024, 128]⟩ : Shape).Idx → Elt F .f32) (Z : (⟨3, ![4, 1024, 128]⟩ : Shape).Idx → Elt F .bf16)
    (hZ : ∀ (x : Fin 1024) (y : Fin 128), Z (ix3 i x y) = pay (rowOf X i) (ix3 (0 : Fin 1) x y)) :
    has c Ms (row 4 i) fullShare X ⊢ iprop(hasAny c Md (row 4 i)
      -∗ (has c Ms (row 4 i) fullShare X -∗ has c Md (row 4 i) fullShare Z -∗ WP c (k ⟨⟩) Q)
      -∗ WP c (.op (.load Ms (Rect.unit (s := ⟨3, ![4, 1024, 128]⟩) off ![1, 1024, 128] inb).toLoadRect l₁) fun v =>
         .op (.load Md (Rect.unit (s := ⟨3, ![4, 1024, 128]⟩) off ![1, 1024, 128] inb).toLoadRect l₂) fun _ =>
         .op (.store Md (Rect.unit (s := ⟨3, ![4, 1024, 128]⟩) off ![1, 1024, 128] inb) (pay v) Finset.univ hx hm) k) Q) := by
  iintro Hs Hd Hk
  iapply (step_loadRow i ho X) $$ Hs; iintro Hs
  iapply (step_loadAny i ho) $$ Hd; iintro Hd
  iapply (step_storeRow i ho Z hZ) $$ Hd; iintro Hd
  iapply Hk $$ Hs Hd

/-- A gathered row is loaded, widened and stored (the old contents are loaded and dropped). -/
theorem op_widen {off : Fin 3 → ℕ} {inb : ∀ a, off a + ![1, 1024, 128] a ≤ (⟨3, ![16, 1024, 128]⟩ : Shape).size a}
    {l₁ l₂} {hx} {hm} {k : PUnit → Prog (TpuEff nD τ sig (Elt F) Λ₀ .tc) α} {pay : Vec F S1x1024x128 .bf16 → Vec F S1x1024x128 .f32}
    (h : Fin 16) (ho : off = ![h.val, 0, 0]) (hpay : ∀ v, pay v = k0_pay15 v) :
    gR m c q h ⊢ iprop(hasAny c og32M (row 16 h)
      -∗ (gR m c q h -∗ wR m c h -∗ WP c (k ⟨⟩) Q)
      -∗ WP c (.op (.load ogM (Rect.unit (s := ⟨3, ![16, 1024, 128]⟩) off ![1, 1024, 128] inb).toLoadRect l₁) fun v =>
         .op (.load og32M (Rect.unit (s := ⟨3, ![16, 1024, 128]⟩) off ![1, 1024, 128] inb).toLoadRect l₂) fun _ =>
         .op (.store og32M (Rect.unit (s := ⟨3, ![16, 1024, 128]⟩) off ![1, 1024, 128] inb) (pay v) Finset.univ hx hm) k) Q) := by
  iintro Hs Hd Hk
  iapply (step_loadRow h ho (OG m c)) $$ Hs; iintro Hs
  iapply (step_loadAny h ho) $$ Hd; iintro Hd
  iapply (step_storeRow h ho (OG32 m c) fun x y => (congrFun (hpay (rowOf (OG m c) h)) (ix3 (0 : Fin 1) x y)).symm) $$ Hd; iintro Hd
  iapply Hk $$ Hs Hd

/-- A widened row is copied to its head of the result. -/
theorem op_out {os : Fin 3 → ℕ} {od : Fin 4 → ℕ} {ins : ∀ a, os a + ![1, 1024, 128] a ≤ (⟨3, ![16, 1024, 128]⟩ : Shape).size a}
    {ind : ∀ a, od a + ![1, 1024, 1, 128] a ≤ (⟨4, ![1, 1024, 16, 128]⟩ : Shape).size a} {h₁} {h₂}
    {hs : (⟨3, ![1, 1024, 128]⟩ : Shape).Squeezes ⟨2, ![1024, 128]⟩} {hd : (⟨4, ![1, 1024, 1, 128]⟩ : Shape).Squeezes ⟨2, ![1024, 128]⟩}
    {of : Fin 1 → ℕ} {inf : ∀ a, of a + S1.size a ≤ S16.size a} {hsrc} {hdst} {hsem} {k : PUnit → Prog (TpuEff nD τ sig (Elt F) Λ₀ .tc) α}
    (h : Fin 16) (ho₁ : os = ![h.val, 0, 0]) (ho₂ : od = ![0, 0, h.val, 0]) (ho₃ : of = ![h.val]) :
    wR m c h ⊢ iprop(hasAny c oM (headSet h.val) -∗ zero c (stS h) -∗ (oF m c h -∗ WP c (k ⟨⟩) Q)
      -∗ WP c (.op (.enqueueDmaAs ((og32M.slice (Rect.unit (s := ⟨3, ![16, 1024, 128]⟩) os ![1, 1024, 128] ins) h₁).squeeze ⟨2, ![1024, 128]⟩ hs)
          (.here ((oM.slice (Rect.unit (s := ⟨4, ![1, 1024, 16, 128]⟩) od ![1, 1024, 1, 128] ind) h₂).squeeze ⟨2, ![1024, 128]⟩ hd)) .same
          (.dma ((cc0_scratch10.slice (Rect.unit (s := S16) of S1.size inf)).squeeze S_ squeezes_S1_S_).sem) hsrc hdst hsem) k) Q) :=
  curry3 (step_copyOut (stS h) (congrArg _ (stS_eq h of ho₃ inf)) h h ho₁ ho₂ rfl (OG32 m c) (OUT m c) fun _ _ => rfl)

/-- A row of the gathered outputs is shared with a neighbour, which receives the row of the same head. -/
theorem op_share {os : Fin 3 → ℕ} {ins : ∀ a, os a + ![1, 1024, 128] a ≤ (⟨3, ![16, 1024, 128]⟩ : Shape).size a} {h₁} {h₂}
    {hs hd : (⟨3, ![1, 1024, 128]⟩ : Shape).Squeezes ⟨2, ![1024, 128]⟩} {sS sR : SemLoc sig} {n : Dev nD} {hsc} {hsrc} {hdst} {hsem}
    {k : PUnit → Prog (TpuEff nD τ sig (Elt F) Λ₀ .tc) α} (x : Xf) (h : Fin 16) (l : List Xf)
    (hn : n = peer x c) (hS : sS = .dma (semOf false x)) (hR : sR = .dma (semOf true x)) (ho : os = ![h.val, 0, 0])
    (hp₁ : sendPay m c x = gR m c q h) (hp₂ : recvPay m (peer x c) x = has (peer x c) ogM (row 16 h) fullShare (OG m c)) :
    Env m K ⊢ iprop(Snd c x -∗ gR m c q h -∗ hasAny (peer x c) ogM (row 16 h) -∗ Ow c (Owe c (x :: l))
      -∗ (SndW c x -∗ Ow c (Owe c l) -∗ WP c (k ⟨⟩) Q)
      -∗ WP c (.op (.enqueueDmaAs ((ogM.slice (Rect.unit (s := ⟨3, ![16, 1024, 128]⟩) os ![1, 1024, 128] ins) h₁).squeeze ⟨2, ![1024, 128]⟩ hs)
          (.remote (Dev.tc n : Thread nD τ) ((ogM.slice (Rect.unit (s := ⟨3, ![16, 1024, 128]⟩) os ![1, 1024, 128] ins) h₂).squeeze ⟨2, ![1024, 128]⟩ hd) sS hsc) .same sR hsrc hdst hsem) k) Q) := by
  iintro #HE H1 H2 H3 H4 Hk
  iapply (curry5 (step_sendRow m K x l h hn hS hR ho ho rfl (OG m c) hp₁ hp₂)) $$ HE H1 H2 H3 H4
  iintro ⟨H5, H6⟩
  iapply Hk $$ H5 H6

end Cert.Attn
-- ==== Proof.Meet.lean ====
/-
The meeting with the three neighbours: each is signalled, and handed the memory that its copies will write here; then
the three signals are waited for, and with them comes the memory that the device's own copies will write there.
-/
module

public import proofs.«01_k».proof.Proof.Moves

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- The neighbour across `x` of the neighbour across `x`. -/
theorem pN_pN : ∀ c : Dev nD, pN (pN c) = c := by decide
/-- The neighbour across `y` of the neighbour across `y`. -/
theorem yN_yN : ∀ c : Dev nD, yN (yN c) = c := by decide
/-- The neighbour across `z` of the neighbour across `z`. -/
theorem zN_zN : ∀ c : Dev nD, zN (zN c) = c := by decide
/-- The heads of the `y` neighbour and of the device diagonal to it, as this device names them. -/
theorem head_yN : ∀ (c : Dev nD) (i : Fin 4), head (yN c) 0 i = head c 2 i ∧ head (yN c) 1 i = head c 3 i := by decide
/-- The heads of the `z` neighbour and of the device diagonal to it, as this device names them. -/
theorem head_zN : ∀ (c : Dev nD) (i : Fin 4), head (zN c) 0 i = head c 1 i ∧ head (zN c) 2 i = head c 3 i := by decide

/-- Four pieces, handed over one at a time. -/
theorem four_intro {P : Fin 4 → sProp 𝕄} : P 0 ⊢ iprop(P 1 -∗ P 2 -∗ P 3 -∗ four P) := by
  iintro H0 H1 H2 H3
  isplitl [H0]; · iexact H0
  isplitl [H1]; · iexact H1
  isplitl [H2]; · iexact H2
  iexact H3

/-- What the signal to each neighbour hands over, in the device's own terms. -/
theorem give_p : barPay (F := F) (nbr 0 c) 0 = iprop(four (fun i => hasAny c krM (row 4 i)) ∗ four (fun i => hasAny c vrM (row 4 i))) := by
  show iprop(four (fun i => hasAny (pN (pN c)) krM (row 4 i)) ∗ four (fun i => hasAny (pN (pN c)) vrM (row 4 i))) = _
  rw [pN_pN]
/-- What the signal to the `y` neighbour hands over: the rows that it will write here. -/
theorem give_y : barPay (F := F) (nbr 1 c) 1 = iprop(four (fun i => hasAny c ogM (row 16 (head c 2 i)))
    ∗ hasAny c ogM (row 16 (head c 3 2)) ∗ hasAny c ogM (row 16 (head c 3 3))) := by
  show iprop(four (fun i => hasAny (yN (yN c)) ogM (row 16 (head (yN c) 0 i)))
    ∗ hasAny (yN (yN c)) ogM (row 16 (head (yN c) 1 2)) ∗ hasAny (yN (yN c)) ogM (row 16 (head (yN c) 1 3))) = _
  simp only [yN_yN, head_yN]
/-- What the signal to the `z` neighbour hands over: the rows that it will write here. -/
theorem give_z : barPay (F := F) (nbr 2 c) 2 = iprop(four (fun i => hasAny c ogM (row 16 (head c 1 i)))
    ∗ hasAny c ogM (row 16 (head c 3 0)) ∗ hasAny c ogM (row 16 (head c 3 1))) := by
  show iprop(four (fun i => hasAny (zN (zN c)) ogM (row 16 (head (zN c) 0 i)))
    ∗ hasAny (zN (zN c)) ogM (row 16 (head (zN c) 2 0)) ∗ hasAny (zN (zN c)) ogM (row 16 (head (zN c) 2 1))) = _
  simp only [zN_zN, head_zN]

/-- The meeting. -/
theorem meet {α : Type} {Q : α → sProp (MT nD τ sig Unit (Elt F) ℕ UU ℕ)} {n₁ n₂ n₃ : Dev nD} {k : PUnit → Prog (TpuEff nD τ sig (Elt F) Λ₀ .tc) α}
    (h₁ : n₁ = nbr 0 c) (h₂ : n₂ = nbr 1 c) (h₃ : n₃ = nbr 2 c) :
    Env m K ⊢ iprop(Ow c (O₀ c) -∗ dutyTok ER (barCell (nbr 0 c)) 0 0 -∗ dutyTok ER (barCell (nbr 1 c)) 0 1 -∗ dutyTok ER (barCell (nbr 2 c)) 0 2 -∗ BarW c -∗ hasAny c krM (row 4 0) -∗ hasAny c krM (row 4 1) -∗ hasAny c krM (row 4 2) -∗ hasAny c krM (row 4 3) -∗ hasAny c vrM (row 4 0) -∗ hasAny c vrM (row 4 1) -∗ hasAny c vrM (row 4 2) -∗ hasAny c vrM (row 4 3) -∗ hasAny c ogM (row 16 (head c 2 0)) -∗ hasAny c ogM (row 16 (head c 2 1)) -∗ hasAny c ogM (row 16 (head c 2 2)) -∗ hasAny c ogM (row 16 (head c 2 3)) -∗ hasAny c ogM (row 16 (head c 3 2)) -∗ hasAny c ogM (row 16 (head c 3 3)) -∗ hasAny c ogM (row 16 (head c 1 0)) -∗ hasAny c ogM (row 16 (head c 1 1)) -∗ hasAny c ogM (row 16 (head c 1 2)) -∗ hasAny c ogM (row 16 (head c 1 3)) -∗ hasAny c ogM (row 16 (head c 3 0)) -∗ hasAny c ogM (row 16 (head c 3 1))
      -∗ (Ow c (Owe c T0) -∗ semVal (barCell c) 0 -∗ hasAny (peer (.k 0) c) krM (row 4 0) -∗ hasAny (peer (.k 1) c) krM (row 4 1) -∗ hasAny (peer (.k 2) c) krM (row 4 2) -∗ hasAny (peer (.k 3) c) krM (row 4 3) -∗ hasAny (peer (.v 0) c) vrM (row 4 0) -∗ hasAny (peer (.v 1) c) vrM (row 4 1) -∗ hasAny (peer (.v 2) c) vrM (row 4 2) -∗ hasAny (peer (.v 3) c) vrM (row 4 3) -∗ hasAny (peer (.y 0) c) ogM (row 16 (head c 0 0)) -∗ hasAny (peer (.y 1) c) ogM (row 16 (head c 0 1)) -∗ hasAny (peer (.y 2) c) ogM (row 16 (head c 0 2)) -∗ hasAny (peer (.y 3) c) ogM (row 16 (head c 0 3)) -∗ hasAny (peer (.yf 0) c) ogM (row 16 (head c 1 2)) -∗ hasAny (peer (.yf 1) c) ogM (row 16 (head c 1 3)) -∗ hasAny (peer (.z 0) c) ogM (row 16 (head c 0 0)) -∗ hasAny (peer (.z 1) c) ogM (row 16 (head c 0 1)) -∗ hasAny (peer (.z 2) c) ogM (row 16 (head c 0 2)) -∗ hasAny (peer (.z 3) c) ogM (row 16 (head c 0 3)) -∗ hasAny (peer (.zf 0) c) ogM (row 16 (head c 2 0)) -∗ hasAny (peer (.zf 1) c) ogM (row 16 (head c 2 1)) -∗ WP c (k ⟨⟩) Q)
      -∗ WP c (.op (.semSignal (Dev.tc n₁ : Thread nD τ) barS 1) fun _ => .op (.semSignal (Dev.tc n₂ : Thread nD τ) barS 1) fun _ =>
          .op (.semSignal (Dev.tc n₃ : Thread nD τ) barS 1) fun _ => .op (.semWait barS 3) k) Q) := by
  iintro #HE HO bt0 bt1 bt2 bW krA0 krA1 krA2 krA3 vrA0 vrA1 vrA2 vrA3 gA20 gA21 gA22 gA23 gA32 gA33 gA10 gA11 gA12 gA13 gA30 gA31 Hk
  ihave HO := (Entails.of_eq (show (Ow c (O₀ c) : sProp 𝕄) = Ow c (O₁ c + tallyAt (barCell (nbr 0 c)) () 1) from rfl)) $$ HO
  iapply (curry4 (step_signal m K 0 h₁ rfl rfl (O₁ c))) $$ HE bt0 [krA0 krA1 krA2 krA3 vrA0 vrA1 vrA2 vrA3] HO
  · iapply (Entails.of_eq (give_p c).symm)
    isplitl [krA0 krA1 krA2 krA3]
    · iapply (four_intro (P := fun i => hasAny c krM (row 4 i))) $$ krA0 krA1 krA2 krA3
    iapply (four_intro (P := fun i => hasAny c vrM (row 4 i))) $$ vrA0 vrA1 vrA2 vrA3
  iintro HO
  ihave HO := (Entails.of_eq (show (Ow c (O₁ c) : sProp 𝕄) = Ow c (O₂ c + tallyAt (barCell (nbr 1 c)) () 1) from rfl)) $$ HO
  iapply (curry4 (step_signal m K 1 h₂ rfl rfl (O₂ c))) $$ HE bt1 [gA20 gA21 gA22 gA23 gA32 gA33] HO
  · iapply (Entails.of_eq (give_y c).symm)
    isplitl [gA20 gA21 gA22 gA23]
    · iapply (four_intro (P := fun i => hasAny c ogM (row 16 (head c 2 i)))) $$ gA20 gA21 gA22 gA23
    isplitl [gA32]; · iexact gA32
    iexact gA33
  iintro HO
  ihave HO := (Entails.of_eq (show (Ow c (O₂ c) : sProp 𝕄) = Ow c (Owe c order + tallyAt (barCell (nbr 2 c)) () 1) from rfl)) $$ HO
  iapply (curry4 (step_signal m K 2 h₃ rfl rfl (Owe c order))) $$ HE bt2 [gA10 gA11 gA12 gA13 gA30 gA31] HO
  · iapply (Entails.of_eq (give_z c).symm)
    isplitl [gA10 gA11 gA12 gA13]
    · iapply (four_intro (P := fun i => hasAny c ogM (row 16 (head c 1 i)))) $$ gA10 gA11 gA12 gA13
    isplitl [gA30]; · iexact gA30
    iexact gA31
  iintro HO
  iapply (curry3 (step_waitBar m K rfl rfl)) $$ HE bW HO
  iintro ⟨⟨H0, H1, H2⟩, bz, HO⟩
  icases (Entails.of_eq (show barPay (F := F) c 0 = iprop(four (fun i => hasAny (peer (.k i) c) krM (row 4 i)) ∗ four (fun i => hasAny (peer (.v i) c) vrM (row 4 i))) from rfl)) $$ H0 with ⟨⟨Dk0, Dk1, Dk2, Dk3⟩, ⟨Dv0, Dv1, Dv2, Dv3⟩⟩
  icases (Entails.of_eq (show barPay (F := F) c 1 = iprop(four (fun i => hasAny (peer (.y i) c) ogM (row 16 (head c 0 i)))
    ∗ hasAny (peer (.yf 0) c) ogM (row 16 (head c 1 2)) ∗ hasAny (peer (.yf 1) c) ogM (row 16 (head c 1 3))) from rfl)) $$ H1 with ⟨⟨Dy0, Dy1, Dy2, Dy3⟩, Dyf0, Dyf1⟩
  icases (Entails.of_eq (show barPay (F := F) c 2 = iprop(four (fun i => hasAny (peer (.z i) c) ogM (row 16 (head c 0 i)))
    ∗ hasAny (peer (.zf 0) c) ogM (row 16 (head c 2 0)) ∗ hasAny (peer (.zf 1) c) ogM (row 16 (head c 2 1))) from rfl)) $$ H2 with ⟨⟨Dz0, Dz1, Dz2, Dz3⟩, Dzf0, Dzf1⟩
  ihave HO := (Entails.of_eq (show (Ow c (Owe c order) : sProp 𝕄) = Ow c (Owe c T0) from rfl)) $$ HO
  iapply Hk $$ HO bz Dk0 Dk1 Dk2 Dk3 Dv0 Dv1 Dv2 Dv3 Dy0 Dy1 Dy2 Dy3 Dyf0 Dyf1 Dz0 Dz1 Dz2 Dz3 Dzf0 Dzf1

end Cert.Attn
-- ==== Proof.Fetch.lean ====
/-
The parts of the body that fetch the device's heads, meet the neighbours, round and send the keys and the values.
-/
module

public import proofs.«01_k».proof.Proof.Meet

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- The first of the twelve fetches of heads. -/
theorem part6 (v13 : BitVec 32) {Φ : PUnit → sProp (MT nD τ sig Unit (Elt F) ℕ UU ℕ)} :
    Env m K ⊢ iprop(kH m c 0 -∗ hasAny c ksM (row 4 0) -∗ zero c (gatS 0 0) -∗ vH m c 0 -∗ hasAny c vsM (row 4 0) -∗ zero c (gatS 1 0) -∗ qH m c 0 -∗ hasAny c qsM (row 4 0) -∗ zero c (gatS 2 0) -∗ kH m c 1 -∗ hasAny c ksM (row 4 1) -∗ zero c (gatS 0 1)
      -∗ (kF m c 0 -∗ vF m c 0 -∗ qF m c 0 -∗ kF m c 1 -∗ Φ ⟨⟩)
      -∗ WP c (k0_part6 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v13) Φ) := by
  simp only [k0_part6_eq_skeleton]; unfold k0_part6_skel
  simp only [Prog.lift, Prog.bind_op, Prog.bind_ret, Prog.pure_eq_ret]
  iintro #HE kH0 kS0 zg00 vH0 vS0 zg10 qH0 qS0 zg20 kH1 kS1 zg01 Hk
  iapply (curry3 (step_copyIn (gatS 0 0) rfl (head c 0 0) 0 (at1 c 0) rfl rfl (Kin m c) (KS m c) fun _ _ => rfl)) $$ kH0 kS0 zg00; iintro kF0
  iapply (curry3 (step_copyIn (gatS 1 0) rfl (head c 0 0) 0 (at1 c 0) rfl rfl (Vin m c) (VS m c) fun _ _ => rfl)) $$ vH0 vS0 zg10; iintro vF0
  iapply (curry3 (step_copyIn (gatS 2 0) rfl (head c 0 0) 0 (at1 c 0) rfl rfl (Qin m c) (QS m c) fun _ _ => rfl)) $$ qH0 qS0 zg20; iintro qF0
  iapply (curry3 (step_copyIn (gatS 0 1) rfl (head c 0 1) 1 (at1 c 1) rfl rfl (Kin m c) (KS m c) fun _ _ => rfl)) $$ kH1 kS1 zg01; iintro kF1
  iapply wp_done
  iapply Hk $$ kF0 vF0 qF0 kF1

/-- More fetches. -/
theorem part7 (v13 : BitVec 32) {Φ : PUnit → sProp (MT nD τ sig Unit (Elt F) ℕ UU ℕ)} :
    Env m K ⊢ iprop(vH m c 1 -∗ hasAny c vsM (row 4 1) -∗ zero c (gatS 1 1) -∗ qH m c 1 -∗ hasAny c qsM (row 4 1) -∗ zero c (gatS 2 1) -∗ kH m c 2 -∗ hasAny c ksM (row 4 2) -∗ zero c (gatS 0 2) -∗ vH m c 2 -∗ hasAny c vsM (row 4 2) -∗ zero c (gatS 1 2)
      -∗ (vF m c 1 -∗ qF m c 1 -∗ kF m c 2 -∗ vF m c 2 -∗ Φ ⟨⟩)
      -∗ WP c (k0_part7 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v13) Φ) := by
  simp only [k0_part7_eq_skeleton]; unfold k0_part7_skel
  simp only [Prog.lift, Prog.bind_op, Prog.bind_ret, Prog.pure_eq_ret]
  iintro #HE vH1 vS1 zg11 qH1 qS1 zg21 kH2 kS2 zg02 vH2 vS2 zg12 Hk
  iapply (curry3 (step_copyIn (gatS 1 1) rfl (head c 0 1) 1 (at1 c 1) rfl rfl (Vin m c) (VS m c) fun _ _ => rfl)) $$ vH1 vS1 zg11; iintro vF1
  iapply (curry3 (step_copyIn (gatS 2 1) rfl (head c 0 1) 1 (at1 c 1) rfl rfl (Qin m c) (QS m c) fun _ _ => rfl)) $$ qH1 qS1 zg21; iintro qF1
  iapply (curry3 (step_copyIn (gatS 0 2) rfl (head c 0 2) 2 (at1 c 2) rfl rfl (Kin m c) (KS m c) fun _ _ => rfl)) $$ kH2 kS2 zg02; iintro kF2
  iapply (curry3 (step_copyIn (gatS 1 2) rfl (head c 0 2) 2 (at1 c 2) rfl rfl (Vin m c) (VS m c) fun _ _ => rfl)) $$ vH2 vS2 zg12; iintro vF2
  iapply wp_done
  iapply Hk $$ vF1 qF1 kF2 vF2

/-- The last fetches. -/
theorem part8 (v13 : BitVec 32) {Φ : (Sems sig S_) → sProp (MT nD τ sig Unit (Elt F) ℕ UU ℕ)} :
    Env m K ⊢ iprop(qH m c 2 -∗ hasAny c qsM (row 4 2) -∗ zero c (gatS 2 2) -∗ kH m c 3 -∗ hasAny c ksM (row 4 3) -∗ zero c (gatS 0 3) -∗ vH m c 3 -∗ hasAny c vsM (row 4 3) -∗ zero c (gatS 1 3) -∗ qH m c 3 -∗ hasAny c qsM (row 4 3) -∗ zero c (gatS 2 3)
      -∗ (qF m c 2 -∗ kF m c 3 -∗ vF m c 3 -∗ qF m c 3 -∗ Φ (SemArray.scalar (sig.barrier 0 rfl)))
      -∗ WP c (k0_part8 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v13) Φ) := by
  simp only [k0_part8_eq_skeleton]; unfold k0_part8_skel
  simp only [Prog.lift, Prog.bind_op, Prog.bind_ret, Prog.pure_eq_ret]
  iintro #HE qH2 qS2 zg22 kH3 kS3 zg03 vH3 vS3 zg13 qH3 qS3 zg23 Hk
  iapply (curry3 (step_copyIn (gatS 2 2) rfl (head c 0 2) 2 (at1 c 2) rfl rfl (Qin m c) (QS m c) fun _ _ => rfl)) $$ qH2 qS2 zg22; iintro qF2
  iapply (curry3 (step_copyIn (gatS 0 3) rfl (head c 0 3) 3 (at1 c 3) rfl rfl (Kin m c) (KS m c) fun _ _ => rfl)) $$ kH3 kS3 zg03; iintro kF3
  iapply (curry3 (step_copyIn (gatS 1 3) rfl (head c 0 3) 3 (at1 c 3) rfl rfl (Vin m c) (VS m c) fun _ _ => rfl)) $$ vH3 vS3 zg13; iintro vF3
  iapply (curry3 (step_copyIn (gatS 2 3) rfl (head c 0 3) 3 (at1 c 3) rfl rfl (Qin m c) (QS m c) fun _ _ => rfl)) $$ qH3 qS3 zg23; iintro qF3
  iapply wp_done
  iapply Hk $$ qF2 kF3 vF3 qF3

/-- The meeting with the three neighbours, and the first key head in. -/
theorem part9 (v2 : BitVec 32) (v5 : BitVec 32) (v8 : BitVec 32) (v9 : BitVec 32) (v10 : BitVec 32) (v11 : BitVec 32) {Φ : PUnit → sProp (MT nD τ sig Unit (Elt F) ℕ UU ℕ)} :
    Env m K ⊢ iprop(Ow c (O₀ c) -∗ dutyTok ER (barCell (nbr 0 c)) 0 0 -∗ dutyTok ER (barCell (nbr 1 c)) 0 1 -∗ dutyTok ER (barCell (nbr 2 c)) 0 2 -∗ BarW c -∗ hasAny c krM (row 4 0) -∗ hasAny c krM (row 4 1) -∗ hasAny c krM (row 4 2) -∗ hasAny c krM (row 4 3) -∗ hasAny c vrM (row 4 0) -∗ hasAny c vrM (row 4 1) -∗ hasAny c vrM (row 4 2) -∗ hasAny c vrM (row 4 3) -∗ hasAny c ogM (row 16 (head c 2 0)) -∗ hasAny c ogM (row 16 (head c 2 1)) -∗ hasAny c ogM (row 16 (head c 2 2)) -∗ hasAny c ogM (row 16 (head c 2 3)) -∗ hasAny c ogM (row 16 (head c 3 2)) -∗ hasAny c ogM (row 16 (head c 3 3)) -∗ hasAny c ogM (row 16 (head c 1 0)) -∗ hasAny c ogM (row 16 (head c 1 1)) -∗ hasAny c ogM (row 16 (head c 1 2)) -∗ hasAny c ogM (row 16 (head c 1 3)) -∗ hasAny c ogM (row 16 (head c 3 0)) -∗ hasAny c ogM (row 16 (head c 3 1)) -∗ kF m c 0
      -∗ (semVal (barCell c) 0 -∗ hasAny (peer (.k 0) c) krM (row 4 0) -∗ hasAny (peer (.k 1) c) krM (row 4 1) -∗ hasAny (peer (.k 2) c) krM (row 4 2) -∗ hasAny (peer (.k 3) c) krM (row 4 3) -∗ hasAny (peer (.v 0) c) vrM (row 4 0) -∗ hasAny (peer (.v 1) c) vrM (row 4 1) -∗ hasAny (peer (.v 2) c) vrM (row 4 2) -∗ hasAny (peer (.v 3) c) vrM (row 4 3) -∗ hasAny (peer (.y 0) c) ogM (row 16 (head c 0 0)) -∗ hasAny (peer (.y 1) c) ogM (row 16 (head c 0 1)) -∗ hasAny (peer (.y 2) c) ogM (row 16 (head c 0 2)) -∗ hasAny (peer (.y 3) c) ogM (row 16 (head c 0 3)) -∗ hasAny (peer (.yf 0) c) ogM (row 16 (head c 1 2)) -∗ hasAny (peer (.yf 1) c) ogM (row 16 (head c 1 3)) -∗ hasAny (peer (.z 0) c) ogM (row 16 (head c 0 0)) -∗ hasAny (peer (.z 1) c) ogM (row 16 (head c 0 1)) -∗ hasAny (peer (.z 2) c) ogM (row 16 (head c 0 2)) -∗ hasAny (peer (.z 3) c) ogM (row 16 (head c 0 3)) -∗ hasAny (peer (.zf 0) c) ogM (row 16 (head c 2 0)) -∗ hasAny (peer (.zf 1) c) ogM (row 16 (head c 2 1)) -∗ kR m c 0 -∗ kH m c 0 -∗ zero c (gatS 0 0) -∗ Ow c (Owe c T0) -∗ Φ ⟨⟩)
      -∗ WP c (k0_part9 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v9 v10 v11 (SemArray.scalar (sig.barrier 0 rfl))) Φ) := by
  simp only [k0_part9_eq_skeleton]; unfold k0_part9_skel
  simp only [Prog.lift, Prog.bind_op, Prog.bind_ret, Prog.pure_eq_ret, semSignalWord, semWaitWord]
  iintro #HE HO bt0 bt1 bt2 bW krA0 krA1 krA2 krA3 vrA0 vrA1 vrA2 vrA3 gA20 gA21 gA22 gA23 gA32 gA33 gA10 gA11 gA12 gA13 gA30 gA31 kF0 Hk
  iapply (meet m K c (Fin.ext (k0_dev1_eq c)) (Fin.ext (k0_dev2_eq c)) (Fin.ext (k0_dev3_eq c))) $$ HE HO bt0 bt1 bt2 bW krA0 krA1 krA2 krA3 vrA0 vrA1 vrA2 vrA3 gA20 gA21 gA22 gA23 gA32 gA33 gA10 gA11 gA12 gA13 gA30 gA31; iintro HO bz Dk0 Dk1 Dk2 Dk3 Dv0 Dv1 Dv2 Dv3 Dy0 Dy1 Dy2 Dy3 Dyf0 Dyf1 Dz0 Dz1 Dz2 Dz3 Dzf0 Dzf1
  iapply (op_local m K c NF_ks rfl (gatS_low 0 0) _) $$ HE kF0 HO; iintro kR0 kH0 zg00 HO
  iapply wp_done
  iapply Hk $$ bz Dk0 Dk1 Dk2 Dk3 Dv0 Dv1 Dv2 Dv3 Dy0 Dy1 Dy2 Dy3 Dyf0 Dyf1 Dz0 Dz1 Dz2 Dz3 Dzf0 Dzf1 kR0 kH0 zg00 HO

/-- Row 0 of the keys and the values rounded. -/
theorem part10 (v5 : BitVec 32) (v8 : BitVec 32) (v9 : BitVec 32) {Φ : PUnit → sProp (MT nD τ sig Unit (Elt F) ℕ UU ℕ)} :
    Env m K ⊢ iprop(vF m c 0 -∗ Ow c (Owe c T0) -∗ kR m c 0 -∗ hasAny c ksbM (row 4 0) -∗ hasAny c vsbM (row 4 0)
      -∗ (vH m c 0 -∗ zero c (gatS 1 0) -∗ Ow c (Owe c T0) -∗ kR m c 0 -∗ kB m c fullShare 0 -∗ vR m c 0 -∗ vB m c fullShare 0 -∗ Φ ⟨⟩)
      -∗ WP c (k0_part10 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9) Φ) := by
  simp only [k0_part10_eq_skeleton]; unfold k0_part10_skel
  simp only [Prog.lift, Prog.bind_op, Prog.bind_ret, Prog.pure_eq_ret]
  iintro #HE vF0 HO kR0 kA0 vA0 Hk
  iapply (op_local m K c NF_vs rfl (gatS_low 1 0) _) $$ HE vF0 HO; iintro vR0 vH0 zg10 HO
  iapply (op_round c 0 rfl (KS m c) (KSB m c) fun _ _ => rfl) $$ kR0 kA0; iintro kR0 kB0
  iapply (op_round c 0 rfl (VS m c) (VSB m c) fun _ _ => rfl) $$ vR0 vA0; iintro vR0 vB0
  iapply wp_done
  iapply Hk $$ vH0 zg10 HO kR0 kB0 vR0 vB0

/-- Row 0 sent to the partner; row 1 in. -/
theorem part11 (v5 : BitVec 32) (v8 : BitVec 32) (v9 : BitVec 32) {Φ : PUnit → sProp (MT nD τ sig Unit (Elt F) ℕ UU ℕ)} :
    Env m K ⊢ iprop(kB m c fullShare 0 -∗ Snd c (.k 0) -∗ hasAny (peer (.k 0) c) krM (row 4 0) -∗ Ow c (Owe c T0) -∗ vB m c fullShare 0 -∗ Snd c (.v 0) -∗ hasAny (peer (.v 0) c) vrM (row 4 0) -∗ kF m c 1 -∗ vF m c 1
      -∗ (kB m c fullShare.right 0 -∗ SndW c (.k 0) -∗ vB m c fullShare.right 0 -∗ SndW c (.v 0) -∗ kR m c 1 -∗ kH m c 1 -∗ zero c (gatS 0 1) -∗ vR m c 1 -∗ vH m c 1 -∗ zero c (gatS 1 1) -∗ Ow c (Owe c T2) -∗ Φ ⟨⟩)
      -∗ WP c (k0_part11 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9) Φ) := by
  simp only [k0_part11_eq_skeleton]; unfold k0_part11_skel
  simp only [Prog.lift, Prog.bind_op, Prog.bind_ret, Prog.pure_eq_ret]
  iintro #HE kB0 Sk0 Dk0 HO vB0 Sv0 Dv0 kF1 vF1 Hk
  icases (has_share.1) $$ kB0 with ⟨kBl0, kBr0⟩
  iapply (curry5 (step_sendRow m K (.k 0) _ 0 (Fin.ext (k0_dev4_eq c)) rfl rfl rfl rfl rfl (KSB m c) rfl (recv_k m c 0))) $$ HE Sk0 kBl0 Dk0 HO; iintro ⟨Wk0, HO⟩
  icases (has_share.1) $$ vB0 with ⟨vBl0, vBr0⟩
  iapply (curry5 (step_sendRow m K (.v 0) _ 0 (Fin.ext (k0_dev5_eq c)) rfl rfl rfl rfl rfl (VSB m c) rfl (recv_v m c 0))) $$ HE Sv0 vBl0 Dv0 HO; iintro ⟨Wv0, HO⟩
  iapply (op_local m K c NF_ks rfl (gatS_low 0 1) _) $$ HE kF1 HO; iintro kR1 kH1 zg01 HO
  iapply (op_local m K c NF_vs rfl (gatS_low 1 1) _) $$ HE vF1 HO; iintro vR1 vH1 zg11 HO
  iapply wp_done
  iapply Hk $$ kBr0 Wk0 vBr0 Wv0 kR1 kH1 zg01 vR1 vH1 zg11 HO

/-- Row 1 rounded, its keys sent. -/
theorem part12 (v5 : BitVec 32) (v8 : BitVec 32) (v9 : BitVec 32) {Φ : (Σ' (v214 : BitVec 32), BitVec 32) → sProp (MT nD τ sig Unit (Elt F) ℕ UU ℕ)} :
    Env m K ⊢ iprop(kR m c 1 -∗ hasAny c ksbM (row 4 1) -∗ vR m c 1 -∗ hasAny c vsbM (row 4 1) -∗ Snd c (.k 1) -∗ hasAny (peer (.k 1) c) krM (row 4 1) -∗ Ow c (Owe c T2)
      -∗ (∀ r, kR m c 1 -∗ vR m c 1 -∗ vB m c fullShare 1 -∗ kB m c fullShare.right 1 -∗ SndW c (.k 1) -∗ Ow c (Owe c T3) -∗ Φ r)
      -∗ WP c (k0_part12 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9) Φ) := by
  simp only [k0_part12_eq_skeleton]; unfold k0_part12_skel
  simp only [Prog.lift, Prog.bind_op, Prog.bind_ret, Prog.pure_eq_ret]
  iintro #HE kR1 kA1 vR1 vA1 Sk1 Dk1 HO Hk
  iapply (op_round c 1 rfl (KS m c) (KSB m c) fun _ _ => rfl) $$ kR1 kA1; iintro kR1 kB1
  iapply (op_round c 1 rfl (VS m c) (VSB m c) fun _ _ => rfl) $$ vR1 vA1; iintro vR1 vB1
  icases (has_share.1) $$ kB1 with ⟨kBl1, kBr1⟩
  iapply (curry5 (step_sendRow m K (.k 1) _ 1 (Fin.ext (k0_dev6_eq c)) rfl rfl rfl rfl rfl (KSB m c) rfl (recv_k m c 1))) $$ HE Sk1 kBl1 Dk1 HO; iintro ⟨Wk1, HO⟩
  iapply wp_done
  iapply Hk $$ %_ kR1 vR1 vB1 kBr1 Wk1 HO

/-- Row 1's values sent; row 2 in, its keys loaded. -/
theorem part13 (v5 : BitVec 32) (v8 : BitVec 32) (v214 : BitVec 32) (c2_i32_228 : BitVec 32) {Φ : (FVec F S1x1024x128 .bf16) → sProp (MT nD τ sig Unit (Elt F) ℕ UU ℕ)} :
    Env m K ⊢ iprop(vB m c fullShare 1 -∗ Snd c (.v 1) -∗ hasAny (peer (.v 1) c) vrM (row 4 1) -∗ Ow c (Owe c T3) -∗ kF m c 2 -∗ vF m c 2 -∗ hasAny c ksbM (row 4 2)
      -∗ (vB m c fullShare.right 1 -∗ SndW c (.v 1) -∗ kH m c 2 -∗ zero c (gatS 0 2) -∗ vR m c 2 -∗ vH m c 2 -∗ zero c (gatS 1 2) -∗ Ow c (Owe c T4) -∗ kR m c 2 -∗ hasAny c ksbM (row 4 2) -∗ Φ (k0_pay9 (rowOf (KS m c) 2)))
      -∗ WP c (k0_part13 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v214 c2_i32_228) Φ) := by
  simp only [k0_part13_eq_skeleton]; unfold k0_part13_skel
  simp only [Prog.lift, Prog.bind_op, Prog.bind_ret, Prog.pure_eq_ret]
  iintro #HE vB1 Sv1 Dv1 HO kF2 vF2 kA2 Hk
  icases (has_share.1) $$ vB1 with ⟨vBl1, vBr1⟩
  iapply (curry5 (step_sendRow m K (.v 1) _ 1 (Fin.ext (k0_dev7_eq c)) rfl rfl rfl rfl rfl (VSB m c) rfl (recv_v m c 1))) $$ HE Sv1 vBl1 Dv1 HO; iintro ⟨Wv1, HO⟩
  iapply (op_local m K c NF_ks rfl (gatS_low 0 2) _) $$ HE kF2 HO; iintro kR2 kH2 zg02 HO
  iapply (op_local m K c NF_vs rfl (gatS_low 1 2) _) $$ HE vF2 HO; iintro vR2 vH2 zg12 HO
  iapply (step_loadRow 2 rfl (KS m c)) $$ kR2; iintro kR2
  iapply (step_loadAny 2 rfl) $$ kA2; iintro kA2
  iapply wp_done
  iapply Hk $$ vBr1 Wv1 kH2 zg02 vR2 vH2 zg12 HO kR2 kA2

/-- Row 2 rounded, its keys sent. -/
theorem part14 (v5 : BitVec 32) (v8 : BitVec 32) (v9 : BitVec 32) {Φ : PUnit → sProp (MT nD τ sig Unit (Elt F) ℕ UU ℕ)} :
    Env m K ⊢ iprop(hasAny c ksbM (row 4 2) -∗ vR m c 2 -∗ hasAny c vsbM (row 4 2) -∗ Snd c (.k 2) -∗ hasAny (peer (.k 2) c) krM (row 4 2) -∗ Ow c (Owe c T4)
      -∗ (vR m c 2 -∗ vB m c fullShare 2 -∗ kB m c fullShare.right 2 -∗ SndW c (.k 2) -∗ Ow c (Owe c T5) -∗ Φ ⟨⟩)
      -∗ WP c (k0_part14 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 (k0_pay9 (rowOf (KS m c) 2))) Φ) := by
  simp only [k0_part14_eq_skeleton]; unfold k0_part14_skel
  simp only [Prog.lift, Prog.bind_op, Prog.bind_ret, Prog.pure_eq_ret]
  iintro #HE kA2 vR2 vA2 Sk2 Dk2 HO Hk
  iapply (step_storeRow 2 rfl (KSB m c) fun _ _ => rfl) $$ kA2; iintro kB2
  iapply (op_round c 2 rfl (VS m c) (VSB m c) fun _ _ => rfl) $$ vR2 vA2; iintro vR2 vB2
  icases (has_share.1) $$ kB2 with ⟨kBl2, kBr2⟩
  iapply (curry5 (step_sendRow m K (.k 2) _ 2 (Fin.ext (k0_dev8_eq c)) rfl rfl rfl rfl rfl (KSB m c) rfl (recv_k m c 2))) $$ HE Sk2 kBl2 Dk2 HO; iintro ⟨Wk2, HO⟩
  iapply wp_done
  iapply Hk $$ vR2 vB2 kBr2 Wk2 HO

/-- Row 2's values sent; row 3 in, its keys rounded. -/
theorem part15 {Φ : (FVec F S1024x128 .bf16) → sProp (MT nD τ sig Unit (Elt F) ℕ UU ℕ)} :
    Env m K ⊢ iprop(vB m c fullShare 2 -∗ Snd c (.v 2) -∗ hasAny (peer (.v 2) c) vrM (row 4 2) -∗ Ow c (Owe c T5) -∗ kF m c 3 -∗ vF m c 3 -∗ hasAny c ksbM (row 4 3)
      -∗ (vB m c fullShare.right 2 -∗ SndW c (.v 2) -∗ kH m c 3 -∗ zero c (gatS 0 3) -∗ vH m c 3 -∗ zero c (gatS 1 3) -∗ Ow c (Owe c T6) -∗ kR m c 3 -∗ kB m c fullShare 3 -∗ vR m c 3 -∗ Φ (k0_pay12 (rowOf (VS m c) 3)))
      -∗ WP c (k0_part15 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part15_eq_skeleton]; unfold k0_part15_skel
  simp only [Prog.lift, Prog.bind_op, Prog.bind_ret, Prog.pure_eq_ret]
  iintro #HE vB2 Sv2 Dv2 HO kF3 vF3 kA3 Hk
  icases (has_share.1) $$ vB2 with ⟨vBl2, vBr2⟩
  iapply (curry5 (step_sendRow m K (.v 2) _ 2 (Fin.ext (k0_dev9_eq c)) rfl rfl rfl rfl rfl (VSB m c) rfl (recv_v m c 2))) $$ HE Sv2 vBl2 Dv2 HO; iintro ⟨Wv2, HO⟩
  iapply (op_local m K c NF_ks rfl (gatS_low 0 3) _) $$ HE kF3 HO; iintro kR3 kH3 zg03 HO
  iapply (op_local m K c NF_vs rfl (gatS_low 1 3) _) $$ HE vF3 HO; iintro vR3 vH3 zg13 HO
  iapply (op_round c 3 rfl (KS m c) (KSB m c) fun _ _ => rfl) $$ kR3 kA3; iintro kR3 kB3
  iapply (step_loadRow 3 rfl (VS m c)) $$ vR3; iintro vR3
  iapply wp_done
  iapply Hk $$ vBr2 Wv2 kH3 zg03 vH3 zg13 HO kR3 kB3 vR3

/-- Row 3's values rounded, row 3 sent. -/
theorem part16 (v5 : BitVec 32) (v8 : BitVec 32) (v9 : BitVec 32) {Φ : PUnit → sProp (MT nD τ sig Unit (Elt F) ℕ UU ℕ)} :
    Env m K ⊢ iprop(hasAny c vsbM (row 4 3) -∗ kB m c fullShare 3 -∗ Snd c (.k 3) -∗ hasAny (peer (.k 3) c) krM (row 4 3) -∗ Ow c (Owe c T6) -∗ Snd c (.v 3) -∗ hasAny (peer (.v 3) c) vrM (row 4 3)
      -∗ (kB m c fullShare.right 3 -∗ SndW c (.k 3) -∗ vB m c fullShare.right 3 -∗ SndW c (.v 3) -∗ Ow c (Owe c T8) -∗ Φ ⟨⟩)
      -∗ WP c (k0_part16 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 (k0_pay12 (rowOf (VS m c) 3))) Φ) := by
  simp only [k0_part16_eq_skeleton]; unfold k0_part16_skel
  simp only [Prog.lift, Prog.bind_op, Prog.bind_ret, Prog.pure_eq_ret]
  iintro #HE vA3 kB3 Sk3 Dk3 HO Sv3 Dv3 Hk
  iapply (step_loadAny 3 rfl) $$ vA3; iintro vA3
  iapply (step_storeRow 3 rfl (VSB m c) fun _ _ => rfl) $$ vA3; iintro vB3
  icases (has_share.1) $$ kB3 with ⟨kBl3, kBr3⟩
  iapply (curry5 (step_sendRow m K (.k 3) _ 3 (Fin.ext (k0_dev10_eq c)) rfl rfl rfl rfl rfl (KSB m c) rfl (recv_k m c 3))) $$ HE Sk3 kBl3 Dk3 HO; iintro ⟨Wk3, HO⟩
  icases (has_share.1) $$ vB3 with ⟨vBl3, vBr3⟩
  iapply (curry5 (step_sendRow m K (.v 3) _ 3 (Fin.ext (k0_dev11_eq c)) rfl rfl rfl rfl rfl (VSB m c) rfl (recv_v m c 3))) $$ HE Sv3 vBl3 Dv3 HO; iintro ⟨Wv3, HO⟩
  iapply wp_done
  iapply Hk $$ kBr3 Wk3 vBr3 Wv3 HO

end Cert.Attn
-- ==== Proof.Attend.lean ====
/-
The parts of the body that attend, write the device's own heads out and share them.
-/
module

public import proofs.«01_k».proof.Proof.Moves

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- A stretch of the four heads of the device's own group: fetched, attended to, written out and shared. -/
theorem part17 (v5 : BitVec 32) (v8 : BitVec 32) (v9 : BitVec 32) {Φ : PUnit → sProp (MT nD τ sig Unit (Elt F) ℕ UU ℕ)} :
    Env m K ⊢ iprop(qF m c 0 -∗ Ow c (Owe c T8) -∗ RcvW c (.k 0)
      -∗ (qR m c 0 -∗ qH m c 0 -∗ zero c (gatS 2 0) -∗ kP m c 0 -∗ zero c (semOf true (.k 0)) -∗ Ow c (Owe c T8) -∗ Φ ⟨⟩)
      -∗ WP c (k0_part17 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9) Φ) := by
  simp only [k0_part17_eq_skeleton]; unfold k0_part17_skel
  simp only [Prog.lift, Prog.bind_op, Prog.bind_ret, Prog.pure_eq_ret]
  iintro #HE qF0 HO Rk0 Hk
  iapply (op_local m K c NF_qs rfl (gatS_low 2 0) _) $$ HE qF0 HO; iintro qR0 qH0 zg20 HO
  iapply (op_recv m K c (.k 0) (P := kP m c 0) rfl NB_kr rfl _ (by decide)) $$ HE Rk0 HO; iintro kP0 zrk0 HO
  iapply wp_done
  iapply Hk $$ qR0 qH0 zg20 kP0 zrk0 HO

/-- A stretch of the four heads of the device's own group: fetched, attended to, written out and shared. -/
theorem part18 (v2 : BitVec 32) (v8 : BitVec 32) (v10 : BitVec 32) (v13 : BitVec 32) {Φ : PUnit → sProp (MT nD τ sig Unit (Elt F) ℕ UU ℕ)} :
    Env m K ⊢ iprop(RcvW c (.v 0) -∗ Ow c (Owe c T8) -∗ qR m c 0 -∗ kB m c fullShare.right 0 -∗ kP m c 0 -∗ vB m c fullShare.right 0 -∗ hasAny c ogM (row 16 (head c 0 0)) -∗ hasAny c og32M (row 16 (head c 0 0)) -∗ hasAny c oM (headSet (head c 0 0).val) -∗ zero c (stS (head c 0 0))
      -∗ (zero c (semOf true (.v 0)) -∗ Ow c (Owe c T8) -∗ qR m c 0 -∗ kB m c fullShare.right 0 -∗ kP m c 0 -∗ vB m c fullShare.right 0 -∗ vP m c 0 -∗ gR m c fullShare (head c 0 0) -∗ oF m c (head c 0 0) -∗ Φ ⟨⟩)
      -∗ WP c (k0_part18 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v13) Φ) := by
  simp only [k0_part18_eq_skeleton]; unfold k0_part18_skel
  simp only [Prog.lift, Prog.bind_op, Prog.bind_ret, Prog.pure_eq_ret]
  iintro #HE Rv0 HO qR0 kBr0 kP0 vBr0 gA00 wA00 oA00 zst00 Hk
  iapply (op_recv m K c (.v 0) (P := vP m c 0) rfl NB_vr rfl _ (by decide)) $$ HE Rv0 HO; iintro vP0 zrv0 HO
  iapply wp_seq
  iapply (loop_rule m c 0 _ rfl (trip1 m c _ _ _ _)) $$ qR0 kBr0 kP0 vBr0 vP0 gA00; iintro qR0 kBr0 kP0 vBr0 vP0 gR00
  iapply (op_widen m c (head c 0 0) (at4 c 0) fun _ => rfl) $$ gR00 wA00; iintro gR00 wR00
  iapply (op_out m c (head c 0 0) (at6 c 0) (at1 c 0) (at5 c 0)) $$ wR00 oA00 zst00; iintro oF00
  iapply wp_done
  iapply Hk $$ zrv0 HO qR0 kBr0 kP0 vBr0 vP0 gR00 oF00

/-- A stretch of the four heads of the device's own group: fetched, attended to, written out and shared. -/
theorem part19 (v2 : BitVec 32) (v5 : BitVec 32) (v8 : BitVec 32) (v9 : BitVec 32) (v11 : BitVec 32) {Φ : PUnit → sProp (MT nD τ sig Unit (Elt F) ℕ UU ℕ)} :
    Env m K ⊢ iprop(gR m c fullShare (head c 0 0) -∗ Snd c (.y 0) -∗ hasAny (peer (.y 0) c) ogM (row 16 (head c 0 0)) -∗ Ow c (Owe c T8) -∗ Snd c (.z 0) -∗ hasAny (peer (.z 0) c) ogM (row 16 (head c 0 0)) -∗ qF m c 1
      -∗ (SndW c (.y 0) -∗ SndW c (.z 0) -∗ qR m c 1 -∗ qH m c 1 -∗ zero c (gatS 2 1) -∗ Ow c (Owe c T10) -∗ Φ ⟨⟩)
      -∗ WP c (k0_part19 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v9 v11) Φ) := by
  simp only [k0_part19_eq_skeleton]; unfold k0_part19_skel
  simp only [Prog.lift, Prog.bind_op, Prog.bind_ret, Prog.pure_eq_ret]
  iintro #HE gR00 Sy0 Dy0 HO Sz0 Dz0 qF1 Hk
  icases (has_share.1) $$ gR00 with ⟨gl00, gr00⟩
  iapply (op_share m K c (.y 0) (head c 0 0) _ (Fin.ext (k0_dev12_eq c)) rfl rfl (at6 c 0) rfl (recv_y m c 0)) $$ HE Sy0 gl00 Dy0 HO; iintro Wy0 HO
  iapply (op_share m K c (.z 0) (head c 0 0) _ (Fin.ext (k0_dev13_eq c)) rfl rfl (at6 c 0) rfl (recv_z m c 0)) $$ HE Sz0 gr00 Dz0 HO; iintro Wz0 HO
  iapply (op_local m K c NF_qs rfl (gatS_low 2 1) _) $$ HE qF1 HO; iintro qR1 qH1 zg21 HO
  iapply wp_done
  iapply Hk $$ Wy0 Wz0 qR1 qH1 zg21 HO

/-- A stretch of the four heads of the device's own group: fetched, attended to, written out and shared. -/
theorem part20 (v5 : BitVec 32) (v8 : BitVec 32) (v9 : BitVec 32) (v13 : BitVec 32) {Φ : PUnit → sProp (MT nD τ sig Unit (Elt F) ℕ UU ℕ)} :
    Env m K ⊢ iprop(RcvW c (.k 1) -∗ Ow c (Owe c T10) -∗ RcvW c (.v 1) -∗ qR m c 1 -∗ kB m c fullShare.right 1 -∗ vB m c fullShare.right 1 -∗ hasAny c ogM (row 16 (head c 0 1)) -∗ hasAny c og32M (row 16 (head c 0 1))
      -∗ (zero c (semOf true (.k 1)) -∗ zero c (semOf true (.v 1)) -∗ Ow c (Owe c T10) -∗ qR m c 1 -∗ kB m c fullShare.right 1 -∗ kP m c 1 -∗ vB m c fullShare.right 1 -∗ vP m c 1 -∗ gR m c fullShare (head c 0 1) -∗ wR m c (head c 0 1) -∗ Φ ⟨⟩)
      -∗ WP c (k0_part20 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 v13) Φ) := by
  simp only [k0_part20_eq_skeleton]; unfold k0_part20_skel
  simp only [Prog.lift, Prog.bind_op, Prog.bind_ret, Prog.pure_eq_ret]
  iintro #HE Rk1 HO Rv1 qR1 kBr1 vBr1 gA01 wA01 Hk
  iapply (op_recv m K c (.k 1) (P := kP m c 1) rfl NB_kr rfl _ (by decide)) $$ HE Rk1 HO; iintro kP1 zrk1 HO
  iapply (op_recv m K c (.v 1) (P := vP m c 1) rfl NB_vr rfl _ (by decide)) $$ HE Rv1 HO; iintro vP1 zrv1 HO
  iapply wp_seq
  iapply (loop_rule m c 1 _ rfl (trip2 m c _ _ _ _)) $$ qR1 kBr1 kP1 vBr1 vP1 gA01; iintro qR1 kBr1 kP1 vBr1 vP1 gR01
  iapply (op_widen m c (head c 0 1) (at4 c 1) fun _ => rfl) $$ gR01 wA01; iintro gR01 wR01
  iapply wp_done
  iapply Hk $$ zrk1 zrv1 HO qR1 kBr1 kP1 vBr1 vP1 gR01 wR01

/-- A stretch of the four heads of the device's own group: fetched, attended to, written out and shared. -/
theorem part21 (v2 : BitVec 32) (v5 : BitVec 32) (v8 : BitVec 32) (v10 : BitVec 32) (v11 : BitVec 32) {Φ : PUnit → sProp (MT nD τ sig Unit (Elt F) ℕ UU ℕ)} :
    Env m K ⊢ iprop(wR m c (head c 0 1) -∗ hasAny c oM (headSet (head c 0 1).val) -∗ zero c (stS (head c 0 1)) -∗ gR m c fullShare (head c 0 1) -∗ Snd c (.y 1) -∗ hasAny (peer (.y 1) c) ogM (row 16 (head c 0 1)) -∗ Ow c (Owe c T10) -∗ Snd c (.z 1) -∗ hasAny (peer (.z 1) c) ogM (row 16 (head c 0 1))
      -∗ (oF m c (head c 0 1) -∗ SndW c (.y 1) -∗ SndW c (.z 1) -∗ Ow c (Owe c T12) -∗ Φ ⟨⟩)
      -∗ WP c (k0_part21 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v10 v11) Φ) := by
  simp only [k0_part21_eq_skeleton]; unfold k0_part21_skel
  simp only [Prog.lift, Prog.bind_op, Prog.bind_ret, Prog.pure_eq_ret]
  iintro #HE wR01 oA01 zst01 gR01 Sy1 Dy1 HO Sz1 Dz1 Hk
  iapply (op_out m c (head c 0 1) (at6 c 1) (at1 c 1) (at5 c 1)) $$ wR01 oA01 zst01; iintro oF01
  icases (has_share.1) $$ gR01 with ⟨gl01, gr01⟩
  iapply (op_share m K c (.y 1) (head c 0 1) _ (Fin.ext (k0_dev14_eq c)) rfl rfl (at6 c 1) rfl (recv_y m c 1)) $$ HE Sy1 gl01 Dy1 HO; iintro Wy1 HO
  iapply (op_share m K c (.z 1) (head c 0 1) _ (Fin.ext (k0_dev15_eq c)) rfl rfl (at6 c 1) rfl (recv_z m c 1)) $$ HE Sz1 gr01 Dz1 HO; iintro Wz1 HO
  iapply wp_done
  iapply Hk $$ oF01 Wy1 Wz1 HO

/-- A stretch of the four heads of the device's own group: fetched, attended to, written out and shared. -/
theorem part22 (v5 : BitVec 32) (v8 : BitVec 32) (v9 : BitVec 32) {Φ : PUnit → sProp (MT nD τ sig Unit (Elt F) ℕ UU ℕ)} :
    Env m K ⊢ iprop(qF m c 2 -∗ Ow c (Owe c T12) -∗ RcvW c (.k 2)
      -∗ (qR m c 2 -∗ qH m c 2 -∗ zero c (gatS 2 2) -∗ kP m c 2 -∗ zero c (semOf true (.k 2)) -∗ Ow c (Owe c T12) -∗ Φ ⟨⟩)
      -∗ WP c (k0_part22 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9) Φ) := by
  simp only [k0_part22_eq_skeleton]; unfold k0_part22_skel
  simp only [Prog.lift, Prog.bind_op, Prog.bind_ret, Prog.pure_eq_ret]
  iintro #HE qF2 HO Rk2 Hk
  iapply (op_local m K c NF_qs rfl (gatS_low 2 2) _) $$ HE qF2 HO; iintro qR2 qH2 zg22 HO
  iapply (op_recv m K c (.k 2) (P := kP m c 2) rfl NB_kr rfl _ (by decide)) $$ HE Rk2 HO; iintro kP2 zrk2 HO
  iapply wp_done
  iapply Hk $$ qR2 qH2 zg22 kP2 zrk2 HO

/-- A stretch of the four heads of the device's own group: fetched, attended to, written out and shared. -/
theorem part23 (v2 : BitVec 32) (v8 : BitVec 32) (v10 : BitVec 32) (v13 : BitVec 32) {Φ : PUnit → sProp (MT nD τ sig Unit (Elt F) ℕ UU ℕ)} :
    Env m K ⊢ iprop(RcvW c (.v 2) -∗ Ow c (Owe c T12) -∗ qR m c 2 -∗ kB m c fullShare.right 2 -∗ kP m c 2 -∗ vB m c fullShare.right 2 -∗ hasAny c ogM (row 16 (head c 0 2)) -∗ hasAny c og32M (row 16 (head c 0 2)) -∗ hasAny c oM (headSet (head c 0 2).val) -∗ zero c (stS (head c 0 2))
      -∗ (zero c (semOf true (.v 2)) -∗ Ow c (Owe c T12) -∗ qR m c 2 -∗ kB m c fullShare.right 2 -∗ kP m c 2 -∗ vB m c fullShare.right 2 -∗ vP m c 2 -∗ gR m c fullShare (head c 0 2) -∗ oF m c (head c 0 2) -∗ Φ ⟨⟩)
      -∗ WP c (k0_part23 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v13) Φ) := by
  simp only [k0_part23_eq_skeleton]; unfold k0_part23_skel
  simp only [Prog.lift, Prog.bind_op, Prog.bind_ret, Prog.pure_eq_ret]
  iintro #HE Rv2 HO qR2 kBr2 kP2 vBr2 gA02 wA02 oA02 zst02 Hk
  iapply (op_recv m K c (.v 2) (P := vP m c 2) rfl NB_vr rfl _ (by decide)) $$ HE Rv2 HO; iintro vP2 zrv2 HO
  iapply wp_seq
  iapply (loop_rule m c 2 _ rfl (trip3 m c _ _ _ _)) $$ qR2 kBr2 kP2 vBr2 vP2 gA02; iintro qR2 kBr2 kP2 vBr2 vP2 gR02
  iapply (op_widen m c (head c 0 2) (at4 c 2) fun _ => rfl) $$ gR02 wA02; iintro gR02 wR02
  iapply (op_out m c (head c 0 2) (at6 c 2) (at1 c 2) (at5 c 2)) $$ wR02 oA02 zst02; iintro oF02
  iapply wp_done
  iapply Hk $$ zrv2 HO qR2 kBr2 kP2 vBr2 vP2 gR02 oF02

/-- A stretch of the four heads of the device's own group: fetched, attended to, written out and shared. -/
theorem part24 (v2 : BitVec 32) (v5 : BitVec 32) (v8 : BitVec 32) (v9 : BitVec 32) (v11 : BitVec 32) {Φ : PUnit → sProp (MT nD τ sig Unit (Elt F) ℕ UU ℕ)} :
    Env m K ⊢ iprop(gR m c fullShare (head c 0 2) -∗ Snd c (.y 2) -∗ hasAny (peer (.y 2) c) ogM (row 16 (head c 0 2)) -∗ Ow c (Owe c T12) -∗ Snd c (.z 2) -∗ hasAny (peer (.z 2) c) ogM (row 16 (head c 0 2)) -∗ qF m c 3
      -∗ (SndW c (.y 2) -∗ SndW c (.z 2) -∗ qR m c 3 -∗ qH m c 3 -∗ zero c (gatS 2 3) -∗ Ow c (Owe c T14) -∗ Φ ⟨⟩)
      -∗ WP c (k0_part24 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v9 v11) Φ) := by
  simp only [k0_part24_eq_skeleton]; unfold k0_part24_skel
  simp only [Prog.lift, Prog.bind_op, Prog.bind_ret, Prog.pure_eq_ret]
  iintro #HE gR02 Sy2 Dy2 HO Sz2 Dz2 qF3 Hk
  icases (has_share.1) $$ gR02 with ⟨gl02, gr02⟩
  iapply (op_share m K c (.y 2) (head c 0 2) _ (Fin.ext (k0_dev16_eq c)) rfl rfl (at6 c 2) rfl (recv_y m c 2)) $$ HE Sy2 gl02 Dy2 HO; iintro Wy2 HO
  iapply (op_share m K c (.z 2) (head c 0 2) _ (Fin.ext (k0_dev17_eq c)) rfl rfl (at6 c 2) rfl (recv_z m c 2)) $$ HE Sz2 gr02 Dz2 HO; iintro Wz2 HO
  iapply (op_local m K c NF_qs rfl (gatS_low 2 3) _) $$ HE qF3 HO; iintro qR3 qH3 zg23 HO
  iapply wp_done
  iapply Hk $$ Wy2 Wz2 qR3 qH3 zg23 HO

/-- A stretch of the four heads of the device's own group: fetched, attended to, written out and shared. -/
theorem part25 (v5 : BitVec 32) (v8 : BitVec 32) (v9 : BitVec 32) (v13 : BitVec 32) {Φ : PUnit → sProp (MT nD τ sig Unit (Elt F) ℕ UU ℕ)} :
    Env m K ⊢ iprop(RcvW c (.k 3) -∗ Ow c (Owe c T14) -∗ RcvW c (.v 3) -∗ qR m c 3 -∗ kB m c fullShare.right 3 -∗ vB m c fullShare.right 3 -∗ hasAny c ogM (row 16 (head c 0 3)) -∗ hasAny c og32M (row 16 (head c 0 3))
      -∗ (zero c (semOf true (.k 3)) -∗ zero c (semOf true (.v 3)) -∗ Ow c (Owe c T14) -∗ qR m c 3 -∗ kB m c fullShare.right 3 -∗ kP m c 3 -∗ vB m c fullShare.right 3 -∗ vP m c 3 -∗ gR m c fullShare (head c 0 3) -∗ wR m c (head c 0 3) -∗ Φ ⟨⟩)
      -∗ WP c (k0_part25 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v5 v8 v9 v13) Φ) := by
  simp only [k0_part25_eq_skeleton]; unfold k0_part25_skel
  simp only [Prog.lift, Prog.bind_op, Prog.bind_ret, Prog.pure_eq_ret]
  iintro #HE Rk3 HO Rv3 qR3 kBr3 vBr3 gA03 wA03 Hk
  iapply (op_recv m K c (.k 3) (P := kP m c 3) rfl NB_kr rfl _ (by decide)) $$ HE Rk3 HO; iintro kP3 zrk3 HO
  iapply (op_recv m K c (.v 3) (P := vP m c 3) rfl NB_vr rfl _ (by decide)) $$ HE Rv3 HO; iintro vP3 zrv3 HO
  iapply wp_seq
  iapply (loop_rule m c 3 _ rfl (trip4 m c _ _ _ _)) $$ qR3 kBr3 kP3 vBr3 vP3 gA03; iintro qR3 kBr3 kP3 vBr3 vP3 gR03
  iapply (op_widen m c (head c 0 3) (at4 c 3) fun _ => rfl) $$ gR03 wA03; iintro gR03 wR03
  iapply wp_done
  iapply Hk $$ zrk3 zrv3 HO qR3 kBr3 kP3 vBr3 vP3 gR03 wR03

/-- A stretch of the four heads of the device's own group: fetched, attended to, written out and shared. -/
theorem part26 (v2 : BitVec 32) (v5 : BitVec 32) (v8 : BitVec 32) (v10 : BitVec 32) (v11 : BitVec 32) (v16 : BitVec 32) {Φ : (BitVec 32) → sProp (MT nD τ sig Unit (Elt F) ℕ UU ℕ)} :
    Env m K ⊢ iprop(wR m c (head c 0 3) -∗ hasAny c oM (headSet (head c 0 3).val) -∗ zero c (stS (head c 0 3)) -∗ gR m c fullShare (head c 0 3) -∗ Snd c (.y 3) -∗ hasAny (peer (.y 3) c) ogM (row 16 (head c 0 3)) -∗ Ow c (Owe c T14) -∗ Snd c (.z 3) -∗ hasAny (peer (.z 3) c) ogM (row 16 (head c 0 3))
      -∗ (∀ r, oF m c (head c 0 3) -∗ SndW c (.y 3) -∗ SndW c (.z 3) -∗ Ow c (Owe c T16) -∗ Φ r)
      -∗ WP c (k0_part26 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v10 v11 v16) Φ) := by
  simp only [k0_part26_eq_skeleton]; unfold k0_part26_skel
  simp only [Prog.lift, Prog.bind_op, Prog.bind_ret, Prog.pure_eq_ret]
  iintro #HE wR03 oA03 zst03 gR03 Sy3 Dy3 HO Sz3 Dz3 Hk
  iapply (op_out m c (head c 0 3) (at6 c 3) (at1 c 3) (at5 c 3)) $$ wR03 oA03 zst03; iintro oF03
  icases (has_share.1) $$ gR03 with ⟨gl03, gr03⟩
  iapply (op_share m K c (.y 3) (head c 0 3) _ (Fin.ext (k0_dev18_eq c)) rfl rfl (at6 c 3) rfl (recv_y m c 3)) $$ HE Sy3 gl03 Dy3 HO; iintro Wy3 HO
  iapply (op_share m K c (.z 3) (head c 0 3) _ (Fin.ext (k0_dev19_eq c)) rfl rfl (at6 c 3) rfl (recv_z m c 3)) $$ HE Sz3 gr03 Dz3 HO; iintro Wz3 HO
  iapply wp_done
  iapply Hk $$ %_ oF03 Wy3 Wz3 HO

end Cert.Attn
-- ==== Proof.Gather.lean ====
/-
The parts of the body that gather the other heads and write them out.
-/
module

public import proofs.«01_k».proof.Proof.Moves

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- A stretch of the twelve gathered heads: received, widened, written out, some of them shared on. -/
theorem part27 (v2 : BitVec 32) (v5 : BitVec 32) (v8 : BitVec 32) (v10 : BitVec 32) (v631 : BitVec 32) {Φ : (Σ' (v662 : BitVec 32), BitVec 32) → sProp (MT nD τ sig Unit (Elt F) ℕ UU ℕ)} :
    Env m K ⊢ iprop(RcvW c (.y 0) -∗ Ow c (Owe c T16) -∗ hasAny c og32M (row 16 (head c 2 0)) -∗ hasAny c oM (headSet (head c 2 0).val) -∗ zero c (stS (head c 2 0))
      -∗ (∀ r, zero c (semOf true (.y 0)) -∗ Ow c (Owe c T16) -∗ gR m c fullShare (head c 2 0) -∗ oF m c (head c 2 0) -∗ Φ r)
      -∗ WP c (k0_part27 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v10 v631) Φ) := by
  simp only [k0_part27_eq_skeleton]; unfold k0_part27_skel
  simp only [Prog.lift, Prog.bind_op, Prog.bind_ret, Prog.pure_eq_ret]
  iintro #HE Ry0 HO wA20 oA20 zst20 Hk
  iapply (op_recv m K c (.y 0) (P := gR m c fullShare (head c 2 0)) rfl NB_og rfl _ (by decide)) $$ HE Ry0 HO; iintro gR20 zry0 HO
  iapply (op_widen m c (head c 2 0) (at14 c 0) fun _ => rfl) $$ gR20 wA20; iintro gR20 wR20
  iapply (op_out m c (head c 2 0) (at13 c 0) (at16 c 0) (at15 c 0)) $$ wR20 oA20 zst20; iintro oF20
  iapply wp_done
  iapply Hk $$ %_ zry0 HO gR20 oF20

/-- A stretch of the twelve gathered heads: received, widened, written out, some of them shared on. -/
theorem part28 (v2 : BitVec 32) (v8 : BitVec 32) (v10 : BitVec 32) (v11 : BitVec 32) (v16 : BitVec 32) (v662 : BitVec 32) (c1_i32_630 : BitVec 32) {Φ : PUnit → sProp (MT nD τ sig Unit (Elt F) ℕ UU ℕ)} :
    Env m K ⊢ iprop(Snd c (.zf 0) -∗ gR m c fullShare (head c 2 0) -∗ hasAny (peer (.zf 0) c) ogM (row 16 (head c 2 0)) -∗ Ow c (Owe c T16) -∗ RcvW c (.y 1) -∗ hasAny c og32M (row 16 (head c 2 1))
      -∗ (SndW c (.zf 0) -∗ zero c (semOf true (.y 1)) -∗ Ow c (Owe c T17) -∗ gR m c fullShare (head c 2 1) -∗ wR m c (head c 2 1) -∗ Φ ⟨⟩)
      -∗ WP c (k0_part28 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v11 v16 v662 c1_i32_630) Φ) := by
  simp only [k0_part28_eq_skeleton]; unfold k0_part28_skel
  simp only [Prog.lift, Prog.bind_op, Prog.bind_ret, Prog.pure_eq_ret]
  iintro #HE Szf0 gR20 Dzf0 HO Ry1 wA21 Hk
  iapply (op_share m K c (.zf 0) (head c 2 0) _ (Fin.ext (k0_dev20_eq c)) rfl rfl (at13 c 0) rfl (recv_zf m c 0)) $$ HE Szf0 gR20 Dzf0 HO; iintro Wzf0 HO
  iapply (op_recv m K c (.y 1) (P := gR m c fullShare (head c 2 1)) rfl NB_og rfl _ (by decide)) $$ HE Ry1 HO; iintro gR21 zry1 HO
  iapply (op_widen m c (head c 2 1) (at14 c 1) fun _ => rfl) $$ gR21 wA21; iintro gR21 wR21
  iapply wp_done
  iapply Hk $$ Wzf0 zry1 HO gR21 wR21

/-- A stretch of the twelve gathered heads: received, widened, written out, some of them shared on. -/
theorem part29 (v2 : BitVec 32) (v5 : BitVec 32) (v11 : BitVec 32) (v19 : BitVec 32) {Φ : (BitVec 32) → sProp (MT nD τ sig Unit (Elt F) ℕ UU ℕ)} :
    Env m K ⊢ iprop(wR m c (head c 2 1) -∗ hasAny c oM (headSet (head c 2 1).val) -∗ zero c (stS (head c 2 1)) -∗ Snd c (.zf 1) -∗ gR m c fullShare (head c 2 1) -∗ hasAny (peer (.zf 1) c) ogM (row 16 (head c 2 1)) -∗ Ow c (Owe c T17) -∗ RcvW c (.z 2)
      -∗ (∀ r, oF m c (head c 2 1) -∗ SndW c (.zf 1) -∗ gR m c fullShare (head c 1 2) -∗ zero c (semOf true (.z 2)) -∗ Ow c (Owe c T18) -∗ Φ r)
      -∗ WP c (k0_part29 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v11 v19) Φ) := by
  simp only [k0_part29_eq_skeleton]; unfold k0_part29_skel
  simp only [Prog.lift, Prog.bind_op, Prog.bind_ret, Prog.pure_eq_ret]
  iintro #HE wR21 oA21 zst21 Szf1 gR21 Dzf1 HO Rz2 Hk
  iapply (op_out m c (head c 2 1) (at13 c 1) (at16 c 1) (at15 c 1)) $$ wR21 oA21 zst21; iintro oF21
  iapply (op_share m K c (.zf 1) (head c 2 1) _ (Fin.ext (k0_dev21_eq c)) rfl rfl (at13 c 1) rfl (recv_zf m c 1)) $$ HE Szf1 gR21 Dzf1 HO; iintro Wzf1 HO
  iapply (op_recv m K c (.z 2) (P := gR m c fullShare (head c 1 2)) rfl NB_og rfl _ (by decide)) $$ HE Rz2 HO; iintro gR12 zrz2 HO
  iapply wp_done
  iapply Hk $$ %_ oF21 Wzf1 gR12 zrz2 HO

/-- A stretch of the twelve gathered heads: received, widened, written out, some of them shared on. -/
theorem part30 (v2 : BitVec 32) (v8 : BitVec 32) (v10 : BitVec 32) (v19 : BitVec 32) (v716 : BitVec 32) {Φ : (Σ' (v758 : BitVec 32) (v760 : BitVec 32), BitVec 32) → sProp (MT nD τ sig Unit (Elt F) ℕ UU ℕ)} :
    Env m K ⊢ iprop(gR m c fullShare (head c 1 2) -∗ hasAny c og32M (row 16 (head c 1 2)) -∗ hasAny c oM (headSet (head c 1 2).val) -∗ zero c (stS (head c 1 2)) -∗ Snd c (.yf 0) -∗ hasAny (peer (.yf 0) c) ogM (row 16 (head c 1 2)) -∗ Ow c (Owe c T18)
      -∗ (∀ r, oF m c (head c 1 2) -∗ SndW c (.yf 0) -∗ Ow c (Owe c T19) -∗ Φ r)
      -∗ WP c (k0_part30 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v19 v716) Φ) := by
  simp only [k0_part30_eq_skeleton]; unfold k0_part30_skel
  simp only [Prog.lift, Prog.bind_op, Prog.bind_ret, Prog.pure_eq_ret]
  iintro #HE gR12 wA12 oA12 zst12 Syf0 Dyf0 HO Hk
  iapply (op_widen m c (head c 1 2) (at18 c 2) fun _ => rfl) $$ gR12 wA12; iintro gR12 wR12
  iapply (op_out m c (head c 1 2) (at17 c 2) (at20 c 2) (at19 c 2)) $$ wR12 oA12 zst12; iintro oF12
  iapply (op_share m K c (.yf 0) (head c 1 2) _ (Fin.ext (k0_dev22_eq c)) rfl rfl (at17 c 2) rfl (recv_yf m c 0)) $$ HE Syf0 gR12 Dyf0 HO; iintro Wyf0 HO
  iapply wp_done
  iapply Hk $$ %_ oF12 Wyf0 HO

/-- A stretch of the twelve gathered heads: received, widened, written out, some of them shared on. -/
theorem part31 (v2 : BitVec 32) (v5 : BitVec 32) (v8 : BitVec 32) (v10 : BitVec 32) (v11 : BitVec 32) (v758 : BitVec 32) (v760 : BitVec 32) (c2_i32_703 : BitVec 32) {Φ : PUnit → sProp (MT nD τ sig Unit (Elt F) ℕ UU ℕ)} :
    Env m K ⊢ iprop(RcvW c (.z 3) -∗ Ow c (Owe c T19) -∗ hasAny c og32M (row 16 (head c 1 3)) -∗ hasAny c oM (headSet (head c 1 3).val) -∗ zero c (stS (head c 1 3))
      -∗ (zero c (semOf true (.z 3)) -∗ Ow c (Owe c T19) -∗ gR m c fullShare (head c 1 3) -∗ oF m c (head c 1 3) -∗ Φ ⟨⟩)
      -∗ WP c (k0_part31 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v10 v11 v758 v760 c2_i32_703) Φ) := by
  simp only [k0_part31_eq_skeleton]; unfold k0_part31_skel
  simp only [Prog.lift, Prog.bind_op, Prog.bind_ret, Prog.pure_eq_ret]
  iintro #HE Rz3 HO wA13 oA13 zst13 Hk
  iapply (op_recv m K c (.z 3) (P := gR m c fullShare (head c 1 3)) rfl NB_og rfl _ (by decide)) $$ HE Rz3 HO; iintro gR13 zrz3 HO
  iapply (op_widen m c (head c 1 3) (at18 c 3) fun _ => rfl) $$ gR13 wA13; iintro gR13 wR13
  iapply (op_out m c (head c 1 3) (at17 c 3) (at20 c 3) (at19 c 3)) $$ wR13 oA13 zst13; iintro oF13
  iapply wp_done
  iapply Hk $$ zrz3 HO gR13 oF13

/-- A stretch of the twelve gathered heads: received, widened, written out, some of them shared on. -/
theorem part32 (v2 : BitVec 32) (v8 : BitVec 32) (v10 : BitVec 32) (v16 : BitVec 32) {Φ : (BitVec 32) → sProp (MT nD τ sig Unit (Elt F) ℕ UU ℕ)} :
    Env m K ⊢ iprop(Snd c (.yf 1) -∗ gR m c fullShare (head c 1 3) -∗ hasAny (peer (.yf 1) c) ogM (row 16 (head c 1 3)) -∗ Ow c (Owe c T19) -∗ RcvW c (.y 2) -∗ hasAny c og32M (row 16 (head c 2 2)) -∗ hasAny c oM (headSet (head c 2 2).val) -∗ zero c (stS (head c 2 2))
      -∗ (∀ r, SndW c (.yf 1) -∗ zero c (semOf true (.y 2)) -∗ Ow c (Owe c T20) -∗ gR m c fullShare (head c 2 2) -∗ oF m c (head c 2 2) -∗ Φ r)
      -∗ WP c (k0_part32 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v16) Φ) := by
  simp only [k0_part32_eq_skeleton]; unfold k0_part32_skel
  simp only [Prog.lift, Prog.bind_op, Prog.bind_ret, Prog.pure_eq_ret]
  iintro #HE Syf1 gR13 Dyf1 HO Ry2 wA22 oA22 zst22 Hk
  iapply (op_share m K c (.yf 1) (head c 1 3) _ (Fin.ext (k0_dev23_eq c)) rfl rfl (at17 c 3) rfl (recv_yf m c 1)) $$ HE Syf1 gR13 Dyf1 HO; iintro Wyf1 HO
  iapply (op_recv m K c (.y 2) (P := gR m c fullShare (head c 2 2)) rfl NB_og rfl _ (by decide)) $$ HE Ry2 HO; iintro gR22 zry2 HO
  iapply (op_widen m c (head c 2 2) (at14 c 2) fun _ => rfl) $$ gR22 wA22; iintro gR22 wR22
  iapply (op_out m c (head c 2 2) (at13 c 2) (at16 c 2) (at15 c 2)) $$ wR22 oA22 zst22; iintro oF22
  iapply wp_done
  iapply Hk $$ %_ Wyf1 zry2 HO gR22 oF22

/-- A stretch of the twelve gathered heads: received, widened, written out, some of them shared on. -/
theorem part33 (v2 : BitVec 32) (v8 : BitVec 32) (v10 : BitVec 32) (v19 : BitVec 32) (v827 : BitVec 32) {Φ : (Σ' (v856 : BitVec 32), BitVec 32) → sProp (MT nD τ sig Unit (Elt F) ℕ UU ℕ)} :
    Env m K ⊢ iprop(RcvW c (.y 3) -∗ Ow c (Owe c T20) -∗ hasAny c og32M (row 16 (head c 2 3)) -∗ hasAny c oM (headSet (head c 2 3).val) -∗ zero c (stS (head c 2 3))
      -∗ (∀ r, zero c (semOf true (.y 3)) -∗ Ow c (Owe c T20) -∗ gR m c fullShare (head c 2 3) -∗ oF m c (head c 2 3) -∗ Φ r)
      -∗ WP c (k0_part33 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v19 v827) Φ) := by
  simp only [k0_part33_eq_skeleton]; unfold k0_part33_skel
  simp only [Prog.lift, Prog.bind_op, Prog.bind_ret, Prog.pure_eq_ret]
  iintro #HE Ry3 HO wA23 oA23 zst23 Hk
  iapply (op_recv m K c (.y 3) (P := gR m c fullShare (head c 2 3)) rfl NB_og rfl _ (by decide)) $$ HE Ry3 HO; iintro gR23 zry3 HO
  iapply (op_widen m c (head c 2 3) (at14 c 3) fun _ => rfl) $$ gR23 wA23; iintro gR23 wR23
  iapply (op_out m c (head c 2 3) (at13 c 3) (at16 c 3) (at15 c 3)) $$ wR23 oA23 zst23; iintro oF23
  iapply wp_done
  iapply Hk $$ %_ zry3 HO gR23 oF23

/-- A stretch of the twelve gathered heads: received, widened, written out, some of them shared on. -/
theorem part34 (v2 : BitVec 32) (v5 : BitVec 32) (v11 : BitVec 32) (v19 : BitVec 32) (v856 : BitVec 32) (v858 : BitVec 32) {Φ : (BitVec 32) → sProp (MT nD τ sig Unit (Elt F) ℕ UU ℕ)} :
    Env m K ⊢ iprop(RcvW c (.z 0) -∗ Ow c (Owe c T20) -∗ hasAny c og32M (row 16 (head c 1 0)) -∗ hasAny c oM (headSet (head c 1 0).val) -∗ zero c (stS (head c 1 0))
      -∗ (∀ r, zero c (semOf true (.z 0)) -∗ Ow c (Owe c T20) -∗ gR m c fullShare (head c 1 0) -∗ oF m c (head c 1 0) -∗ Φ r)
      -∗ WP c (k0_part34 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v11 v19 v856 v858) Φ) := by
  simp only [k0_part34_eq_skeleton]; unfold k0_part34_skel
  simp only [Prog.lift, Prog.bind_op, Prog.bind_ret, Prog.pure_eq_ret]
  iintro #HE Rz0 HO wA10 oA10 zst10 Hk
  iapply (op_recv m K c (.z 0) (P := gR m c fullShare (head c 1 0)) rfl NB_og rfl _ (by decide)) $$ HE Rz0 HO; iintro gR10 zrz0 HO
  iapply (op_widen m c (head c 1 0) (at18 c 0) fun _ => rfl) $$ gR10 wA10; iintro gR10 wR10
  iapply (op_out m c (head c 1 0) (at17 c 0) (at20 c 0) (at19 c 0)) $$ wR10 oA10 zst10; iintro oF10
  iapply wp_done
  iapply Hk $$ %_ zrz0 HO gR10 oF10

/-- A stretch of the twelve gathered heads: received, widened, written out, some of them shared on. -/
theorem part35 (v2 : BitVec 32) (v5 : BitVec 32) (v11 : BitVec 32) (v23 : BitVec 32) (v884 : BitVec 32) {Φ : (BitVec 32) → sProp (MT nD τ sig Unit (Elt F) ℕ UU ℕ)} :
    Env m K ⊢ iprop(RcvW c (.z 1) -∗ Ow c (Owe c T20) -∗ hasAny c og32M (row 16 (head c 1 1)) -∗ hasAny c oM (headSet (head c 1 1).val) -∗ zero c (stS (head c 1 1))
      -∗ (∀ r, zero c (semOf true (.z 1)) -∗ Ow c (Owe c T20) -∗ gR m c fullShare (head c 1 1) -∗ oF m c (head c 1 1) -∗ Φ r)
      -∗ WP c (k0_part35 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v11 v23 v884) Φ) := by
  simp only [k0_part35_eq_skeleton]; unfold k0_part35_skel
  simp only [Prog.lift, Prog.bind_op, Prog.bind_ret, Prog.pure_eq_ret]
  iintro #HE Rz1 HO wA11 oA11 zst11 Hk
  iapply (op_recv m K c (.z 1) (P := gR m c fullShare (head c 1 1)) rfl NB_og rfl _ (by decide)) $$ HE Rz1 HO; iintro gR11 zrz1 HO
  iapply (op_widen m c (head c 1 1) (at18 c 1) fun _ => rfl) $$ gR11 wA11; iintro gR11 wR11
  iapply (op_out m c (head c 1 1) (at17 c 1) (at20 c 1) (at19 c 1)) $$ wR11 oA11 zst11; iintro oF11
  iapply wp_done
  iapply Hk $$ %_ zrz1 HO gR11 oF11

/-- A stretch of the twelve gathered heads: received, widened, written out, some of them shared on. -/
theorem part36 (v2 : BitVec 32) (v5 : BitVec 32) (v11 : BitVec 32) (v23 : BitVec 32) (v912 : BitVec 32) {Φ : (FVec F S1024x128 .f32) → sProp (MT nD τ sig Unit (Elt F) ℕ UU ℕ)} :
    Env m K ⊢ iprop(RcvW c (.zf 0) -∗ Ow c (Owe c T20) -∗ hasAny c og32M (row 16 (head c 3 0)) -∗ hasAny c oM (headSet (head c 3 0).val) -∗ zero c (stS (head c 3 0)) -∗ RcvW c (.zf 1)
      -∗ (zero c (semOf true (.zf 0)) -∗ gR m c fullShare (head c 3 0) -∗ oF m c (head c 3 0) -∗ zero c (semOf true (.zf 1)) -∗ Ow c (Owe c T20) -∗ gR m c fullShare (head c 3 1) -∗ Φ (k0_pay31 (rowOf (OG m c) (head c 3 1))))
      -∗ WP c (k0_part36 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v11 v23 v912) Φ) := by
  simp only [k0_part36_eq_skeleton]; unfold k0_part36_skel
  simp only [Prog.lift, Prog.bind_op, Prog.bind_ret, Prog.pure_eq_ret]
  iintro #HE Rzf0 HO wA30 oA30 zst30 Rzf1 Hk
  iapply (op_recv m K c (.zf 0) (P := gR m c fullShare (head c 3 0)) rfl NB_og rfl _ (by decide)) $$ HE Rzf0 HO; iintro gR30 zrzf0 HO
  iapply (op_widen m c (head c 3 0) (at22 c 0) fun _ => rfl) $$ gR30 wA30; iintro gR30 wR30
  iapply (op_out m c (head c 3 0) (at21 c 0) (at24 c 0) (at23 c 0)) $$ wR30 oA30 zst30; iintro oF30
  iapply (op_recv m K c (.zf 1) (P := gR m c fullShare (head c 3 1)) rfl NB_og rfl _ (by decide)) $$ HE Rzf1 HO; iintro gR31 zrzf1 HO
  iapply (step_loadRow (head c 3 1) (at22 c 1) (OG m c)) $$ gR31; iintro gR31
  iapply wp_done
  iapply Hk $$ zrzf0 gR30 oF30 zrzf1 HO gR31

/-- A stretch of the twelve gathered heads: received, widened, written out, some of them shared on. -/
theorem part37 (v2 : BitVec 32) (v8 : BitVec 32) (v10 : BitVec 32) (v23 : BitVec 32) {Φ : PUnit → sProp (MT nD τ sig Unit (Elt F) ℕ UU ℕ)} :
    Env m K ⊢ iprop(hasAny c og32M (row 16 (head c 3 1)) -∗ hasAny c oM (headSet (head c 3 1).val) -∗ zero c (stS (head c 3 1)) -∗ RcvW c (.yf 0) -∗ Ow c (Owe c T20) -∗ hasAny c og32M (row 16 (head c 3 2))
      -∗ (oF m c (head c 3 1) -∗ zero c (semOf true (.yf 0)) -∗ Ow c (Owe c T20) -∗ gR m c fullShare (head c 3 2) -∗ wR m c (head c 3 2) -∗ Φ ⟨⟩)
      -∗ WP c (k0_part37 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v23 (k0_pay31 (rowOf (OG m c) (head c 3 1)))) Φ) := by
  simp only [k0_part37_eq_skeleton]; unfold k0_part37_skel
  simp only [Prog.lift, Prog.bind_op, Prog.bind_ret, Prog.pure_eq_ret]
  iintro #HE wA31 oA31 zst31 Ryf0 HO wA32 Hk
  iapply (step_loadAny (head c 3 1) (at22 c 1)) $$ wA31; iintro wA31
  iapply (step_storeRow (head c 3 1) (at22 c 1) (OG32 m c) fun _ _ => rfl) $$ wA31; iintro wR31
  iapply (op_out m c (head c 3 1) (at21 c 1) (at24 c 1) (at23 c 1)) $$ wR31 oA31 zst31; iintro oF31
  iapply (op_recv m K c (.yf 0) (P := gR m c fullShare (head c 3 2)) rfl NB_og rfl _ (by decide)) $$ HE Ryf0 HO; iintro gR32 zryf0 HO
  iapply (op_widen m c (head c 3 2) (at22 c 2) fun _ => rfl) $$ gR32 wA32; iintro gR32 wR32
  iapply wp_done
  iapply Hk $$ oF31 zryf0 HO gR32 wR32

/-- A stretch of the twelve gathered heads: received, widened, written out, some of them shared on. -/
theorem part38 (v2 : BitVec 32) (v8 : BitVec 32) (v10 : BitVec 32) (v23 : BitVec 32) {Φ : PUnit → sProp (MT nD τ sig Unit (Elt F) ℕ UU ℕ)} :
    Env m K ⊢ iprop(wR m c (head c 3 2) -∗ hasAny c oM (headSet (head c 3 2).val) -∗ zero c (stS (head c 3 2)) -∗ RcvW c (.yf 1) -∗ Ow c (Owe c T20) -∗ hasAny c og32M (row 16 (head c 3 3))
      -∗ (oF m c (head c 3 2) -∗ zero c (semOf true (.yf 1)) -∗ Ow c (Owe c T20) -∗ gR m c fullShare (head c 3 3) -∗ wR m c (head c 3 3) -∗ Φ ⟨⟩)
      -∗ WP c (k0_part38 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v8 v10 v23) Φ) := by
  simp only [k0_part38_eq_skeleton]; unfold k0_part38_skel
  simp only [Prog.lift, Prog.bind_op, Prog.bind_ret, Prog.pure_eq_ret]
  iintro #HE wR32 oA32 zst32 Ryf1 HO wA33 Hk
  iapply (op_out m c (head c 3 2) (at21 c 2) (at24 c 2) (at23 c 2)) $$ wR32 oA32 zst32; iintro oF32
  iapply (op_recv m K c (.yf 1) (P := gR m c fullShare (head c 3 3)) rfl NB_og rfl _ (by decide)) $$ HE Ryf1 HO; iintro gR33 zryf1 HO
  iapply (op_widen m c (head c 3 3) (at22 c 3) fun _ => rfl) $$ gR33 wA33; iintro gR33 wR33
  iapply wp_done
  iapply Hk $$ oF32 zryf1 HO gR33 wR33

end Cert.Attn
-- ==== Proof.Drain.lean ====
/-
The parts of the body that wait for everything still under way.
-/
module

public import proofs.«01_k».proof.Proof.Moves

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- Waits for the sources of copies. -/
theorem part39 {Φ : PUnit → sProp (MT nD τ sig Unit (Elt F) ℕ UU ℕ)} :
    Env m K ⊢ iprop(wR m c (head c 3 3) -∗ hasAny c oM (headSet (head c 3 3).val) -∗ zero c (stS (head c 3 3)) -∗ SndW c (.k 0) -∗ Ow c (Owe c T20) -∗ SndW c (.v 0) -∗ SndW c (.k 1)
      -∗ (oF m c (head c 3 3) -∗ kB m c fullShare.left 0 -∗ zero c (semOf false (.k 0)) -∗ vB m c fullShare.left 0 -∗ zero c (semOf false (.v 0)) -∗ kB m c fullShare.left 1 -∗ zero c (semOf false (.k 1)) -∗ Ow c (Owe c T20) -∗ Φ ⟨⟩)
      -∗ WP c (k0_part39 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part39_eq_skeleton]; unfold k0_part39_skel
  simp only [Prog.lift, Prog.bind_op, Prog.bind_ret, Prog.pure_eq_ret]
  iintro #HE wR33 oA33 zst33 Wk0 HO Wv0 Wk1 Hk
  iapply (op_out m c (head c 3 3) (at21 c 3) (at24 c 3) (at23 c 3)) $$ wR33 oA33 zst33; iintro oF33
  iapply (op_sent m K c (.k 0) (P := kB m c fullShare.left 0) rfl NB_kb rfl _ (by decide)) $$ HE Wk0 HO; iintro kBl0 zsk0 HO
  iapply (op_sent m K c (.v 0) (P := vB m c fullShare.left 0) rfl NB_vb rfl _ (by decide)) $$ HE Wv0 HO; iintro vBl0 zsv0 HO
  iapply (op_sent m K c (.k 1) (P := kB m c fullShare.left 1) rfl NB_kb rfl _ (by decide)) $$ HE Wk1 HO; iintro kBl1 zsk1 HO
  iapply wp_done
  iapply Hk $$ oF33 kBl0 zsk0 vBl0 zsv0 kBl1 zsk1 HO

/-- Waits for the sources of copies. -/
theorem part40 {Φ : PUnit → sProp (MT nD τ sig Unit (Elt F) ℕ UU ℕ)} :
    Env m K ⊢ iprop(SndW c (.v 1) -∗ Ow c (Owe c T20) -∗ SndW c (.k 2) -∗ SndW c (.v 2) -∗ SndW c (.k 3)
      -∗ (vB m c fullShare.left 1 -∗ zero c (semOf false (.v 1)) -∗ kB m c fullShare.left 2 -∗ zero c (semOf false (.k 2)) -∗ vB m c fullShare.left 2 -∗ zero c (semOf false (.v 2)) -∗ kB m c fullShare.left 3 -∗ zero c (semOf false (.k 3)) -∗ Ow c (Owe c T20) -∗ Φ ⟨⟩)
      -∗ WP c (k0_part40 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Φ) := by
  simp only [k0_part40_eq_skeleton]; unfold k0_part40_skel
  simp only [Prog.lift, Prog.bind_op, Prog.bind_ret, Prog.pure_eq_ret]
  iintro #HE Wv1 HO Wk2 Wv2 Wk3 Hk
  iapply (op_sent m K c (.v 1) (P := vB m c fullShare.left 1) rfl NB_vb rfl _ (by decide)) $$ HE Wv1 HO; iintro vBl1 zsv1 HO
  iapply (op_sent m K c (.k 2) (P := kB m c fullShare.left 2) rfl NB_kb rfl _ (by decide)) $$ HE Wk2 HO; iintro kBl2 zsk2 HO
  iapply (op_sent m K c (.v 2) (P := vB m c fullShare.left 2) rfl NB_vb rfl _ (by decide)) $$ HE Wv2 HO; iintro vBl2 zsv2 HO
  iapply (op_sent m K c (.k 3) (P := kB m c fullShare.left 3) rfl NB_kb rfl _ (by decide)) $$ HE Wk3 HO; iintro kBl3 zsk3 HO
  iapply wp_done
  iapply Hk $$ vBl1 zsv1 kBl2 zsk2 vBl2 zsv2 kBl3 zsk3 HO

/-- Waits for the sources of copies. -/
theorem part41 {Φ : PUnit → sProp (MT nD τ sig Unit (Elt F) ℕ UU ℕ)} :
    Env m K ⊢ iprop(SndW c (.v 3) -∗ Ow c (Owe c T20) -∗ SndW c (.y 0) -∗ SndW c (.z 0) -∗ SndW c (.y 1)
      -∗ (vB m c fullShare.left 3 -∗ zero c (semOf false (.v 3)) -∗ gR m c fullShare.left (head c 0 0) -∗ zero c (semOf false (.y 0)) -∗ gR m c fullShare.right (head c 0 0) -∗ zero c (semOf false (.z 0)) -∗ gR m c fullShare.left (head c 0 1) -∗ zero c (semOf false (.y 1)) -∗ Ow c (Owe c T20) -∗ Φ ⟨⟩)
      -∗ WP c (k0_part41 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part41_eq_skeleton]; unfold k0_part41_skel
  simp only [Prog.lift, Prog.bind_op, Prog.bind_ret, Prog.pure_eq_ret]
  iintro #HE Wv3 HO Wy0 Wz0 Wy1 Hk
  iapply (op_sent m K c (.v 3) (P := vB m c fullShare.left 3) rfl NB_vb rfl _ (by decide)) $$ HE Wv3 HO; iintro vBl3 zsv3 HO
  iapply (op_sent m K c (.y 0) (P := gR m c fullShare.left (head c 0 0)) rfl NB_og rfl _ (by decide)) $$ HE Wy0 HO; iintro gl00 zsy0 HO
  iapply (op_sent m K c (.z 0) (P := gR m c fullShare.right (head c 0 0)) rfl NB_og rfl _ (by decide)) $$ HE Wz0 HO; iintro gr00 zsz0 HO
  iapply (op_sent m K c (.y 1) (P := gR m c fullShare.left (head c 0 1)) rfl NB_og rfl _ (by decide)) $$ HE Wy1 HO; iintro gl01 zsy1 HO
  iapply wp_done
  iapply Hk $$ vBl3 zsv3 gl00 zsy0 gr00 zsz0 gl01 zsy1 HO

/-- Waits for the sources of copies. -/
theorem part42 {Φ : PUnit → sProp (MT nD τ sig Unit (Elt F) ℕ UU ℕ)} :
    Env m K ⊢ iprop(SndW c (.z 1) -∗ Ow c (Owe c T20) -∗ SndW c (.y 2) -∗ SndW c (.z 2) -∗ SndW c (.y 3)
      -∗ (gR m c fullShare.right (head c 0 1) -∗ zero c (semOf false (.z 1)) -∗ gR m c fullShare.left (head c 0 2) -∗ zero c (semOf false (.y 2)) -∗ gR m c fullShare.right (head c 0 2) -∗ zero c (semOf false (.z 2)) -∗ gR m c fullShare.left (head c 0 3) -∗ zero c (semOf false (.y 3)) -∗ Ow c (Owe c T20) -∗ Φ ⟨⟩)
      -∗ WP c (k0_part42 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part42_eq_skeleton]; unfold k0_part42_skel
  simp only [Prog.lift, Prog.bind_op, Prog.bind_ret, Prog.pure_eq_ret]
  iintro #HE Wz1 HO Wy2 Wz2 Wy3 Hk
  iapply (op_sent m K c (.z 1) (P := gR m c fullShare.right (head c 0 1)) rfl NB_og rfl _ (by decide)) $$ HE Wz1 HO; iintro gr01 zsz1 HO
  iapply (op_sent m K c (.y 2) (P := gR m c fullShare.left (head c 0 2)) rfl NB_og rfl _ (by decide)) $$ HE Wy2 HO; iintro gl02 zsy2 HO
  iapply (op_sent m K c (.z 2) (P := gR m c fullShare.right (head c 0 2)) rfl NB_og rfl _ (by decide)) $$ HE Wz2 HO; iintro gr02 zsz2 HO
  iapply (op_sent m K c (.y 3) (P := gR m c fullShare.left (head c 0 3)) rfl NB_og rfl _ (by decide)) $$ HE Wy3 HO; iintro gl03 zsy3 HO
  iapply wp_done
  iapply Hk $$ gr01 zsz1 gl02 zsy2 gr02 zsz2 gl03 zsy3 HO

/-- Waits for the sources of copies. -/
theorem part43 {Φ : PUnit → sProp (MT nD τ sig Unit (Elt F) ℕ UU ℕ)} :
    Env m K ⊢ iprop(SndW c (.z 3) -∗ Ow c (Owe c T20) -∗ SndW c (.zf 0) -∗ SndW c (.zf 1) -∗ SndW c (.yf 0) -∗ SndW c (.yf 1)
      -∗ (gR m c fullShare.right (head c 0 3) -∗ zero c (semOf false (.z 3)) -∗ gR m c fullShare (head c 2 0) -∗ zero c (semOf false (.zf 0)) -∗ gR m c fullShare (head c 2 1) -∗ zero c (semOf false (.zf 1)) -∗ gR m c fullShare (head c 1 2) -∗ zero c (semOf false (.yf 0)) -∗ gR m c fullShare (head c 1 3) -∗ zero c (semOf false (.yf 1)) -∗ Ow c (Owe c T20) -∗ Φ ⟨⟩)
      -∗ WP c (k0_part43 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part43_eq_skeleton]; unfold k0_part43_skel
  simp only [Prog.lift, Prog.bind_op, Prog.bind_ret, Prog.pure_eq_ret]
  iintro #HE Wz3 HO Wzf0 Wzf1 Wyf0 Wyf1 Hk
  iapply (op_sent m K c (.z 3) (P := gR m c fullShare.right (head c 0 3)) rfl NB_og rfl _ (by decide)) $$ HE Wz3 HO; iintro gr03 zsz3 HO
  iapply (op_sent m K c (.zf 0) (P := gR m c fullShare (head c 2 0)) rfl NB_og rfl _ (by decide)) $$ HE Wzf0 HO; iintro gR20 zszf0 HO
  iapply (op_sent m K c (.zf 1) (P := gR m c fullShare (head c 2 1)) rfl NB_og rfl _ (by decide)) $$ HE Wzf1 HO; iintro gR21 zszf1 HO
  iapply (op_sent m K c (.yf 0) (P := gR m c fullShare (head c 1 2)) rfl NB_og rfl _ (by decide)) $$ HE Wyf0 HO; iintro gR12 zsyf0 HO
  iapply (op_sent m K c (.yf 1) (P := gR m c fullShare (head c 1 3)) rfl NB_og rfl _ (by decide)) $$ HE Wyf1 HO; iintro gR13 zsyf1 HO
  iapply wp_done
  iapply Hk $$ gr03 zsz3 gR20 zszf0 gR21 zszf1 gR12 zsyf0 gR13 zsyf1 HO

/-- Waits for the heads written out. -/
theorem part44 {Φ : PUnit → sProp (MT nD τ sig Unit (Elt F) ℕ UU ℕ)} :
    Env m K ⊢ iprop(oF m c (head c 0 0) -∗ Ow c (Owe c T20) -∗ oF m c (head c 0 1) -∗ oF m c (head c 0 2) -∗ oF m c (head c 0 3) -∗ oF m c (head c 2 0)
      -∗ (oH m c (head c 0 0) -∗ wR m c (head c 0 0) -∗ zero c (stS (head c 0 0)) -∗ oH m c (head c 0 1) -∗ wR m c (head c 0 1) -∗ zero c (stS (head c 0 1)) -∗ oH m c (head c 0 2) -∗ wR m c (head c 0 2) -∗ zero c (stS (head c 0 2)) -∗ oH m c (head c 0 3) -∗ wR m c (head c 0 3) -∗ zero c (stS (head c 0 3)) -∗ oH m c (head c 2 0) -∗ wR m c (head c 2 0) -∗ zero c (stS (head c 2 0)) -∗ Ow c (Owe c T20) -∗ Φ ⟨⟩)
      -∗ WP c (k0_part44 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part44_eq_skeleton]; unfold k0_part44_skel
  simp only [Prog.lift, Prog.bind_op, Prog.bind_ret, Prog.pure_eq_ret]
  iintro #HE oF00 HO oF01 oF02 oF03 oF20 Hk
  iapply (op_local m K c NF_o (stS_eq (head c 0 0) _ (at5 c 0) _) (stS_low (head c 0 0)) _) $$ HE oF00 HO; iintro oH00 wR00 zst00 HO
  iapply (op_local m K c NF_o (stS_eq (head c 0 1) _ (at5 c 1) _) (stS_low (head c 0 1)) _) $$ HE oF01 HO; iintro oH01 wR01 zst01 HO
  iapply (op_local m K c NF_o (stS_eq (head c 0 2) _ (at5 c 2) _) (stS_low (head c 0 2)) _) $$ HE oF02 HO; iintro oH02 wR02 zst02 HO
  iapply (op_local m K c NF_o (stS_eq (head c 0 3) _ (at5 c 3) _) (stS_low (head c 0 3)) _) $$ HE oF03 HO; iintro oH03 wR03 zst03 HO
  iapply (op_local m K c NF_o (stS_eq (head c 2 0) _ (at15 c 0) _) (stS_low (head c 2 0)) _) $$ HE oF20 HO; iintro oH20 wR20 zst20 HO
  iapply wp_done
  iapply Hk $$ oH00 wR00 zst00 oH01 wR01 zst01 oH02 wR02 zst02 oH03 wR03 zst03 oH20 wR20 zst20 HO

/-- Waits for the heads written out. -/
theorem part45 {Φ : PUnit → sProp (MT nD τ sig Unit (Elt F) ℕ UU ℕ)} :
    Env m K ⊢ iprop(oF m c (head c 2 1) -∗ Ow c (Owe c T20) -∗ oF m c (head c 1 2) -∗ oF m c (head c 1 3) -∗ oF m c (head c 2 2) -∗ oF m c (head c 2 3)
      -∗ (oH m c (head c 2 1) -∗ wR m c (head c 2 1) -∗ zero c (stS (head c 2 1)) -∗ oH m c (head c 1 2) -∗ wR m c (head c 1 2) -∗ zero c (stS (head c 1 2)) -∗ oH m c (head c 1 3) -∗ wR m c (head c 1 3) -∗ zero c (stS (head c 1 3)) -∗ oH m c (head c 2 2) -∗ wR m c (head c 2 2) -∗ zero c (stS (head c 2 2)) -∗ oH m c (head c 2 3) -∗ wR m c (head c 2 3) -∗ zero c (stS (head c 2 3)) -∗ Ow c (Owe c T20) -∗ Φ ⟨⟩)
      -∗ WP c (k0_part45 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part45_eq_skeleton]; unfold k0_part45_skel
  simp only [Prog.lift, Prog.bind_op, Prog.bind_ret, Prog.pure_eq_ret]
  iintro #HE oF21 HO oF12 oF13 oF22 oF23 Hk
  iapply (op_local m K c NF_o (stS_eq (head c 2 1) _ (at15 c 1) _) (stS_low (head c 2 1)) _) $$ HE oF21 HO; iintro oH21 wR21 zst21 HO
  iapply (op_local m K c NF_o (stS_eq (head c 1 2) _ (at19 c 2) _) (stS_low (head c 1 2)) _) $$ HE oF12 HO; iintro oH12 wR12 zst12 HO
  iapply (op_local m K c NF_o (stS_eq (head c 1 3) _ (at19 c 3) _) (stS_low (head c 1 3)) _) $$ HE oF13 HO; iintro oH13 wR13 zst13 HO
  iapply (op_local m K c NF_o (stS_eq (head c 2 2) _ (at15 c 2) _) (stS_low (head c 2 2)) _) $$ HE oF22 HO; iintro oH22 wR22 zst22 HO
  iapply (op_local m K c NF_o (stS_eq (head c 2 3) _ (at15 c 3) _) (stS_low (head c 2 3)) _) $$ HE oF23 HO; iintro oH23 wR23 zst23 HO
  iapply wp_done
  iapply Hk $$ oH21 wR21 zst21 oH12 wR12 zst12 oH13 wR13 zst13 oH22 wR22 zst22 oH23 wR23 zst23 HO

/-- Waits for the heads written out. -/
theorem part46 {Φ : PUnit → sProp (MT nD τ sig Unit (Elt F) ℕ UU ℕ)} :
    Env m K ⊢ iprop(oF m c (head c 1 0) -∗ Ow c (Owe c T20) -∗ oF m c (head c 1 1) -∗ oF m c (head c 3 0) -∗ oF m c (head c 3 1) -∗ oF m c (head c 3 2)
      -∗ (oH m c (head c 1 0) -∗ wR m c (head c 1 0) -∗ zero c (stS (head c 1 0)) -∗ oH m c (head c 1 1) -∗ wR m c (head c 1 1) -∗ zero c (stS (head c 1 1)) -∗ oH m c (head c 3 0) -∗ wR m c (head c 3 0) -∗ zero c (stS (head c 3 0)) -∗ oH m c (head c 3 1) -∗ wR m c (head c 3 1) -∗ zero c (stS (head c 3 1)) -∗ oH m c (head c 3 2) -∗ wR m c (head c 3 2) -∗ zero c (stS (head c 3 2)) -∗ Ow c (Owe c T20) -∗ Φ ⟨⟩)
      -∗ WP c (k0_part46 qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c) Φ) := by
  simp only [k0_part46_eq_skeleton]; unfold k0_part46_skel
  simp only [Prog.lift, Prog.bind_op, Prog.bind_ret, Prog.pure_eq_ret]
  iintro #HE oF10 HO oF11 oF30 oF31 oF32 Hk
  iapply (op_local m K c NF_o (stS_eq (head c 1 0) _ (at19 c 0) _) (stS_low (head c 1 0)) _) $$ HE oF10 HO; iintro oH10 wR10 zst10 HO
  iapply (op_local m K c NF_o (stS_eq (head c 1 1) _ (at19 c 1) _) (stS_low (head c 1 1)) _) $$ HE oF11 HO; iintro oH11 wR11 zst11 HO
  iapply (op_local m K c NF_o (stS_eq (head c 3 0) _ (at23 c 0) _) (stS_low (head c 3 0)) _) $$ HE oF30 HO; iintro oH30 wR30 zst30 HO
  iapply (op_local m K c NF_o (stS_eq (head c 3 1) _ (at23 c 1) _) (stS_low (head c 3 1)) _) $$ HE oF31 HO; iintro oH31 wR31 zst31 HO
  iapply (op_local m K c NF_o (stS_eq (head c 3 2) _ (at23 c 2) _) (stS_low (head c 3 2)) _) $$ HE oF32 HO; iintro oH32 wR32 zst32 HO
  iapply wp_done
  iapply Hk $$ oH10 wR10 zst10 oH11 wR11 zst11 oH30 wR30 zst30 oH31 wR31 zst31 oH32 wR32 zst32 HO

end Cert.Attn
-- ==== Proof.Body.lean ====
/-
The body of a device, its parts one after another: from the heads to fetch, the memory to fill and the tickets of its
copies, to the memory filled, every head of the result in place.
-/
module

public import proofs.«01_k».proof.Proof.Fetch
public import proofs.«01_k».proof.Proof.Attend
public import proofs.«01_k».proof.Proof.Gather
public import proofs.«01_k».proof.Proof.Drain

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- Sixteen of a kind, one per head: group by group. -/
abbrev sixteen (P : Fin 4 → Fin 4 → sProp 𝕄) : sProp 𝕄 := four (fun a => four (P a))
/-- One per remote copy. -/
abbrev allX (P : Xf → sProp 𝕄) : sProp 𝕄 :=
  iprop(four (fun i => P (.k i)) ∗ four (fun i => P (.v i)) ∗ four (fun i => P (.y i)) ∗ four (fun i => P (.z i)) ∗ (P (.zf 0) ∗ P (.zf 1)) ∗ (P (.yf 0) ∗ P (.yf 1)))

/-- What the body leaves. -/
def Done : sProp 𝕄 := iprop(four (fun i => qH m c i)
    ∗ four (fun i => kH m c i)
    ∗ four (fun i => vH m c i)
    ∗ four (fun i => qR m c i)
    ∗ four (fun i => kR m c i)
    ∗ four (fun i => vR m c i)
    ∗ four (fun i => kB m c fullShare.left i)
    ∗ four (fun i => kB m c fullShare.right i)
    ∗ four (fun i => vB m c fullShare.left i)
    ∗ four (fun i => vB m c fullShare.right i)
    ∗ four (fun i => kP m c i)
    ∗ four (fun i => vP m c i)
    ∗ four (fun i => gR m c fullShare.left (head c 0 i))
    ∗ four (fun i => gR m c fullShare.right (head c 0 i))
    ∗ four (fun i => gR m c fullShare (head c 1 i))
    ∗ four (fun i => gR m c fullShare (head c 2 i))
    ∗ four (fun i => gR m c fullShare (head c 3 i))
    ∗ sixteen (fun a i => wR m c (head c a i))
    ∗ sixteen (fun a i => oH m c (head c a i))
    ∗ four (fun i => zero c (gatS 0 i))
    ∗ four (fun i => zero c (gatS 1 i))
    ∗ four (fun i => zero c (gatS 2 i))
    ∗ sixteen (fun a i => zero c (stS (head c a i)))
    ∗ allX (fun x => zero c (semOf false x))
    ∗ allX (fun x => zero c (semOf true x))
    ∗ semVal (barCell c) 0
    ∗ Ow c 0)

/-- A device asks which it is. -/
theorem wp_here {α : Type} {Q : α → sProp (MT nD τ sig Unit (Elt F) ℕ UU ℕ)} {k : Dev nD → Prog (TpuEff nD τ sig (Elt F) Λ₀ .tc) α} :
    WP c (k c) Q ⊢ WP c (.op .deviceId k) Q := Entails.of_eq (wp_deviceId ..).symm

set_option maxRecDepth 65536 in
/-- The body. -/
theorem body_core : Env m K ⊢ iprop(four (fun i => qH m c i) -∗ four (fun i => kH m c i) -∗ four (fun i => vH m c i) -∗ four (fun i => hasAny c qsM (row 4 i)) -∗ four (fun i => hasAny c ksM (row 4 i)) -∗ four (fun i => hasAny c vsM (row 4 i)) -∗ four (fun i => hasAny c ksbM (row 4 i)) -∗ four (fun i => hasAny c vsbM (row 4 i)) -∗ four (fun i => hasAny c krM (row 4 i)) -∗ four (fun i => hasAny c vrM (row 4 i)) -∗ sixteen (fun a i => hasAny c ogM (row 16 (head c a i))) -∗ sixteen (fun a i => hasAny c og32M (row 16 (head c a i))) -∗ sixteen (fun a i => hasAny c oM (headSet (head c a i).val)) -∗ four (fun i => zero c (gatS 0 i)) -∗ four (fun i => zero c (gatS 1 i)) -∗ four (fun i => zero c (gatS 2 i)) -∗ sixteen (fun a i => zero c (stS (head c a i))) -∗ allX (Snd c) -∗ allX (RcvW c) -∗ dutyTok ER (barCell (nbr 0 c)) 0 0 -∗ dutyTok ER (barCell (nbr 1 c)) 0 1 -∗ dutyTok ER (barCell (nbr 2 c)) 0 2 -∗ BarW c -∗ Ow c (O₀ c)
    -∗ WP c (cc0_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) fun _ => Done m c) := by
  rw [cc0_body_eq_skeleton]; unfold cc0_body_skel
  iintro #HE ⟨qH0, qH1, qH2, qH3⟩ ⟨kH0, kH1, kH2, kH3⟩ ⟨vH0, vH1, vH2, vH3⟩ ⟨qS0, qS1, qS2, qS3⟩ ⟨kS0, kS1, kS2, kS3⟩ ⟨vS0, vS1, vS2, vS3⟩ ⟨kA0, kA1, kA2, kA3⟩ ⟨vA0, vA1, vA2, vA3⟩ ⟨krA0, krA1, krA2, krA3⟩ ⟨vrA0, vrA1, vrA2, vrA3⟩ ⟨⟨gA00, gA01, gA02, gA03⟩, ⟨gA10, gA11, gA12, gA13⟩, ⟨gA20, gA21, gA22, gA23⟩, ⟨gA30, gA31, gA32, gA33⟩⟩ ⟨⟨wA00, wA01, wA02, wA03⟩, ⟨wA10, wA11, wA12, wA13⟩, ⟨wA20, wA21, wA22, wA23⟩, ⟨wA30, wA31, wA32, wA33⟩⟩ ⟨⟨oA00, oA01, oA02, oA03⟩, ⟨oA10, oA11, oA12, oA13⟩, ⟨oA20, oA21, oA22, oA23⟩, ⟨oA30, oA31, oA32, oA33⟩⟩ ⟨zg00, zg01, zg02, zg03⟩ ⟨zg10, zg11, zg12, zg13⟩ ⟨zg20, zg21, zg22, zg23⟩ ⟨⟨zst00, zst01, zst02, zst03⟩, ⟨zst10, zst11, zst12, zst13⟩, ⟨zst20, zst21, zst22, zst23⟩, ⟨zst30, zst31, zst32, zst33⟩⟩ ⟨⟨Sk0, Sk1, Sk2, Sk3⟩, ⟨Sv0, Sv1, Sv2, Sv3⟩, ⟨Sy0, Sy1, Sy2, Sy3⟩, ⟨Sz0, Sz1, Sz2, Sz3⟩, ⟨Szf0, Szf1⟩, ⟨Syf0, Syf1⟩⟩ ⟨⟨Rk0, Rk1, Rk2, Rk3⟩, ⟨Rv0, Rv1, Rv2, Rv3⟩, ⟨Ry0, Ry1, Ry2, Ry3⟩, ⟨Rz0, Rz1, Rz2, Rz3⟩, ⟨Rzf0, Rzf1⟩, ⟨Ryf0, Ryf1⟩⟩ bt0 bt1 bt2 bW HO
  iapply wp_seq
  simp only [k0_part5_eq_skeleton]; unfold k0_part5_skel
  simp only [Prog.lift, Prog.bind_op, Prog.bind_ret, Prog.pure_eq_ret]
  iapply (wp_here c)
  iapply wp_done
  iapply wp_seq
  iapply (part6 m K c _) $$ HE kH0 kS0 zg00 vH0 vS0 zg10 qH0 qS0 zg20 kH1 kS1 zg01; iintro kF0 vF0 qF0 kF1
  iapply wp_seq
  iapply (part7 m K c _) $$ HE vH1 vS1 zg11 qH1 qS1 zg21 kH2 kS2 zg02 vH2 vS2 zg12; iintro vF1 qF1 kF2 vF2
  iapply wp_seq
  iapply (part8 m K c _) $$ HE qH2 qS2 zg22 kH3 kS3 zg03 vH3 vS3 zg13 qH3 qS3 zg23; iintro qF2 kF3 vF3 qF3
  iapply wp_seq
  iapply (part9 m K c _ _ _ _ _ _) $$ HE HO bt0 bt1 bt2 bW krA0 krA1 krA2 krA3 vrA0 vrA1 vrA2 vrA3 gA20 gA21 gA22 gA23 gA32 gA33 gA10 gA11 gA12 gA13 gA30 gA31 kF0; iintro bz Dk0 Dk1 Dk2 Dk3 Dv0 Dv1 Dv2 Dv3 Dy0 Dy1 Dy2 Dy3 Dyf0 Dyf1 Dz0 Dz1 Dz2 Dz3 Dzf0 Dzf1 kR0 kH0 zg00 HO
  iapply wp_seq
  iapply (part10 m K c _ _ _) $$ HE vF0 HO kR0 kA0 vA0; iintro vH0 zg10 HO kR0 kB0 vR0 vB0
  iapply wp_seq
  iapply (part11 m K c _ _ _) $$ HE kB0 Sk0 Dk0 HO vB0 Sv0 Dv0 kF1 vF1; iintro kBr0 Wk0 vBr0 Wv0 kR1 kH1 zg01 vR1 vH1 zg11 HO
  iapply wp_seq
  iapply (part12 m K c _ _ _) $$ HE kR1 kA1 vR1 vA1 Sk1 Dk1 HO; iintro %w12 kR1 vR1 vB1 kBr1 Wk1 HO
  iapply wp_seq
  iapply (part13 m K c _ _ _ _) $$ HE vB1 Sv1 Dv1 HO kF2 vF2 kA2; iintro vBr1 Wv1 kH2 zg02 vR2 vH2 zg12 HO kR2 kA2
  iapply wp_seq
  iapply (part14 m K c _ _ _) $$ HE kA2 vR2 vA2 Sk2 Dk2 HO; iintro vR2 vB2 kBr2 Wk2 HO
  iapply wp_seq
  iapply (part15 m K c ) $$ HE vB2 Sv2 Dv2 HO kF3 vF3 kA3; iintro vBr2 Wv2 kH3 zg03 vH3 zg13 HO kR3 kB3 vR3
  iapply wp_seq
  iapply (part16 m K c _ _ _) $$ HE vA3 kB3 Sk3 Dk3 HO Sv3 Dv3; iintro kBr3 Wk3 vBr3 Wv3 HO
  iapply wp_seq
  iapply (part17 m K c _ _ _) $$ HE qF0 HO Rk0; iintro qR0 qH0 zg20 kP0 zrk0 HO
  iapply wp_seq
  iapply (part18 m K c _ _ _ _) $$ HE Rv0 HO qR0 kBr0 kP0 vBr0 gA00 wA00 oA00 zst00; iintro zrv0 HO qR0 kBr0 kP0 vBr0 vP0 gR00 oF00
  iapply wp_seq
  iapply (part19 m K c _ _ _ _ _) $$ HE gR00 Sy0 Dy0 HO Sz0 Dz0 qF1; iintro Wy0 Wz0 qR1 qH1 zg21 HO
  iapply wp_seq
  iapply (part20 m K c _ _ _ _) $$ HE Rk1 HO Rv1 qR1 kBr1 vBr1 gA01 wA01; iintro zrk1 zrv1 HO qR1 kBr1 kP1 vBr1 vP1 gR01 wR01
  iapply wp_seq
  iapply (part21 m K c _ _ _ _ _) $$ HE wR01 oA01 zst01 gR01 Sy1 Dy1 HO Sz1 Dz1; iintro oF01 Wy1 Wz1 HO
  iapply wp_seq
  iapply (part22 m K c _ _ _) $$ HE qF2 HO Rk2; iintro qR2 qH2 zg22 kP2 zrk2 HO
  iapply wp_seq
  iapply (part23 m K c _ _ _ _) $$ HE Rv2 HO qR2 kBr2 kP2 vBr2 gA02 wA02 oA02 zst02; iintro zrv2 HO qR2 kBr2 kP2 vBr2 vP2 gR02 oF02
  iapply wp_seq
  iapply (part24 m K c _ _ _ _ _) $$ HE gR02 Sy2 Dy2 HO Sz2 Dz2 qF3; iintro Wy2 Wz2 qR3 qH3 zg23 HO
  iapply wp_seq
  iapply (part25 m K c _ _ _ _) $$ HE Rk3 HO Rv3 qR3 kBr3 vBr3 gA03 wA03; iintro zrk3 zrv3 HO qR3 kBr3 kP3 vBr3 vP3 gR03 wR03
  iapply wp_seq
  iapply (part26 m K c _ _ _ _ _ _) $$ HE wR03 oA03 zst03 gR03 Sy3 Dy3 HO Sz3 Dz3; iintro %w26 oF03 Wy3 Wz3 HO
  iapply wp_seq
  iapply (part27 m K c _ _ _ _ _) $$ HE Ry0 HO wA20 oA20 zst20; iintro %w27 zry0 HO gR20 oF20
  iapply wp_seq
  iapply (part28 m K c _ _ _ _ _ _ _) $$ HE Szf0 gR20 Dzf0 HO Ry1 wA21; iintro Wzf0 zry1 HO gR21 wR21
  iapply wp_seq
  iapply (part29 m K c _ _ _ _) $$ HE wR21 oA21 zst21 Szf1 gR21 Dzf1 HO Rz2; iintro %w29 oF21 Wzf1 gR12 zrz2 HO
  iapply wp_seq
  iapply (part30 m K c _ _ _ _ _) $$ HE gR12 wA12 oA12 zst12 Syf0 Dyf0 HO; iintro %w30 oF12 Wyf0 HO
  iapply wp_seq
  iapply (part31 m K c _ _ _ _ _ _ _ _) $$ HE Rz3 HO wA13 oA13 zst13; iintro zrz3 HO gR13 oF13
  iapply wp_seq
  iapply (part32 m K c _ _ _ _) $$ HE Syf1 gR13 Dyf1 HO Ry2 wA22 oA22 zst22; iintro %w32 Wyf1 zry2 HO gR22 oF22
  iapply wp_seq
  iapply (part33 m K c _ _ _ _ _) $$ HE Ry3 HO wA23 oA23 zst23; iintro %w33 zry3 HO gR23 oF23
  iapply wp_seq
  iapply (part34 m K c _ _ _ _ _ _) $$ HE Rz0 HO wA10 oA10 zst10; iintro %w34 zrz0 HO gR10 oF10
  iapply wp_seq
  iapply (part35 m K c _ _ _ _ _) $$ HE Rz1 HO wA11 oA11 zst11; iintro %w35 zrz1 HO gR11 oF11
  iapply wp_seq
  iapply (part36 m K c _ _ _ _ _) $$ HE Rzf0 HO wA30 oA30 zst30 Rzf1; iintro zrzf0 gR30 oF30 zrzf1 HO gR31
  iapply wp_seq
  iapply (part37 m K c _ _ _ _) $$ HE wA31 oA31 zst31 Ryf0 HO wA32; iintro oF31 zryf0 HO gR32 wR32
  iapply wp_seq
  iapply (part38 m K c _ _ _ _) $$ HE wR32 oA32 zst32 Ryf1 HO wA33; iintro oF32 zryf1 HO gR33 wR33
  iapply wp_seq
  iapply (part39 m K c ) $$ HE wR33 oA33 zst33 Wk0 HO Wv0 Wk1; iintro oF33 kBl0 zsk0 vBl0 zsv0 kBl1 zsk1 HO
  iapply wp_seq
  iapply (part40 m K c ) $$ HE Wv1 HO Wk2 Wv2 Wk3; iintro vBl1 zsv1 kBl2 zsk2 vBl2 zsv2 kBl3 zsk3 HO
  iapply wp_seq
  iapply (part41 m K c ) $$ HE Wv3 HO Wy0 Wz0 Wy1; iintro vBl3 zsv3 gl00 zsy0 gr00 zsz0 gl01 zsy1 HO
  iapply wp_seq
  iapply (part42 m K c ) $$ HE Wz1 HO Wy2 Wz2 Wy3; iintro gr01 zsz1 gl02 zsy2 gr02 zsz2 gl03 zsy3 HO
  iapply wp_seq
  iapply (part43 m K c ) $$ HE Wz3 HO Wzf0 Wzf1 Wyf0 Wyf1; iintro gr03 zsz3 gR20 zszf0 gR21 zszf1 gR12 zsyf0 gR13 zsyf1 HO
  iapply wp_seq
  iapply (part44 m K c ) $$ HE oF00 HO oF01 oF02 oF03 oF20; iintro oH00 wR00 zst00 oH01 wR01 zst01 oH02 wR02 zst02 oH03 wR03 zst03 oH20 wR20 zst20 HO
  iapply wp_seq
  iapply (part45 m K c ) $$ HE oF21 HO oF12 oF13 oF22 oF23; iintro oH21 wR21 zst21 oH12 wR12 zst12 oH13 wR13 zst13 oH22 wR22 zst22 oH23 wR23 zst23 HO
  iapply wp_seq
  iapply (part46 m K c ) $$ HE oF10 HO oF11 oF30 oF31 oF32; iintro oH10 wR10 zst10 oH11 wR11 zst11 oH30 wR30 zst30 oH31 wR31 zst31 oH32 wR32 zst32 HO
  simp only [Prog.lift, Prog.bind_op, Prog.bind_ret, Prog.pure_eq_ret]
  iapply (op_local m K c NF_o (stS_eq (head c 3 3) _ (at23 c 3) _) (stS_low (head c 3 3)) _) $$ HE oF33 HO; iintro oH33 wR33 zst33 HO
  iapply wp_done
  unfold Done
  isplitl [qH0 qH1 qH2 qH3]
  · isplitl [qH0]; · iexact qH0
    isplitl [qH1]; · iexact qH1
    isplitl [qH2]; · iexact qH2
    iexact qH3
  isplitl [kH0 kH1 kH2 kH3]
  · isplitl [kH0]; · iexact kH0
    isplitl [kH1]; · iexact kH1
    isplitl [kH2]; · iexact kH2
    iexact kH3
  isplitl [vH0 vH1 vH2 vH3]
  · isplitl [vH0]; · iexact vH0
    isplitl [vH1]; · iexact vH1
    isplitl [vH2]; · iexact vH2
    iexact vH3
  isplitl [qR0 qR1 qR2 qR3]
  · isplitl [qR0]; · iexact qR0
    isplitl [qR1]; · iexact qR1
    isplitl [qR2]; · iexact qR2
    iexact qR3
  isplitl [kR0 kR1 kR2 kR3]
  · isplitl [kR0]; · iexact kR0
    isplitl [kR1]; · iexact kR1
    isplitl [kR2]; · iexact kR2
    iexact kR3
  isplitl [vR0 vR1 vR2 vR3]
  · isplitl [vR0]; · iexact vR0
    isplitl [vR1]; · iexact vR1
    isplitl [vR2]; · iexact vR2
    iexact vR3
  isplitl [kBl0 kBl1 kBl2 kBl3]
  · isplitl [kBl0]; · iexact kBl0
    isplitl [kBl1]; · iexact kBl1
    isplitl [kBl2]; · iexact kBl2
    iexact kBl3
  isplitl [kBr0 kBr1 kBr2 kBr3]
  · isplitl [kBr0]; · iexact kBr0
    isplitl [kBr1]; · iexact kBr1
    isplitl [kBr2]; · iexact kBr2
    iexact kBr3
  isplitl [vBl0 vBl1 vBl2 vBl3]
  · isplitl [vBl0]; · iexact vBl0
    isplitl [vBl1]; · iexact vBl1
    isplitl [vBl2]; · iexact vBl2
    iexact vBl3
  isplitl [vBr0 vBr1 vBr2 vBr3]
  · isplitl [vBr0]; · iexact vBr0
    isplitl [vBr1]; · iexact vBr1
    isplitl [vBr2]; · iexact vBr2
    iexact vBr3
  isplitl [kP0 kP1 kP2 kP3]
  · isplitl [kP0]; · iexact kP0
    isplitl [kP1]; · iexact kP1
    isplitl [kP2]; · iexact kP2
    iexact kP3
  isplitl [vP0 vP1 vP2 vP3]
  · isplitl [vP0]; · iexact vP0
    isplitl [vP1]; · iexact vP1
    isplitl [vP2]; · iexact vP2
    iexact vP3
  isplitl [gl00 gl01 gl02 gl03]
  · isplitl [gl00]; · iexact gl00
    isplitl [gl01]; · iexact gl01
    isplitl [gl02]; · iexact gl02
    iexact gl03
  isplitl [gr00 gr01 gr02 gr03]
  · isplitl [gr00]; · iexact gr00
    isplitl [gr01]; · iexact gr01
    isplitl [gr02]; · iexact gr02
    iexact gr03
  isplitl [gR10 gR11 gR12 gR13]
  · isplitl [gR10]; · iexact gR10
    isplitl [gR11]; · iexact gR11
    isplitl [gR12]; · iexact gR12
    iexact gR13
  isplitl [gR20 gR21 gR22 gR23]
  · isplitl [gR20]; · iexact gR20
    isplitl [gR21]; · iexact gR21
    isplitl [gR22]; · iexact gR22
    iexact gR23
  isplitl [gR30 gR31 gR32 gR33]
  · isplitl [gR30]; · iexact gR30
    isplitl [gR31]; · iexact gR31
    isplitl [gR32]; · iexact gR32
    iexact gR33
  isplitl [wR00 wR01 wR02 wR03 wR10 wR11 wR12 wR13 wR20 wR21 wR22 wR23 wR30 wR31 wR32 wR33]
  · isplitl [wR00 wR01 wR02 wR03]
    · isplitl [wR00]; · iexact wR00
      isplitl [wR01]; · iexact wR01
      isplitl [wR02]; · iexact wR02
      iexact wR03
    isplitl [wR10 wR11 wR12 wR13]
    · isplitl [wR10]; · iexact wR10
      isplitl [wR11]; · iexact wR11
      isplitl [wR12]; · iexact wR12
      iexact wR13
    isplitl [wR20 wR21 wR22 wR23]
    · isplitl [wR20]; · iexact wR20
      isplitl [wR21]; · iexact wR21
      isplitl [wR22]; · iexact wR22
      iexact wR23
    isplitl [wR30]; · iexact wR30
    isplitl [wR31]; · iexact wR31
    isplitl [wR32]; · iexact wR32
    iexact wR33
  isplitl [oH00 oH01 oH02 oH03 oH10 oH11 oH12 oH13 oH20 oH21 oH22 oH23 oH30 oH31 oH32 oH33]
  · isplitl [oH00 oH01 oH02 oH03]
    · isplitl [oH00]; · iexact oH00
      isplitl [oH01]; · iexact oH01
      isplitl [oH02]; · iexact oH02
      iexact oH03
    isplitl [oH10 oH11 oH12 oH13]
    · isplitl [oH10]; · iexact oH10
      isplitl [oH11]; · iexact oH11
      isplitl [oH12]; · iexact oH12
      iexact oH13
    isplitl [oH20 oH21 oH22 oH23]
    · isplitl [oH20]; · iexact oH20
      isplitl [oH21]; · iexact oH21
      isplitl [oH22]; · iexact oH22
      iexact oH23
    isplitl [oH30]; · iexact oH30
    isplitl [oH31]; · iexact oH31
    isplitl [oH32]; · iexact oH32
    iexact oH33
  isplitl [zg00 zg01 zg02 zg03]
  · isplitl [zg00]; · iexact zg00
    isplitl [zg01]; · iexact zg01
    isplitl [zg02]; · iexact zg02
    iexact zg03
  isplitl [zg10 zg11 zg12 zg13]
  · isplitl [zg10]; · iexact zg10
    isplitl [zg11]; · iexact zg11
    isplitl [zg12]; · iexact zg12
    iexact zg13
  isplitl [zg20 zg21 zg22 zg23]
  · isplitl [zg20]; · iexact zg20
    isplitl [zg21]; · iexact zg21
    isplitl [zg22]; · iexact zg22
    iexact zg23
  isplitl [zst00 zst01 zst02 zst03 zst10 zst11 zst12 zst13 zst20 zst21 zst22 zst23 zst30 zst31 zst32 zst33]
  · isplitl [zst00 zst01 zst02 zst03]
    · isplitl [zst00]; · iexact zst00
      isplitl [zst01]; · iexact zst01
      isplitl [zst02]; · iexact zst02
      iexact zst03
    isplitl [zst10 zst11 zst12 zst13]
    · isplitl [zst10]; · iexact zst10
      isplitl [zst11]; · iexact zst11
      isplitl [zst12]; · iexact zst12
      iexact zst13
    isplitl [zst20 zst21 zst22 zst23]
    · isplitl [zst20]; · iexact zst20
      isplitl [zst21]; · iexact zst21
      isplitl [zst22]; · iexact zst22
      iexact zst23
    isplitl [zst30]; · iexact zst30
    isplitl [zst31]; · iexact zst31
    isplitl [zst32]; · iexact zst32
    iexact zst33
  isplitl [zsk0 zsk1 zsk2 zsk3 zsv0 zsv1 zsv2 zsv3 zsy0 zsy1 zsy2 zsy3 zsz0 zsz1 zsz2 zsz3 zszf0 zszf1 zsyf0 zsyf1]
  · isplitl [zsk0 zsk1 zsk2 zsk3]
    · isplitl [zsk0]; · iexact zsk0
      isplitl [zsk1]; · iexact zsk1
      isplitl [zsk2]; · iexact zsk2
      iexact zsk3
    isplitl [zsv0 zsv1 zsv2 zsv3]
    · isplitl [zsv0]; · iexact zsv0
      isplitl [zsv1]; · iexact zsv1
      isplitl [zsv2]; · iexact zsv2
      iexact zsv3
    isplitl [zsy0 zsy1 zsy2 zsy3]
    · isplitl [zsy0]; · iexact zsy0
      isplitl [zsy1]; · iexact zsy1
      isplitl [zsy2]; · iexact zsy2
      iexact zsy3
    isplitl [zsz0 zsz1 zsz2 zsz3]
    · isplitl [zsz0]; · iexact zsz0
      isplitl [zsz1]; · iexact zsz1
      isplitl [zsz2]; · iexact zsz2
      iexact zsz3
    isplitl [zszf0 zszf1]
    · isplitl [zszf0]; · iexact zszf0
      iexact zszf1
    isplitl [zsyf0]; · iexact zsyf0
    iexact zsyf1
  isplitl [zrk0 zrk1 zrk2 zrk3 zrv0 zrv1 zrv2 zrv3 zry0 zry1 zry2 zry3 zrz0 zrz1 zrz2 zrz3 zrzf0 zrzf1 zryf0 zryf1]
  · isplitl [zrk0 zrk1 zrk2 zrk3]
    · isplitl [zrk0]; · iexact zrk0
      isplitl [zrk1]; · iexact zrk1
      isplitl [zrk2]; · iexact zrk2
      iexact zrk3
    isplitl [zrv0 zrv1 zrv2 zrv3]
    · isplitl [zrv0]; · iexact zrv0
      isplitl [zrv1]; · iexact zrv1
      isplitl [zrv2]; · iexact zrv2
      iexact zrv3
    isplitl [zry0 zry1 zry2 zry3]
    · isplitl [zry0]; · iexact zry0
      isplitl [zry1]; · iexact zry1
      isplitl [zry2]; · iexact zry2
      iexact zry3
    isplitl [zrz0 zrz1 zrz2 zrz3]
    · isplitl [zrz0]; · iexact zrz0
      isplitl [zrz1]; · iexact zrz1
      isplitl [zrz2]; · iexact zrz2
      iexact zrz3
    isplitl [zrzf0 zrzf1]
    · isplitl [zrzf0]; · iexact zrzf0
      iexact zrzf1
    isplitl [zryf0]; · iexact zryf0
    iexact zryf1
  isplitl [bz]
  · iexact bz
  iexact HO

end Cert.Attn
-- ==== Proof.Split.lean ====
/-
Whole buffers as their rows and their heads: four rows to a stack of four, sixteen to the stacks of all heads, in the
order of a device's groups; and the kernel's own semaphores, kind by kind.
-/
module

public import proofs.«01_k».proof.Proof.Body

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families indexed by rows, groups and copies -/

/-- Each head is row `i` of the group at distance `a`, for one `a` and one `i`. -/
def headEquiv (c : Dev nD) : Fin 4 × Fin 4 ≃ Fin 16 where
  toFun p := head c p.1 p.2
  invFun h := (⟨(h.val / 4) ^^^ (c.val % 4), by
      have : h.val / 4 < 2 ^ 2 := by have := h.isLt; omega
      exact Nat.xor_lt_two_pow this (Nat.mod_lt _ (by decide))⟩, ⟨h.val % 4, Nat.mod_lt _ (by decide)⟩)
  left_inv := by revert c; decide
  right_inv := by revert c; decide

/-- Separating conjunction is associative. -/
theorem assoc_eq (P Q R : sProp 𝕄) : iprop((P ∗ Q) ∗ R) = iprop(P ∗ Q ∗ R) := equiv_iff.mp ⟨BI.sep_assoc, BI.sep_assoc'⟩

/-- A separating conjunction over four indices, written out. -/
theorem bigSep_four (P : Fin 4 → sProp 𝕄) : bigSep Finset.univ P = four P :=
  bigSep_univ_eq_bigSepL [0, 1, 2, 3] (by decide) (by decide) P

/-- A separating conjunction over the heads, group by group. -/
theorem bigSep_sixteen (c : Dev nD) (P : Fin 16 → sProp 𝕄) : bigSep Finset.univ P = sixteen (fun a i => P (head c a i)) := by
  rw [bigSep_univ_equiv (headEquiv c), bigSep_univ_prod, bigSep_four]
  simp only [bigSep_four]
  rfl

/-- A separating conjunction over the transfers, written out. -/
theorem bigSep_allX (P : Xf → sProp 𝕄) : bigSep Finset.univ P = allX P := by
  rw [bigSep_univ_eq_bigSepL [.k 0, .k 1, .k 2, .k 3, .v 0, .v 1, .v 2, .v 3, .y 0, .y 1, .y 2, .y 3, .z 0, .z 1, .z 2, .z 3,
    .zf 0, .zf 1, .yf 0, .yf 1] (by decide) (by decide)]
  simp only [bigSepL_cons_cons, bigSepL_singleton, assoc_eq]
  rfl

/-- A separating conjunction over two indices. -/
theorem bigSep_bool (P : Bool → sProp 𝕄) : bigSep Finset.univ P = iprop(P false ∗ P true) :=
  bigSep_univ_eq_bigSepL [false, true] (by decide) (by decide) P

/-- A step on each of four. -/
theorem four_mono {P R : Fin 4 → sProp 𝕄} (h : ∀ i, P i ⊢ R i) : four P ⊢ four R := by
  rw [← bigSep_four, ← bigSep_four]; exact bigSep_mono fun i _ => h i
/-- Sixteen pieces, each weakened. -/
theorem sixteen_mono {P R : Fin 4 → Fin 4 → sProp 𝕄} (h : ∀ a i, P a i ⊢ R a i) : sixteen P ⊢ sixteen R :=
  four_mono fun a => four_mono (h a)
/-- Four pairs are two fours. -/
theorem four_sep (P R : Fin 4 → sProp 𝕄) : four (fun i => iprop(P i ∗ R i)) = iprop(four P ∗ four R) := by
  rw [← bigSep_four, ← bigSep_four, ← bigSep_four]; exact bigSep_sep' _ _ _

/-! ## Memory in parts -/

section Parts
variable {sp : Space} {s : Shape} {e : EltTy} {c : Dev nD} {m : Memref sig .tc sp s e} {q : PosShare TreeShare} {X : s.Idx → Elt F e}

/-- A memref cut by a key of its indices. -/
theorem has_parts {n : ℕ} (key : s.Idx → ℕ) (hk : ∀ j, key j < n) (P : Fin n → Finset s.Idx) (hP : ∀ t j, j ∈ P t ↔ key j = t.val) :
    (has c m Finset.univ q X : sProp 𝕄) = bigSep Finset.univ fun t => has c m (P t) q X := by
  have hS : m.view.setOn Finset.univ = (Finset.univ : Finset (Fin n)).biUnion fun t => m.view.setOn (P t) := by
    ext i
    rw [Finset.mem_biUnion]
    constructor
    · intro hi
      obtain ⟨j, _, rfl⟩ := Finset.mem_map.1 hi
      exact ⟨⟨key j, hk j⟩, Finset.mem_univ _, Finset.mem_map_of_mem _ ((hP _ j).2 rfl)⟩
    · rintro ⟨t, _, hi⟩
      exact Finset.map_subset_map.2 (Finset.subset_univ _) hi
  have hd : ∀ t ∈ (Finset.univ : Finset (Fin n)), ∀ t' ∈ (Finset.univ : Finset (Fin n)), t ≠ t' → Disjoint (m.view.setOn (P t)) (m.view.setOn (P t')) := by
    intro t _ t' _ htt
    refine (Finset.disjoint_map _).2 (Finset.disjoint_left.2 fun j h1 h2 => ?_)
    exact htt (Fin.ext (((hP t j).1 h1).symm.trans ((hP t' j).1 h2)))
  have h := pointsTo_biUnion (Ix := Unit) (Name := ℕ) (U := UU) (Lvl := ℕ) (ℓ := m.view.loc (c : Thread nD τ)) (q := q) (f := m.view.rep X)
    Finset.univ (fun t => m.view.setOn (P t)) hd
  rw [← hS] at h
  exact h

end Parts

section Rows
variable {sp : Space} {n : ℕ} {e : EltTy} {c : Dev nD} {q : PosShare TreeShare}

/-- A buffer of rows is its rows. -/
theorem has_rows (m : Memref sig .tc sp ⟨3, ![n, 1024, 128]⟩ e) (X : (⟨3, ![n, 1024, 128]⟩ : Shape).Idx → Elt F e) :
    (has c m Finset.univ q X : sProp 𝕄) = bigSep Finset.univ fun h : Fin n => has c m (row n h) q X :=
  has_parts (fun j => (j 0 : ℕ)) (fun j => (j 0).isLt) (fun h => row n h) (fun h j => mem_rowSet)

/-- An argument's buffer is its heads. -/
theorem has_heads (m : Memref sig .tc sp ⟨4, ![1, 1024, 16, 128]⟩ e) (X : (⟨4, ![1, 1024, 16, 128]⟩ : Shape).Idx → Elt F e) :
    (has c m Finset.univ q X : sProp 𝕄) = sixteen (fun a i => has c m (headSet (head c a i).val) q X) := by
  rw [has_parts (n := 16) (fun j => (j 2 : ℕ)) (fun j => (j 2).isLt) (fun h : Fin 16 => headSet h.val) (fun h j => mem_headSet), bigSep_sixteen c]

/-- A buffer of four rows is its four rows. -/
theorem has_rows4 (m : Memref sig .tc sp ⟨3, ![4, 1024, 128]⟩ e) (X : (⟨3, ![4, 1024, 128]⟩ : Shape).Idx → Elt F e) :
    (has c m Finset.univ q X : sProp 𝕄) = four (fun i => has c m (row 4 i) q X) := by
  rw [has_rows, bigSep_four]
/-- A buffer of sixteen rows is its sixteen rows, group by group. -/
theorem has_rows16 (m : Memref sig .tc sp ⟨3, ![16, 1024, 128]⟩ e) (X : (⟨3, ![16, 1024, 128]⟩ : Shape).Idx → Elt F e) :
    (has c m Finset.univ q X : sProp 𝕄) = sixteen (fun a i => has c m (row 16 (head c a i)) q X) := by
  rw [has_rows, bigSep_sixteen c]
end Rows

section Whole
variable (c : Dev nD)

/-- A buffer, whole, with some contents. -/
abbrev someOf (b : Ref sig .tc) : sProp 𝕄 := iprop(∃ f : Buf (Elt F) ((c : Thread nD τ).loc b), (c : Thread nD τ).loc b ↦{fullShare} f)

/-- A buffer is held whole with some contents when it is held at known ones. -/
theorem some_of {b : Ref sig .tc} {f : b.ty.Contents (Elt F)} : has c (Memref.whole b) Finset.univ fullShare f ⊢ someOf c b := by
  rw [← has_whole]
  iintro H; iexists f; iexact H

/-- What follows from a buffer with any contents follows from a buffer with some. -/
theorem open_of {b : Ref sig .tc} {G : sProp 𝕄} (h : ∀ f : b.ty.Contents (Elt F), has c (Memref.whole b) Finset.univ fullShare f ⊢ G) : someOf c b ⊢ G := by
  iintro ⟨%f, H⟩
  iapply (h f)
  iapply (Entails.of_eq (has_whole b f))
  iexact H

/-- Four rows, their contents forgotten. -/
theorem rows4_any {sp : Space} {e : EltTy} (m : Memref sig .tc sp ⟨3, ![4, 1024, 128]⟩ e) (X) :
    (has c m Finset.univ fullShare X : sProp 𝕄) ⊢ four (fun i => hasAny c m (row 4 i)) := by
  rw [has_rows4]; exact four_mono fun i => hasAny_intro
/-- Sixteen rows, their contents forgotten. -/
theorem rows16_any {sp : Space} {e : EltTy} (m : Memref sig .tc sp ⟨3, ![16, 1024, 128]⟩ e) (X) :
    (has c m Finset.univ fullShare X : sProp 𝕄) ⊢ sixteen (fun a i => hasAny c m (row 16 (head c a i))) := by
  rw [has_rows16]; exact sixteen_mono fun a i => hasAny_intro
/-- The heads, their contents forgotten. -/
theorem heads_any {sp : Space} {e : EltTy} (m : Memref sig .tc sp ⟨4, ![1, 1024, 16, 128]⟩ e) (X) :
    (has c m Finset.univ fullShare X : sProp 𝕄) ⊢ sixteen (fun a i => hasAny c m (headSet (head c a i).val)) := by
  rw [has_heads]; exact sixteen_mono fun a i => hasAny_intro
/-- Rows held in two halves are held. -/
theorem halves {sp : Space} {s : Shape} {e : EltTy} (m : Memref sig .tc sp s e) (R : Fin 4 → Finset s.Idx) (X : s.Idx → Elt F e) :
    iprop(four (fun i => has c m (R i) fullShare.left X) ∗ four (fun i => has c m (R i) fullShare.right X))
      ⊢ (four (fun i => has c m (R i) fullShare X) : sProp 𝕄) := by
  rw [← four_sep]; exact four_mono fun i => has_share.2

end Whole

/-! ## The kernel's own semaphores -/

/-- The semaphores of the local copies (fetching, then writing out), and those of the remote copies. -/
abbrev SemIx := (Fin 3 × Fin 4) ⊕ (Fin 16 ⊕ (Bool × Xf))
def semAt : SemIx → DmaSem sig
  | .inl p => gatS p.1 p.2
  | .inr (.inl h) => stS h
  | .inr (.inr p) => semOf p.1 p.2

abbrev osem : SemIx → SemLoc sig := fun k => .dma (semAt k)

set_option maxRecDepth 65536 in
/-- Different indices name different semaphores. -/
theorem semAt_injective : Function.Injective semAt := by
  have h : ∀ a b : SemIx, semAt a = semAt b → a = b := by decide
  exact fun a b => h a b

/-- A separating conjunction over three indices, written out. -/
theorem bigSep_fin3 (P : Fin 3 → sProp 𝕄) : bigSep Finset.univ P = iprop(P 0 ∗ P 1 ∗ P 2) :=
  bigSep_univ_eq_bigSepL [0, 1, 2] (by decide) (by decide) P

/-- The local copies' semaphores at zero. -/
def Locals (c : Dev nD) : sProp 𝕄 :=
  iprop((four (fun i => zero c (gatS 0 i)) ∗ four (fun i => zero c (gatS 1 i)) ∗ four (fun i => zero c (gatS 2 i))) ∗ sixteen (fun a i => zero c (stS (head c a i))))

/-- The kernel's own semaphores, listed, at zero. -/
theorem ownSems0_eq (c : Dev nD) :
    (Pipeline.ownSems0 (Ix := Unit) (Name := ℕ) (U := UU) (Lvl := ℕ) (Val := Elt F) (τ := τ) osem c : sProp 𝕄)
      = iprop(Locals c ∗ bigSep Finset.univ fun p : Bool × Xf => semVal (xCell p.1 p.2 c) 0) := by
  unfold Pipeline.ownSems0 Locals
  rw [bigSep_univ_sum, bigSep_univ_sum, bigSep_univ_prod, bigSep_fin3, bigSep_four, bigSep_four, bigSep_four, bigSep_sixteen c]
  exact (assoc_eq _ _ _).symm
/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.Attn
-- ==== Proof.Start.lean ====
/-
What a device's body starts from and leaves, as the launch states it: the staged blocks of the queries, keys and
values, the scratch buffers, the semaphores and the tickets; and the body run from the one to the other.
-/
module

public import proofs.«01_k».proof.Proof.Split
public import proofs.«01_k».proof.Proof.Gen.KernelIdeal.Points

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the launch states -/

section Data
variable (c : Dev nD)

/-- What a device pays and waits with. -/
def Tickets : sProp 𝕄 :=
  iprop(allX (Snd c) ∗ allX (RcvW c) ∗ (dutyTok ER (barCell (nbr 0 c)) 0 0 ∗ dutyTok ER (barCell (nbr 1 c)) 0 1 ∗ dutyTok ER (barCell (nbr 2 c)) 0 2) ∗ BarW c)

/-- The scratch buffers. -/
def Scratch : sProp 𝕄 := iprop(someOf c cc0_scratch0 ∗ someOf c cc0_scratch1 ∗ someOf c cc0_scratch2 ∗ someOf c cc0_scratch3 ∗ someOf c cc0_scratch4 ∗ someOf c cc0_scratch5 ∗ someOf c cc0_scratch6 ∗ someOf c cc0_scratch7 ∗ someOf c cc0_scratch8)

/-- Before the body, less the scratch buffers; -/
def Begin : sProp 𝕄 := iprop((∃ K, Invs m K) ∗ levAts L lv ∗ Locals c ∗ Tickets c)
def Φ₀ : sProp 𝕄 := iprop(Begin m c ∗ Scratch c)
/-- after it. -/
def Φ₁ : sProp 𝕄 :=
  iprop(Scratch c ∗ Locals c ∗ (allX (fun x => zero c (semOf false x)) ∗ allX (fun x => zero c (semOf true x))) ∗ semVal (barCell c) 0)

end Data

/-- The contents the pipeline brings in and takes out. -/
def dats (_ : Fin 1) (c : Dev nD) : Pipeline.Dat τ (Elt F) Unit ℕ UU ℕ cfg0 c where
  A w := m ((cfg0.win w).arr.view.loc (c : Thread nD τ))
  after w _ := match w with
    | ⟨0, _⟩ => Qin m c
    | ⟨1, _⟩ => Kin m c
    | ⟨2, _⟩ => Vin m c
    | ⟨3, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

section Run
variable (c : Dev nD)

/-- A staged block is memory held whole. -/
theorem owns_has (b : Ref sig .tc) (X : b.ty.Contents (Elt F)) :
    (owns (Ix := Unit) (Name := ℕ) (U := UU) (Lvl := ℕ) (c : Thread nD τ) (Memref.whole b) fullShare X : sProp 𝕄)
      = has c (Memref.whole b) Finset.univ fullShare X := by
  unfold owns
  simp only [Memref.view_whole, View.read_whole, View.set_whole]
  rw [← has_whole]
  refine BI.Entails.antisymm (show _ ⊢ (_ : sProp 𝕄) from ?_) (show _ ⊢ (_ : sProp 𝕄) from ?_)
  · iintro ⟨%f, %hf, H⟩
    subst hf
    iexact H
  · iintro H
    iexists X
    isplitr; · ipureintro; rfl
    iexact H

/-- The scratch buffers as rows. -/
theorem scratch_open : Scratch c ⊢ (iprop(four (fun i => hasAny c qsM (row 4 i)) ∗ four (fun i => hasAny c ksM (row 4 i)) ∗ four (fun i => hasAny c vsM (row 4 i))
    ∗ four (fun i => hasAny c ksbM (row 4 i)) ∗ four (fun i => hasAny c vsbM (row 4 i)) ∗ sixteen (fun a i => hasAny c ogM (row 16 (head c a i)))
    ∗ sixteen (fun a i => hasAny c og32M (row 16 (head c a i))) ∗ four (fun i => hasAny c krM (row 4 i)) ∗ four (fun i => hasAny c vrM (row 4 i))) : sProp 𝕄) := by
  unfold Scratch
  iintro ⟨s0, s1, s2, s3, s4, s5, s6, s7, s8⟩
  isplitl [s0]; · iapply (open_of c (b := cc0_scratch0) fun f => rows4_any c qsM f); iexact s0
  isplitl [s1]; · iapply (open_of c (b := cc0_scratch1) fun f => rows4_any c ksM f); iexact s1
  isplitl [s2]; · iapply (open_of c (b := cc0_scratch2) fun f => rows4_any c vsM f); iexact s2
  isplitl [s3]; · iapply (open_of c (b := cc0_scratch3) fun f => rows4_any c ksbM f); iexact s3
  isplitl [s4]; · iapply (open_of c (b := cc0_scratch4) fun f => rows4_any c vsbM f); iexact s4
  isplitl [s5]; · iapply (open_of c (b := cc0_scratch5) fun f => rows16_any c ogM f); iexact s5
  isplitl [s6]; · iapply (open_of c (b := cc0_scratch6) fun f => rows16_any c og32M f); iexact s6
  isplitl [s7]; · iapply (open_of c (b := cc0_scratch7) fun f => rows4_any c krM f); iexact s7
  iapply (open_of c (b := cc0_scratch8) fun f => rows4_any c vrM f); iexact s8

/-- Four rows are a whole buffer again. -/
theorem close4 {sp : Space} {e : EltTy} (Md : Memref sig .tc sp ⟨3, ![4, 1024, 128]⟩ e) (X) :
    (four (fun i => has c Md (row 4 i) fullShare X) : sProp 𝕄) ⊢ has c Md Finset.univ fullShare X := Entails.of_eq (has_rows4 Md X).symm
/-- Sixteen rows are a whole buffer again. -/
theorem close16 {sp : Space} {e : EltTy} (Md : Memref sig .tc sp ⟨3, ![16, 1024, 128]⟩ e) (X) :
    (sixteen (fun a i => has c Md (row 16 (head c a i)) fullShare X) : sProp 𝕄) ⊢ has c Md Finset.univ fullShare X := Entails.of_eq (has_rows16 Md X).symm

/-- The heads of the other groups, which the body does not touch. -/
abbrev others (M : Memref sig .tc .vmem S1x1024x16x128 .f32) (X : S1x1024x16x128.Idx → Elt F .f32) : sProp 𝕄 :=
  iprop(four (fun i => has c M (headSet (head c 1 i).val) fullShare X) ∗ four (fun i => has c M (headSet (head c 2 i).val) fullShare X)
    ∗ four (fun i => has c M (headSet (head c 3 i).val) fullShare X))

/-- A run that leaves more leaves less; -/
theorem run_mono {p : Prog (TpuEff nD τ sig (Elt F) Λ₀ .tc) PUnit} {Q Q' : PUnit → sProp 𝕄} (h : ∀ a, Q a ⊢ Q' a) : (WP c p Q) ⊢ WP c p Q' := wp_mono _ _ _ h
/-- what it does not use is left. -/
theorem run_frame {p : Prog (TpuEff nD τ sig (Elt F) Λ₀ .tc) PUnit} {Q : PUnit → sProp 𝕄} {R : sProp 𝕄} : iprop(R ∗ WP c p Q) ⊢ WP c p fun a => iprop(R ∗ Q a) :=
  wp_frame_l _ _ _

/-- What the body leaves, with the heads it did not touch, is what the launch wants back. -/
theorem finish :
    iprop(Done m c ∗ others c qM (Qin m c) ∗ others c kM (Kin m c) ∗ others c vM (Vin m c))
      ⊢ iprop(Φ₁ c ∗ Ow c 0 ∗ has c qM Finset.univ fullShare (Qin m c) ∗ has c kM Finset.univ fullShare (Kin m c) ∗ has c vM Finset.univ fullShare (Vin m c)
        ∗ has c oM Finset.univ fullShare (OUT m c)) := by
  unfold Done Φ₁ Locals Scratch
  iintro ⟨⟨qH, kH, vH, qR, kR, vR, kL, kRr, vL, vRr, kP, vP, gL, gRr, g1, g2, g3, wR, oH, z0, z1, z2, zst, zf, zt, zb, HO⟩, oq, ok, ov⟩
  isplitl [qR kR vR kL kRr vL vRr kP vP gL gRr g1 g2 g3 wR z0 z1 z2 zst zf zt zb]
  · isplitl [qR kR vR kL kRr vL vRr kP vP gL gRr g1 g2 g3 wR]
    · isplitl [qR]; · iapply (some_of c (b := cc0_scratch0)); iapply (close4 c qsM); iexact qR
      isplitl [kR]; · iapply (some_of c (b := cc0_scratch1)); iapply (close4 c ksM); iexact kR
      isplitl [vR]; · iapply (some_of c (b := cc0_scratch2)); iapply (close4 c vsM); iexact vR
      isplitl [kL kRr]
      · iapply (some_of c (b := cc0_scratch3)); iapply (close4 c ksbM); iapply (halves c ksbM (fun i => row 4 i))
        isplitl [kL]; · iexact kL
        iexact kRr
      isplitl [vL vRr]
      · iapply (some_of c (b := cc0_scratch4)); iapply (close4 c vsbM); iapply (halves c vsbM (fun i => row 4 i))
        isplitl [vL]; · iexact vL
        iexact vRr
      isplitl [gL gRr g1 g2 g3]
      · iapply (some_of c (b := cc0_scratch5)); iapply (close16 c ogM)
        isplitl [gL gRr]
        · iapply (halves c ogM (fun i => row 16 (head c 0 i)))
          isplitl [gL]; · iexact gL
          iexact gRr
        isplitl [g1]; · iexact g1
        isplitl [g2]; · iexact g2
        iexact g3
      isplitl [wR]; · iapply (some_of c (b := cc0_scratch6)); iapply (close16 c og32M); iexact wR
      isplitl [kP]; · iapply (some_of c (b := cc0_scratch7)); iapply (close4 c krM); iexact kP
      iapply (some_of c (b := cc0_scratch8)); iapply (close4 c vrM); iexact vP
    isplitl [z0 z1 z2 zst]
    · isplitl [z0 z1 z2]
      · isplitl [z0]; · iexact z0
        isplitl [z1]; · iexact z1
        iexact z2
      iexact zst
    isplitl [zf zt]
    · isplitl [zf]; · iexact zf
      iexact zt
    iexact zb
  isplitl [HO]; · iexact HO
  isplitl [qH oq]
  · iapply (Entails.of_eq (has_heads qM (Qin m c)).symm)
    isplitl [qH]; · iexact qH
    iexact oq
  isplitl [kH ok]
  · iapply (Entails.of_eq (has_heads kM (Kin m c)).symm)
    isplitl [kH]; · iexact kH
    iexact ok
  isplitl [vH ov]
  · iapply (Entails.of_eq (has_heads vM (Vin m c)).symm)
    isplitl [vH]; · iexact vH
    iexact ov
  iapply (Entails.of_eq (has_heads oM (OUT m c)).symm)
  iexact oH

/-- The body from what the launch gives to what it wants back. -/
theorem body_run {X : S1x1024x16x128.Idx → Elt F .f32} :
    iprop(Φ₀ m c ∗ Ow c (O₀ c) ∗ has c qM Finset.univ fullShare (Qin m c) ∗ has c kM Finset.univ fullShare (Kin m c) ∗ has c vM Finset.univ fullShare (Vin m c)
        ∗ has c oM Finset.univ fullShare X)
      ⊢ WP c (cc0_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) fun _ => iprop(Φ₁ c ∗ Ow c 0
        ∗ has c qM Finset.univ fullShare (Qin m c) ∗ has c kM Finset.univ fullShare (Kin m c) ∗ has c vM Finset.univ fullShare (Vin m c)
        ∗ has c oM Finset.univ fullShare (OUT m c)) := by
  have hq := has_heads (c := c) (q := fullShare) qM (Qin m c)
  have hk := has_heads (c := c) (q := fullShare) kM (Kin m c)
  have hv := has_heads (c := c) (q := fullShare) vM (Vin m c)
  unfold Φ₀ Begin Tickets Locals
  iintro ⟨⟨⟨⟨%K, #HI⟩, #HL, ⟨⟨z0, z1, z2⟩, zst⟩, tS, tR, ⟨b0, b1, b2⟩, bW⟩, hS⟩, HO, Hq, Hk, Hv, Ho⟩
  ihave Hq' := (Entails.of_eq hq) $$ Hq
  ihave Hk' := (Entails.of_eq hk) $$ Hk
  ihave Hv' := (Entails.of_eq hv) $$ Hv
  icases Hq' with ⟨qH, oq⟩
  icases Hk' with ⟨kH, ok⟩
  icases Hv' with ⟨vH, ov⟩
  ihave oA := (heads_any c oM X) $$ Ho
  ihave hS' := (scratch_open c) $$ hS
  icases hS' with ⟨s0, s1, s2, s3, s4, s5, s6, s7, s8⟩
  iapply (run_mono c (Q := fun _ => iprop((others c qM (Qin m c) ∗ others c kM (Kin m c) ∗ others c vM (Vin m c)) ∗ Done m c)) fun _ => BIBase.Entails.trans BI.sep_comm (finish m c))
  iapply (run_frame c)
  isplitl [oq ok ov]
  · isplitl [oq]; · iexact oq
    isplitl [ok]; · iexact ok
    iexact ov
  iapply (body_core m K c) $$ [] qH kH vH s0 s1 s2 s3 s4 s7 s8 s5 s6 oA z0 z1 z2 zst tS tR b0 b1 b2 bW HO
  unfold Env
  isplitr; · iexact HI
  iexact HL

end Run

/-! ## The library's obligation -/

/-- The body is given the queries. -/
theorem fetched_q (c : Dev nD) (d) : (dats m 0 c).before (0 : Fin 4) t0_0 d = Qin m c := by
  unfold Pipeline.Dat.before; rw [if_pos (fetch0_0 t0_0)]; rfl
/-- The body is given the keys. -/
theorem fetched_k (c : Dev nD) (d) : (dats m 0 c).before (1 : Fin 4) t0_0 d = Kin m c := by
  unfold Pipeline.Dat.before; rw [if_pos (fetch0_1 t0_0)]; rfl
/-- The body is given the values. -/
theorem fetched_v (c : Dev nD) (d) : (dats m 0 c).before (2 : Fin 4) t0_0 d = Vin m c := by
  unfold Pipeline.Dat.before; rw [if_pos (fetch0_2 t0_0)]; rfl

set_option maxRecDepth 8000 in
/-- The body, as the pipeline asks for it. -/
theorem body_obligation (c : Dev nD) : Pipeline.BodyObligation (dats (F := F) m 0 c) (defs₀ (F := F)) 𝒱₀ () Set.univ := fun t => by
  rw [fin_N0 t]
  rw [bigSep_W0, bigSep_W0]
  simp only [owns_has]
  show iprop(Φ₀ m c ∗ (dats m 0 c).owesAt () t0_0.castSucc
      ∗ (∃ d, has c qM Finset.univ fullShare ((dats m 0 c).before (0 : Fin 4) t0_0 d)) ∗ (∃ d, has c kM Finset.univ fullShare ((dats m 0 c).before (1 : Fin 4) t0_0 d))
      ∗ (∃ d, has c vM Finset.univ fullShare ((dats m 0 c).before (2 : Fin 4) t0_0 d)) ∗ (∃ d, has c oM Finset.univ fullShare ((dats m 0 c).before (3 : Fin 4) t0_0 d)))
    ⊢ WP c (cc0_body qM (Memref.isWhole_whole _) kM (Memref.isWhole_whole _) vM (Memref.isWhole_whole _) oM (Memref.isWhole_whole _) qsM (Memref.isWhole_whole _) ksM (Memref.isWhole_whole _) vsM (Memref.isWhole_whole _) ksbM (Memref.isWhole_whole _) vsbM (Memref.isWhole_whole _) ogM (Memref.isWhole_whole _) og32M (Memref.isWhole_whole _) krM (Memref.isWhole_whole _) vrM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) fun _ => iprop(Φ₁ c ∗ (dats m 0 c).owesAt () t0_0.succ
      ∗ has c qM Finset.univ fullShare (Qin m c) ∗ has c kM Finset.univ fullShare (Kin m c) ∗ has c vM Finset.univ fullShare (Vin m c)
      ∗ has c oM Finset.univ fullShare (OUT m c))
  unfold Pipeline.Dat.owesAt Pipeline.owesWithin
  iintro ⟨Hs, ⟨%W, %hW, HO⟩, ⟨%d0, Hq⟩, ⟨%d1, Hk⟩, ⟨%d2, Hv⟩, ⟨%d3, Ho⟩⟩
  ihave Hq' := (Entails.of_eq (congrArg (has c qM Finset.univ fullShare) (fetched_q m c d0))) $$ Hq
  ihave Hk' := (Entails.of_eq (congrArg (has c kM Finset.univ fullShare) (fetched_k m c d1))) $$ Hk
  ihave Hv' := (Entails.of_eq (congrArg (has c vM Finset.univ fullShare) (fetched_v m c d2))) $$ Hv
  iapply (run_mono c (Q := fun _ => iprop(Φ₁ c ∗ Ow c 0
        ∗ has c qM Finset.univ fullShare (Qin m c) ∗ has c kM Finset.univ fullShare (Kin m c) ∗ has c vM Finset.univ fullShare (Vin m c)
        ∗ has c oM Finset.univ fullShare (OUT m c))) fun _ => sep_mono_right (sep_mono_left (show Ow c 0 ⊢ _ from by
      unfold Ow
      iintro ⟨%W', HO'⟩
      iexists W'
      isplitr; · ipureintro; exact fun _ _ => Or.inl trivial
      iexact HO')))
  iapply (body_run m c)
  isplitl [Hs]; · iexact Hs
  isplitl [HO]
  · unfold Ow
    iexists W
    iexact HO
  isplitl [Hq']; · iexact Hq'
  isplitl [Hk']; · iexact Hk'
  isplitl [Hv']; · iexact Hv'
  iexact Ho

end Cert.Attn
-- ==== Proof.Ghost.lean ====
/-
The ghost state the launch deals out: every device's barrier cell and the forty cells of its remote copies, their
positions and their duty tokens; the tokens taken to the devices that pay, and the credits for what the others owe.
-/
module

public import proofs.«01_k».proof.Proof.Start

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-! ## The cells and the tokens minted -/

/-- Different indices name different cells. -/
theorem cellAt_injective : Function.Injective (cellAt : Dev nD × CellIx → GSem nD τ sig) := by
  rintro ⟨c, k⟩ ⟨c', k'⟩ h
  have hc : c = c' := by
    have := congrArg (fun g : GSem nD τ sig => g.1.1) h
    rcases k with _ | p <;> rcases k' with _ | p' <;> exact this
  subst hc
  rcases k with _ | ⟨b, x⟩ <;> rcases k' with _ | ⟨b', x'⟩
  · rfl
  · exact absurd (congrArg Prod.snd h) (fun h' => by cases h')
  · exact absurd (congrArg Prod.snd h) (fun h' => by cases h')
  · have h2 : semOf b x = semOf b' x' := by
      have := congrArg Prod.snd h
      exact SemLoc.dma.inj this
    have h3 : some (b, x) = some (b', x') := by rw [← kindOf_semOf, h2, kindOf_semOf]
    rw [h3]

/-- A cell's duties: three at a barrier, one at a copy's. -/
abbrev TokIx := Fin 3 ⊕ (Bool × Xf)
/-- Whose cell the duty is of, when device `c` pays it. -/
def payee : TokIx → Dev nD → Dev nD
  | .inl d, c => nbr d c
  | .inr (true, x), c => peer x c
  | .inr (false, _), c => c
/-- The device that a duty pays owes the same duty back. -/
theorem payee_payee (t : TokIx) : Function.Involutive (payee t) := by
  have h : ∀ (t : TokIx) (c : Dev nD), payee t (payee t c) = c := by decide
  exact h t
def tokOf (ct : Dev nD × TokIx) : GSem nD τ sig × ℕ × Fin 3 := match ct.2 with
  | .inl d => (barCell ct.1, 0, d)
  | .inr p => (xCell p.1 p.2 ct.1, 0, 0)
/-- Different indices name different duties. -/
theorem tokOf_injective : Function.Injective tokOf := by
  rintro ⟨c, t⟩ ⟨c', t'⟩ h
  have hcell : ∀ s : TokIx, ∀ d : Dev nD, (tokOf (d, s)).1 = cellAt (d, match s with | .inl _ => none | .inr p => some p) := by
    intro s d; rcases s with d | p <;> rfl
  have h1 := congrArg Prod.fst h
  rw [hcell, hcell] at h1
  have h2 := cellAt_injective h1
  have hc : c = c' := congrArg Prod.fst h2
  subst hc
  have hk := congrArg Prod.snd h2
  rcases t with d | p <;> rcases t' with d' | p'
  · have : d = d' := congrArg (fun x : GSem nD τ sig × ℕ × Fin 3 => x.2.2) h
    rw [this]
  · cases hk
  · cases hk
  · have : p = p' := Option.some.inj hk
    rw [this]

def cells : Finset (GSem nD τ sig) := Finset.univ.map ⟨cellAt, cellAt_injective⟩
def toks : Finset (GSem nD τ sig × ℕ × Fin 3) := Finset.univ.map ⟨tokOf, tokOf_injective⟩

/-- The launch's ghost element: the pipeline's, and the protocol's. -/
def u₀ : UU := (initOf (Pipeline.cells cfgs cellOf_inj) (Pipeline.launchToks cfgs cellOf_inj), (initOf cells toks, 1))

/-- It splits in two. -/
theorem u_split (a : UR sig nD τ) (b : UB) : (ownU ((a, (b, (1 : Counters))) : UU) : sProp 𝕄) ⊢ iprop(BI.own (EP a) ∗ BI.own (ER b)) :=
  BI.own_op_elim ((uEmb (Val := Elt F) (Ix := Unit) (Name := ℕ) (Lvl := ℕ)).toEmb.op_of_mem
    (Prod.mk_mem_op (URA.mem_op_one a) (URA.mem_one_op (b, (1 : Counters)))))

/-! ## What each device is dealt -/

section Deal
variable (c : Dev nD)

/-- A duty's token as device `c` pays it. -/
def payTok (t : TokIx) : sProp 𝕄 := dutyTok ER (tokOf (payee t c, t)).1 (tokOf (payee t c, t)).2.1 (tokOf (payee t c, t)).2.2
/-- A duty's token as minted with its cell. -/
def ownTok (t : TokIx) : sProp 𝕄 := dutyTok ER (tokOf (c, t)).1 (tokOf (c, t)).2.1 (tokOf (c, t)).2.2

def Positions : sProp 𝕄 := bigSep Finset.univ fun k : CellIx => atPos ER (cellAt (c, k)) 0 ∅ 0

/-- What the launch element deals device `c`; -/
def G : sProp 𝕄 :=
  iprop((bigSep Finset.univ fun k : CellIx => roundState ER (Rd m) (cellAt (c, k)) 0) ∗ Positions c
    ∗ (bigSep Finset.univ fun k : CellIx => reached ER (cellAt (c, k)) 0) ∗ bigSep Finset.univ (ownTok c))
/-- what the devices together make of it. -/
def G' : sProp 𝕄 := iprop((∃ K, Invs m K) ∗ (Locals c ∗ Positions c) ∗ bigSep Finset.univ (payTok c))

end Deal

/-- The launch element, device by device. -/
theorem fund_cells : BI.own (ER (initOf cells toks)) ⊢ (|==> bigSep Finset.univ (G (F := F) m) : sProp 𝕄) := by
  have hX (Φ : GSem nD τ sig → sProp 𝕄) : bigSep cells Φ = bigSep Finset.univ fun c : Dev nD => bigSep Finset.univ fun k : CellIx => Φ (cellAt (c, k)) := by
    unfold cells; rw [bigSep_map, bigSep_univ_prod]; rfl
  have hT : bigSep toks (fun x => (dutyTok ER x.1 x.2.1 x.2.2 : sProp 𝕄)) = bigSep Finset.univ fun c : Dev nD => bigSep Finset.univ (ownTok c) := by
    unfold toks; rw [bigSep_map, bigSep_univ_prod]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Positions; simp only [bigSep_sep']
  isplitl [Hst']; · iexact Hst'
  isplitl [Hat']; · iexact Hat'
  isplitl [Hr']; · iexact Hr'
  iexact Htok'

/-- A family over an option is its default with the rest. -/
theorem bigSep_option {α : Type} [Fintype α] (Φ : Option α → sProp 𝕄) :
    bigSep Finset.univ Φ ⊣⊢ iprop((bigSep Finset.univ fun a => Φ (some a)) ∗ Φ none) := by
  rw [bigSep_univ_equiv (Equiv.optionEquivSumPUnit.{0,0} α).symm Φ, bigSep_univ_sum, bigSep_univ_of_subsingleton PUnit.unit]
  exact BiEntails.rfl

/-- A separating conjunction over a sum type is that over its left and that over its right. -/
theorem sum_eq {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
/-- A separating conjunction over a set with one more index has one more conjunct. -/
theorem insert_eq {α : Type} [DecidableEq α] {s : Finset α} {i : α} (h : i ∉ s) {Φ : α → sProp 𝕄} :
    bigSep (insert i s) Φ = iprop(Φ i ∗ bigSep s Φ) := bigSep_insert h

/-- All the semaphores of the protocol's cells at zero. -/
theorem sems_split (c : Dev nD) :
    iprop(Pipeline.ownSems0 (Ix := Unit) (Name := ℕ) (U := UU) (Lvl := ℕ) (Val := Elt F) (τ := τ) osem c ∗ unscopedSems0 c)
      ⊢ (iprop(Locals c ∗ bigSep Finset.univ fun k : CellIx => semVal (cellAt (c, k)) 0) : sProp 𝕄) := by
  rw [ownSems0_eq, unscopedSems0_eq]
  iintro ⟨⟨HL, HX⟩, HB⟩
  isplitl [HL]; · iexact HL
  iapply (bigSep_option (F := F) fun k : CellIx => semVal (cellAt (c, k)) 0).2
  isplitl [HX]; · iexact HX
  iexact HB

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G (F := F) m c)
      ⊢ |={Set.univ}=> iprop((bigSep Finset.univ fun k => iprop(∃ κ : ℕ, cellInv ER (Rd m) κ (cellAt (c, k))))
          ∗ (Locals c ∗ Positions c) ∗ (bigSep Finset.univ fun k : CellIx => reached ER (cellAt (c, k)) 0) ∗ bigSep Finset.univ (ownTok c)) := by
  unfold G
  iintro ⟨Hos, Hus, Hst, Hat, Hr, Htok⟩
  ihave Hv := (sems_split (F := F) c) $$ [Hos Hus]
  · isplitl [Hos] <;> iassumption
  icases Hv with ⟨HL, Hv⟩
  imod (show iprop((bigSep Finset.univ fun k : CellIx => semVal (cellAt (c, k)) 0) ∗ bigSep Finset.univ fun k : CellIx => roundState ER (Rd m) (cellAt (c, k)) 0)
      ⊢ (|={Set.univ}=> bigSep Finset.univ fun k => iprop(∃ κ : ℕ, cellInv ER (Rd m) κ (cellAt (c, k))) : sProp 𝕄) from by
        rw [← bigSep_sep']
        exact (bigSep_mono fun k _ => (Rounds.body_intro ER (Rd m) (cellAt (c, k))).trans inv_alloc).trans (bigSep_fupd _ _)) $$ [Hv Hst] with Hinv
  · isplitl [Hv] <;> iassumption
  imodintro
  isplitl [Hinv]; · iexact Hinv
  isplitl [HL Hat]
  · isplitl [HL]; · iexact HL
    iexact Hat
  isplitl [Hr]; · iexact Hr
  iexact Htok

/-- The tokens, taken to the devices that pay them. -/
theorem toks_around : (bigSep Finset.univ fun c : Dev nD => bigSep Finset.univ (ownTok (F := F) c)) ⊢ bigSep Finset.univ fun c : Dev nD => bigSep Finset.univ (payTok (F := F) c) := by
  rw [bigSep_univ_comm, bigSep_univ_comm (fun c : Dev nD => payTok (F := F) c)]
  refine bigSep_mono fun t _ => ?_
  rw [bigSep_univ_equiv (payee_payee t).toPerm (fun c : Dev nD => ownTok (F := F) c t)]
  exact (show (bigSep Finset.univ fun c : Dev nD => payTok (F := F) c t) ⊢ _ from BIBase.Entails.rfl)

/-- Something all devices share is dealt to each. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the launch makes of all devices' ghost state, sorted by device. -/
theorem regroup :
    (bigSep Finset.univ fun c : Dev nD => iprop((bigSep Finset.univ fun k => iprop(∃ κ : ℕ, cellInv ER (Rd m) κ (cellAt (c, k))))
          ∗ (Locals c ∗ Positions c) ∗ (bigSep Finset.univ fun k : CellIx => reached ER (cellAt (c, k)) 0) ∗ bigSep Finset.univ (ownTok c)) : sProp 𝕄)
      ⊢ bigSep Finset.univ (G' (F := F) m) := by
  rw [bigSep_sep', bigSep_sep', bigSep_sep', bigSep_sep', ← bigSep_univ_prod (fun ck : Dev nD × CellIx => iprop(∃ κ : ℕ, cellInv ER (Rd m) κ (cellAt ck))),
    ← bigSep_univ_prod (fun ck : Dev nD × CellIx => (reached ER (cellAt ck) 0 : sProp 𝕄))]
  iintro ⟨HI, Hloc, Hr, Htok⟩
  ihave HK := (BI.bigSep_exists_pi Finset.univ (fun (ck : Dev nD × CellIx) (κ : ℕ) => (cellInv ER (Rd m) κ (cellAt ck) : sProp 𝕄))) $$ HI
  icases HK with ⟨%K, HI⟩
  ihave Htk := (toks_around (F := F)) $$ Htok
  iapply (share_out (R := Invs m K) (Φ := fun c : Dev nD => iprop((Locals c ∗ Positions c) ∗ bigSep Finset.univ (payTok c))) fun c _ => by
    unfold G'
    iintro ⟨HI, H⟩
    isplitl [HI]
    · iexists K; iexact HI
    iexact H)
  isplitl [HI Hr]
  · unfold Invs
    rw [bigSep_sep']
    isplitl [HI]; · iexact HI
    iexact Hr
  rw [bigSep_sep', bigSep_sep']
  isplitl [Hloc]; · iexact Hloc
  iexact Htk

/-- All devices' semaphores and ghost state at once. -/
theorem glob : (bigSep Finset.univ fun c => iprop(Pipeline.ownSems0 (Ix := Unit) (Name := ℕ) (U := UU) (Lvl := ℕ) (Val := Elt F) (τ := τ) osem c ∗ unscopedSems0 c ∗ G (F := F) m c) : sProp 𝕄)
    ⊢ |={Set.univ}=> bigSep Finset.univ (G' (F := F) m) :=
  ((bigSep_mono fun c _ => core_alloc m c).trans (bigSep_fupd _ _)).trans (BI.fupd_mono (regroup m))

/-! ## Tickets -/

section Tickets
variable (c : Dev nD)

/-- The credits for what the others owe `c`'s cells. -/
theorem creds_copies : ∀ l : List Xf, l.Nodup → (Pipeline.launchCred (fun d => Owe d l) c : sProp 𝕄) ⊢ bigSep l.toFinset fun x => cred (tallyAt (xCell true x c) () NB)
  | [], _ => by
    iintro -
    rw [List.toFinset_nil, bigSep_empty]
    iempintro
  | x :: l, h => by
    rw [List.toFinset_cons, insert_eq (fun hx => (List.nodup_cons.mp h).1 (List.mem_toFinset.mp hx))]
    show (Pipeline.launchCred (fun d => Owe d l + tallyAt (xCell true x (peer x d)) () NB) c : sProp 𝕄) ⊢ _
    rw [Pipeline.launchCred_add]
    iintro ⟨H1, H2⟩
    isplitl [H2]
    · iapply (Pipeline.launchCred_tallyAt (.dma (semOf true x)) (peer x) (peer x) (peer_peer x) (peer_peer x) () NB c); iexact H2
    iapply (creds_copies l (List.nodup_cons.mp h).2); iexact H1

/-- The neighbour's neighbour along an axis is the device itself. -/
theorem nbr_nbr : ∀ (d : Fin 3) (c : Dev nD), nbr d (nbr d c) = c := by decide

/-- The barrier credit that a neighbour's obligation gives a device. -/
theorem creds_bar (d : Fin 3) : (Pipeline.launchCred (fun e => tallyAt (barCell (nbr d e)) () 1) c : sProp 𝕄) ⊢ cred (tallyAt (barCell c) () 1) :=
  Pipeline.launchCred_tallyAt (.reg barS) (nbr d) (nbr d) (nbr_nbr d) (nbr_nbr d) () 1 c

/-- All the credits that a device is given at the launch. -/
theorem creds : (Pipeline.launchCred O₀ c : sProp 𝕄)
    ⊢ iprop((bigSep Finset.univ fun x => cred (tallyAt (xCell true x c) () NB)) ∗ cred (tallyAt (barCell c) () 3)) := by
  show (Pipeline.launchCred (fun d => ((Owe d order + tallyAt (barCell (nbr 2 d)) () 1) + tallyAt (barCell (nbr 1 d)) () 1) + tallyAt (barCell (nbr 0 d)) () 1) c : sProp 𝕄) ⊢ _
  rw [Pipeline.launchCred_add, Pipeline.launchCred_add, Pipeline.launchCred_add]
  iintro ⟨⟨⟨H, H2⟩, H1⟩, H0⟩
  isplitl [H]
  · iapply (creds_copies c order (by decide)); iexact H
  ihave H2' := (creds_bar c 2) $$ H2
  ihave H1' := (creds_bar c 1) $$ H1
  ihave H0' := (creds_bar c 0) $$ H0
  iapply (Entails.of_eq (show (cred ((tallyAt (barCell c) () 1 + tallyAt (barCell c) () 1) + tallyAt (barCell c) () 1) : sProp 𝕄) = cred (tallyAt (barCell c) () 3) from by
    rw [tallyAt_add, tallyAt_add]))
  iapply (cred_add _ _).2
  isplitl [H2' H1']
  · iapply (cred_add _ _).2
    isplitl [H2']; · iexact H2'
    iexact H1'
  iexact H0'

/-- Tokens, positions and credits are a device's tickets. -/
theorem tickets_intro : iprop(Positions c ∗ bigSep Finset.univ (payTok c) ∗ (bigSep Finset.univ fun x => cred (tallyAt (xCell true x c) () NB)) ∗ cred (tallyAt (barCell c) () 3))
    ⊢ (Tickets c : sProp 𝕄) := by
  unfold Tickets Positions
  rw [← bigSep_allX, ← bigSep_allX]
  unfold Snd RcvW BarW
  simp only [bigSep_sep']
  rw [sum_eq, bigSep_univ_prod, bigSep_bool, bigSep_fin3]
  iintro ⟨HP, ⟨⟨T0, T1, T2⟩, TF, TT⟩, HC, HB⟩
  ihave HP' := (bigSep_option (F := F) fun k : CellIx => atPos ER (cellAt (c, k)) 0 ∅ 0).1 $$ HP
  icases HP' with ⟨HX, Hb⟩
  ihave HX' := (Entails.of_eq ((bigSep_univ_prod fun p : Bool × Xf => (atPos ER (cellAt (c, some p)) 0 ∅ 0 : sProp 𝕄)).trans (bigSep_bool _))) $$ HX
  icases HX' with ⟨HF, HT⟩
  isplitl [TF TT HF]
  · isplitl [TF]; · iexact TF
    isplitl [TT]; · iexact TT
    iexact HF
  isplitl [HC HT]
  · isplitl [HC]; · iexact HC
    iexact HT
  isplitl [T0 T1 T2]
  · isplitl [T0]; · iapply (Entails.of_eq (show payTok c (.inl 0) = dutyTok ER (barCell (nbr 0 c)) 0 0 from rfl)); iexact T0
    isplitl [T1]; · iapply (Entails.of_eq (show payTok c (.inl 1) = dutyTok ER (barCell (nbr 1 c)) 0 1 from rfl)); iexact T1
    iapply (Entails.of_eq (show payTok c (.inl 2) = dutyTok ER (barCell (nbr 2 c)) 0 2 from rfl)); iexact T2
  isplitl [HB]; · iexact HB
  iexact Hb

end Tickets

end Cert.Attn
-- ==== Proof.Run.lean ====
/-
The launch: from any memory with zero counters the program of all devices terminates, and every final memory holds
the inputs as they were and on each device the result the body leaves.
-/
module

public import proofs.«01_k».proof.Proof.Ghost
public import Idealize.ShloMosaic.Lib.Pipeline.CollectiveSegs

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

variable (ρ : Dev nD → PrngReg)

/-- A memory at rest: no counter raised. -/
abbrev s₀ : MemSt nD τ sig (Elt F) := ⟨m, fun _ => 0, ρ⟩

/-- The kernel's own semaphores are none of the pipeline's, and different. -/
theorem ownSemFacts : Pipeline.OwnSemFacts cfg0.spec osem :=
  ⟨by decide, fun a b h => semAt_injective (SemLoc.dma.inj h), by decide⟩

/-- Every window is held in full. -/
theorem share_eq (c : Dev nD) (w : Fin cfg0.W) : (dats m 0 c).share w = fullShare := by unfold Pipeline.Dat.share; split <;> rfl

/-- What a device begins with, out of what the launch leaves it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(Begin m c ∗ emp) := by
  iintro ⟨-, Hlev, Hcr, -, HG⟩
  ihave Hc := (creds (F := F) c) $$ Hcr
  icases Hc with ⟨HX, HB⟩
  unfold Begin G'
  icases HG with ⟨HI, ⟨HL, HP⟩, HT⟩
  imodintro
  isplitl
  · isplitl [HI]; · iexact HI
    isplitl [Hlev]; · iexact Hlev
    isplitl [HL]; · iexact HL
    iapply (tickets_intro c)
    isplitl [HP]; · iexact HP
    isplitl [HT]; · iexact HT
    isplitl [HX]; · iexact HX
    iexact HB
  · iempintro

/-- The scratch buffers, listed. -/
theorem scratch_eq (c : Dev nD) : (Pipeline.scopedRest (Ix := Unit) (Name := ℕ) (U := UU) (Lvl := ℕ) (Val := Elt F) cfg0.spec c : sProp 𝕄) = Scratch c := by
  rw [scopedRest0_eq]; rfl

/-- What the body begins with. -/
theorem enter (c : Dev nD) :
    iprop(Begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What the body leaves gives everything back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, ownSems0_eq, unscopedSems0_eq, bigSep_univ_prod, bigSep_bool]
  unfold Φ₁
  rw [← bigSep_allX, ← bigSep_allX]
  iintro ⟨Hr, HL, ⟨HF, HT⟩, HB⟩
  isplitl [HB]; · iexact HB
  isplitl [HL HF HT]
  · isplitl [HL]; · iexact HL
    isplitl [HF]; · iexact HF
    iexact HT
  iexact Hr

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the arrays hold in the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, for any float values: every weakly fair execution of the eight devices
    terminates, each with its inputs as they were, its result at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (u_split (F := F) _ _) $$ Hu
      icases H with ⟨HP, HX⟩
      imod (fund_cells m) $$ HX with HG
      imodintro
      isplitl [HP] <;> iassumption)
    (hglob := glob m)
    (hA := fun _ _ => rfl) (hpf := fun _ k => k.elim0)
    (X := Begin m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold what they held. -/
theorem final_in (c : Dev nD) (w : Fin cfg0.W) (h : (cfg0.win w).isOut = false) : finalA m c w = m ((cfg0.win w).arr.view.loc (c : Thread nD τ)) :=
  (dats (F := F) m 0 c).arrAt_in w h _

end Cert.Attn
-- ==== Proof.Frames.lean ====
/-
The three frames: the kernel as compiled, the kernel over exact numbers, and the reference over exact numbers each
terminate with their arguments as they were and every counter back at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Attn

open Idealize.ShloMosaic Idealize.SL.Sem

/-! The kernel as compiled has the exact kernel's text: read over words, the two programs are one. -/

/-- The two printed kernels define the same procedures. -/
theorem labels_eq : Cert.Kernel.defs₀ (F := Bits) = Cert.KernelIdeal.defs₀ (F := Bits) := by
  refine congrArg Defs.onTc (funext fun ℓ => funext fun a => ?_)
  match ℓ, a with
  | 0, (t, s) => exact rfl

/-- The two printed kernels, with their launches, define the same procedures. -/
theorem defs_eq : Cert.Kernel.defs (F := Bits) = Cert.KernelIdeal.defs (F := Bits) :=
  congrArg (Pipeline.defs Cert.KernelIdeal.pcfgs) labels_eq

/-- For any float values: the run, read at the arguments and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono
    (fun _ h => ⟨fun c => ⟨(h.1 c (0 : Fin 4)).trans (final_in m c 0 rfl), (h.1 c (1 : Fin 4)).trans (final_in m c 1 rfl),
      (h.1 c (2 : Fin 4)).trans (final_in m c 2 rfl)⟩, h.2⟩)
    (run_main m ρ)

/-- The kernel as compiled. -/
theorem frame_kernel : Cert.quiescent_Kernel := fun m ρ _ => by
  rw [defs_eq]
  exact frame_any (F := Bits) m ρ

/-- The kernel over exact numbers. -/
theorem frame_ideal : Cert.quiescent_KernelIdeal := fun m ρ _ => frame_any (F := Ideal) m ρ

/-- The reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Attn
-- ==== Proof.Softmax.lean ====
/-
The mathematics of the kernel's attention row: a quotient of two sums of exponentials is the softmax-weighted sum,
whatever is subtracted from the scores first, and a sum over the whole sequence is the sum over its two halves.
-/
module

public import Idealize.ShloMosaic.PureOps.Ideal
public import Idealize.ShloMosaic.PureOps.Ideal.Laws
public import Idealize.ShloMosaic.Lib.IdealHost

@[expose] public section

noncomputable section

namespace Cert.Attn

open Idealize.ShloMosaic
open scoped BigOperators

/-! ## Finite extended reals -/

/-- An extended real that is a real. -/
def IsReal (x : EReal) : Prop := ∃ r : ℝ, x = (r : EReal)

/-- A number whose absolute value is below +∞ is finite. -/
theorem IsReal.of_lt {x : EReal} (h : max x (-x) < ⊤) : IsReal x := by
  induction x with
  | bot => simp at h
  | top => simp at h
  | coe r => exact ⟨r, rfl⟩

/-- A product of finite numbers is finite. -/
theorem IsReal.mul {x y : EReal} : IsReal x → IsReal y → IsReal (x * y) := fun ⟨a, ha⟩ ⟨b, hb⟩ =>
  ⟨a * b, by rw [ha, hb, EReal.coe_mul]⟩

/-- A finite sum of reals, taken among the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A sum of finite numbers is finite. -/
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- The largest of a nonempty family of reals is a real. -/
theorem IsReal.fold {n : ℕ} (hn : 0 < n) {f : Fin n → EReal} (h : ∀ i, IsReal (f i)) :
    IsReal ((Finset.univ : Finset (Fin n)).fold max ⊥ f) := by
  have key : ∀ s : Finset (Fin n), (s.fold max ⊥ f = ⊥ ∧ s = ∅) ∨ IsReal (s.fold max ⊥ f) := by
    intro s
    induction s using Finset.cons_induction with
    | empty => exact Or.inl ⟨Finset.fold_empty, rfl⟩
    | cons a s ha ih =>
      refine Or.inr ?_
      rw [Finset.fold_cons]
      obtain ⟨r, hr⟩ := h a
      rcases ih with ⟨hb, _⟩ | ⟨t, ht⟩
      · exact ⟨r, by rw [hb, hr]; exact max_eq_left bot_le⟩
      · exact ⟨max r t, by rw [hr, ht]; exact (EReal.coe_strictMono.monotone.map_max).symm⟩
  rcases key Finset.univ with ⟨_, he⟩ | h'
  · exact absurd (he ▸ Finset.mem_univ (⟨0, hn⟩ : Fin n)) (Finset.notMem_empty _)
  · exact h'

/-! ## Numbers that a pattern denotes -/

/-- The bits of +∞. -/
theorem ofBits_inf : Ideal.ofBits .f32 0x7F800000#32 = ⊤ := by simp [Ideal.ofBits, Ideal.ieee]
/-- The bits of -∞. -/
theorem ofBits_ninf : Ideal.ofBits .f32 0xFF800000#32 = ⊥ := by simp [Ideal.ofBits, Ideal.ieee]

/-- The factor that both programs scale a score by. -/
def σ : EReal := Ideal.ofBits .f32 0x3DB504F3#32

/-- The factor is finite. -/
theorem finite_σ : IsReal σ := by
  unfold σ
  simp only [Ideal.ofBits, Ideal.ieee]
  rw [if_neg (by decide), if_neg (by decide)]
  exact ⟨_, rfl⟩

/-! ## The quotient is the weighted sum -/

/-- A real that is not negative distributes over any sum. -/
theorem sum_mul_coe {ι : Type} (s : Finset ι) (f : ι → EReal) (c : ℝ) (hc : 0 ≤ c) :
    (∑ i ∈ s, f i) * (c : EReal) = ∑ i ∈ s, f i * (c : EReal) := by
  induction s using Finset.cons_induction with
  | empty => simp
  | cons a s ha ih =>
    rw [Finset.sum_cons, Finset.sum_cons, ← ih]
    exact EReal.right_distrib_of_nonneg_of_ne_top (EReal.coe_nonneg.mpr hc) (EReal.coe_ne_top c) _ _

/-- Dividing by a positive real is multiplying by its inverse. -/
theorem div_coe (x : EReal) (z : ℝ) (hz : 0 < z) : Ideal.div x (z : EReal) = x * ((z⁻¹ : ℝ) : EReal) := by
  unfold Ideal.div
  rw [if_neg (by exact_mod_cast hz.ne'), EReal.coe_inv]

/-- For finite scores: the sum of the values weighted by exponentials, over the sum of the exponentials, is the sum of
    the values weighted by the softmax of the scores, whatever finite number that softmax subtracts first. -/
theorem softmax_eq {n : ℕ} (hn : 0 < n) (s v : Fin n → EReal) (M : EReal) (hs : ∀ k, IsReal (s k)) (hM : IsReal M) :
    Ideal.div (∑ k, Ideal.exp (s k) * v k) (∑ k, Ideal.exp (s k))
      = ∑ k, v k * Ideal.div (Ideal.exp (s k - M)) (∑ k', Ideal.exp (s k' - M)) := by
  choose r hr using hs
  obtain ⟨t, rfl⟩ := hM
  have hne : (Finset.univ : Finset (Fin n)).Nonempty := ⟨⟨0, hn⟩, Finset.mem_univ _⟩
  have e1 : ∀ k, Ideal.exp (s k) = ((Real.exp (r k) : ℝ) : EReal) := fun k => by rw [hr k]; rfl
  have e2 : ∀ k, Ideal.exp (s k - (t : EReal)) = ((Real.exp (r k - t) : ℝ) : EReal) := fun k => by
    rw [hr k, ← EReal.coe_sub]; rfl
  have z1 : ∑ k, Ideal.exp (s k) = ((∑ k, Real.exp (r k) : ℝ) : EReal) := by
    rw [coe_sum]; exact Finset.sum_congr rfl fun k _ => e1 k
  have z2 : ∑ k, Ideal.exp (s k - (t : EReal)) = ((∑ k, Real.exp (r k - t) : ℝ) : EReal) := by
    rw [coe_sum]; exact Finset.sum_congr rfl fun k _ => e2 k
  have p1 : 0 < ∑ k, Real.exp (r k) := Finset.sum_pos (fun k _ => Real.exp_pos _) hne
  have p2 : 0 < ∑ k, Real.exp (r k - t) := Finset.sum_pos (fun k _ => Real.exp_pos _) hne
  have q : ∑ k, Real.exp (r k - t) = (∑ k, Real.exp (r k)) * Real.exp (-t) := by
    rw [Finset.sum_mul]; exact Finset.sum_congr rfl fun k _ => by rw [← Real.exp_add, sub_eq_add_neg]
  rw [z1, z2, div_coe _ _ p1, sum_mul_coe _ _ _ (inv_nonneg.mpr p1.le)]
  refine Finset.sum_congr rfl fun k _ => ?_
  rw [div_coe _ _ p2, e1 k, e2 k, ← EReal.coe_mul, mul_comm _ (v k), mul_assoc, ← EReal.coe_mul]
  congr 2
  rw [q, mul_inv, sub_eq_add_neg, Real.exp_add]
  have := (Real.exp_pos (-t)).ne'
  field_simp

/-! ## The two halves -/

/-- Position `j` of half `x` of the sequence. -/
def pos (x : Fin 2) (j : Fin 1024) : Fin 2048 := ⟨1024 * x.val + j.val, by have := x.isLt; have := j.isLt; omega⟩

/-- The half that is not `x`. -/
def other (x : Fin 2) : Fin 2 := ⟨1 - x.val, by omega⟩

/-- A sum over the sequence is the sum over one half and the sum over the other. -/
theorem sum_halves (x : Fin 2) (f : Fin 2048 → EReal) :
    ∑ k, f k = ∑ j, f (pos x j) + ∑ j, f (pos (other x) j) := by
  have h : ∑ k, f k = ∑ j, f (pos 0 j) + ∑ j, f (pos 1 j) := by
    refine (Fin.sum_univ_add (a := 1024) (b := 1024) f).trans ?_
    congr 1
  match x with
  | ⟨0, _⟩ => exact h
  | ⟨1, _⟩ => exact h.trans (add_comm _ _)

/-! ## A row of attention -/

/-- The score of a query against a key. -/
def score (q k : Fin 128 → EReal) : EReal := (∑ d, q d * k d) * σ

/-- A score of finite rows is finite. -/
theorem finite_score {q k : Fin 128 → EReal} (hq : ∀ d, IsReal (q d)) (hk : ∀ d, IsReal (k d)) : IsReal (score q k) :=
  (IsReal.sum fun d => (hq d).mul (hk d)).mul finite_σ

/-- What the kernel computes of a query, the keys and values of its own half and those of the other half. -/
def twoHalves (q : Fin 128 → EReal) (k₁ k₂ : Fin 1024 → Fin 128 → EReal) (v₁ v₂ : Fin 1024 → EReal) : EReal :=
  Ideal.div (∑ j, Ideal.exp (score q (k₁ j)) * v₁ j + ∑ j, Ideal.exp (score q (k₂ j)) * v₂ j)
    (∑ j, Ideal.exp (score q (k₁ j)) + ∑ j, Ideal.exp (score q (k₂ j)))

/-- What the reference computes of a query, the keys and the values: the softmax of the scores, with their largest
    subtracted, weighting the values. -/
def attend (q : Fin 128 → EReal) (k : Fin 2048 → Fin 128 → EReal) (v : Fin 2048 → EReal) : EReal :=
  ∑ i, v i * Ideal.div (Ideal.exp (score q (k i) - Finset.univ.fold max ⊥ fun i' => score q (k i')))
    (∑ i', Ideal.exp (score q (k i') - Finset.univ.fold max ⊥ fun i' => score q (k i')))

/-- With finite queries and keys the two agree. -/
theorem twoHalves_eq (x : Fin 2) (q : Fin 128 → EReal) (k : Fin 2048 → Fin 128 → EReal) (v : Fin 2048 → EReal)
    (hq : ∀ d, IsReal (q d)) (hk : ∀ i d, IsReal (k i d)) :
    twoHalves q (fun j => k (pos x j)) (fun j => k (pos (other x) j)) (fun j => v (pos x j)) (fun j => v (pos (other x) j))
      = attend q k v := by
  unfold twoHalves attend
  rw [← sum_halves x fun i => Ideal.exp (score q (k i)) * v i, ← sum_halves x fun i => Ideal.exp (score q (k i))]
  exact softmax_eq (by decide) _ _ _ (fun i => finite_score hq (hk i)) (IsReal.fold (by decide) fun i => finite_score hq (hk i))

end Cert.Attn
-- ==== Proof.RowValue.lean ====
/-
What the kernel leaves in its result, over exact numbers: an element of the result, as the attention row of the query of
its position and head against the keys and values of the device's half and of the other half.
-/
module

public import proofs.«01_k».proof.Proof.Run
public import proofs.«01_k».proof.Proof.Softmax
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Attn

open Cert.KernelIdeal Cert.KernelIdeal.Gen

open Idealize.ShloMosaic Idealize.ShloMosaic.ValueIdx
open Idealize.ShloMosaic.TcCoe
open scoped BigOperators

/-! ## The payloads at an index -/

/-- The scores of a tile of queries against a stack of keys. -/
theorem scores_apply (q : FVec Ideal S512x128 .bf16) (k : Vec Ideal S1x1024x128 .bf16) (r : Fin 512) (j : Fin 1024) :
    mulf (matmul dot_S512x128_S1024x128_S512x1024_1_1_0_0_n_n none q
        (shapeCast S1024x128 k shapeCasts_S1x1024x128_S1024x128 : FVec Ideal S1024x128 .bf16) (constant S512x1024 .f32 0x00000000#32))
      (broadcast S512x1024 (Scalar.ofBits .f32 0x3DB504F3#32 : Ideal .f32)) (ix2 r j)
      = score (fun d => q (ix2 r d)) (fun d => k (ix3 (0 : Fin 1) j d)) := by
  have e := Ideal.matmul_transposedRhs_apply (M := 512) (K := 128) (N := 1024) none q
    (shapeCast S1024x128 k shapeCasts_S1x1024x128_S1024x128 : FVec Ideal S1024x128 .bf16) (constant S512x1024 .f32 0x00000000#32) r j
  rw [show (constant S512x1024 .f32 0x00000000#32 : FVec Ideal S512x1024 .f32) (ix2 r j) = 0 from Ideal.ofBits_zero_f32, zero_add] at e
  refine congrArg (· * σ) (e.trans (Finset.sum_congr rfl fun d _ => ?_))
  exact congrArg (q (ix2 r d) * ·) (shapeCast_1ab_ab_apply k shapeCasts_S1x1024x128_S1024x128 j d)

/-- A tile of weights against a stack of values. -/
theorem weighted_apply (p : FVec Ideal S512x1024 .bf16) (v : Vec Ideal S1x1024x128 .bf16) (r : Fin 512) (d : Fin 128) :
    matmul dot_S512x1024_S1024x128_S512x128_1_0_0_1_n_n none p
        (shapeCast S1024x128 v shapeCasts_S1x1024x128_S1024x128 : FVec Ideal S1024x128 .bf16) (constant S512x128 .f32 0x00000000#32) (ix2 r d)
      = ∑ j : Fin 1024, p (ix2 r j) * v (ix3 (0 : Fin 1) j d) := by
  have e := Ideal.matmul_plain_apply (M := 512) (K := 1024) (N := 128) none p
    (shapeCast S1024x128 v shapeCasts_S1x1024x128_S1024x128 : FVec Ideal S1024x128 .bf16) (constant S512x128 .f32 0x00000000#32) r d
  rw [show (constant S512x128 .f32 0x00000000#32 : FVec Ideal S512x128 .f32) (ix2 r d) = 0 from Ideal.ofBits_zero_f32, zero_add] at e
  exact e.trans (Finset.sum_congr rfl fun j _ => congrArg (p (ix2 r j) * ·) (shapeCast_1ab_ab_apply v shapeCasts_S1x1024x128_S1024x128 j d))

/-- The sum of each row of a tile of weights, as a column. -/
theorem rowsum_apply (p : FVec Ideal S512x1024 .f32) (r : Fin 512) :
    shapeCast S512x1 (multiReduction .add [1] S512 p 0x00000000#32 reduces_S512x1024_S512 (.inl rfl) rfl : FVec Ideal S512 .f32)
        shapeCasts_S512_S512x1 (ix2 r (0 : Fin 1))
      = ∑ j : Fin 1024, p (ix2 r j) := by
  refine (shapeCast_a_a1_apply _ shapeCasts_S512_S512x1 r _).trans ?_
  refine (Ideal.multiReduction_add_single p 0x00000000#32 reduces_S512x1024_S512 (.inl rfl) rfl (ix1 r)).trans ?_
  refine Finset.sum_congr rfl fun j _ => congrArg p ?_
  funext a
  match a with
  | ⟨0, _⟩ => rfl
  | ⟨1, _⟩ => rfl

/-- A column spread over a tile. -/
theorem spread_apply (l : FVec Ideal S512x1 .f32) (r : Fin 512) (d : Fin 128) :
    broadcastTo S512x128 l broadcasts_S512x1_S512x128 (ix2 r d) = l (ix2 r (0 : Fin 1)) := by
  refine congrArg l ?_
  funext a
  match a with
  | ⟨0, _⟩ => rfl
  | ⟨1, _⟩ => rfl

/-- The tile that one step of the loop computes. -/
theorem tile_apply (q : Vec Ideal S1x512x128 .f32) (k₁ k₂ v₁ v₂ : Vec Ideal S1x1024x128 .bf16) (r : Fin 512) (d : Fin 128) :
    k0_pay1 q k₁ k₂ v₁ v₂ (ix2 r d)
      = twoHalves (fun d => q (ix3 (0 : Fin 1) r d)) (fun j d => k₁ (ix3 (0 : Fin 1) j d)) (fun j d => k₂ (ix3 (0 : Fin 1) j d))
          (fun j => v₁ (ix3 (0 : Fin 1) j d)) (fun j => v₂ (ix3 (0 : Fin 1) j d)) := by
  have hq : (fun d : Fin 128 => (truncf .bf16 (shapeCast S512x128 q shapeCasts_S1x512x128_S512x128 : FVec Ideal S512x128 .f32) bitsLt_bf16_f32 : FVec Ideal S512x128 .bf16) (ix2 r d))
      = fun d => q (ix3 (0 : Fin 1) r d) := by
    funext d
    exact shapeCast_1ab_ab_apply q shapeCasts_S1x512x128_S512x128 r d
  have hs : ∀ (k : Vec Ideal S1x1024x128 .bf16) (j : Fin 1024), _ = score (fun d => q (ix3 (0 : Fin 1) r d)) (fun d => k (ix3 (0 : Fin 1) j d)) := fun k j =>
    (scores_apply (truncf .bf16 (shapeCast S512x128 q shapeCasts_S1x512x128_S512x128 : FVec Ideal S512x128 .f32) bitsLt_bf16_f32) k r j).trans
      (congrArg (fun x => score x _) hq)
  unfold k0_pay1 twoHalves
  refine congr (congrArg Ideal.div ?_) ?_
  · exact congr (congrArg HAdd.hAdd ((weighted_apply _ v₁ r d).trans (Finset.sum_congr rfl fun j _ =>
        congrArg (· * v₁ (ix3 (0 : Fin 1) j d)) (congrArg Ideal.exp (hs k₁ j)))))
      ((weighted_apply _ v₂ r d).trans (Finset.sum_congr rfl fun j _ =>
        congrArg (· * v₂ (ix3 (0 : Fin 1) j d)) (congrArg Ideal.exp (hs k₂ j))))
  · refine (spread_apply _ r d).trans ?_
    exact congr (congrArg HAdd.hAdd ((rowsum_apply _ r).trans (Finset.sum_congr rfl fun j _ => congrArg Ideal.exp (hs k₁ j))))
      ((rowsum_apply _ r).trans (Finset.sum_congr rfl fun j _ => congrArg Ideal.exp (hs k₂ j)))

/-- A stack of one, seen as a matrix and back. -/
theorem there_back {e f : EltTy} (g : Elt Ideal e → Elt Ideal f) (x : Vec Ideal S1x1024x128 e) (j : Fin 1024) (d : Fin 128) :
    shapeCast S1x1024x128 (fun i => g (shapeCast S1024x128 x shapeCasts_S1x1024x128_S1024x128 i)) shapeCasts_S1024x128_S1x1024x128 (ix3 (0 : Fin 1) j d)
      = g (x (ix3 (0 : Fin 1) j d)) :=
  (shapeCast_ab_1ab_apply _ shapeCasts_S1024x128_S1x1024x128 (0 : Fin 1) j d).trans
    (congrArg g (shapeCast_1ab_ab_apply x shapeCasts_S1x1024x128_S1024x128 j d))

/-- Narrowing a row of keys leaves its exact numbers. -/
theorem pay5_apply (x : Vec Ideal S1x1024x128 .f32) (j : Fin 1024) (d : Fin 128) :
    k0_pay5 x (ix3 (0 : Fin 1) j d) = x (ix3 (0 : Fin 1) j d) := by
  unfold k0_pay5
  exact there_back (e := .f32) (f := .bf16) (fun y => y) x j d
/-- Narrowing a row of values leaves its exact numbers. -/
theorem pay6_apply (x : Vec Ideal S1x1024x128 .f32) (j : Fin 1024) (d : Fin 128) :
    k0_pay6 x (ix3 (0 : Fin 1) j d) = x (ix3 (0 : Fin 1) j d) := by
  unfold k0_pay6
  exact there_back (e := .f32) (f := .bf16) (fun y => y) x j d
/-- Widening a row of outputs leaves its exact numbers. -/
theorem pay15_apply (x : Vec Ideal S1x1024x128 .bf16) (j : Fin 1024) (d : Fin 128) :
    k0_pay15 x (ix3 (0 : Fin 1) j d) = x (ix3 (0 : Fin 1) j d) := by
  unfold k0_pay15
  exact there_back (e := .bf16) (f := .f32) (fun y => y) x j d
/-- Narrowing a tile of outputs leaves its exact numbers. -/
theorem pay14_apply (x : FVec Ideal S512x128 .bf16) (j : Fin 512) (d : Fin 128) :
    k0_pay14 x (ix3 (0 : Fin 1) j d) = x (ix2 j d) := by
  unfold k0_pay14
  exact shapeCast_ab_1ab_apply x shapeCasts_S512x128_S1x512x128 (0 : Fin 1) j d

/-! ## The buffers -/

section Blocks
variable {F : FTy → Type} [FloatOps F] (m : (ℓ : Loc nD τ sig) → Buf (Elt F) ℓ) (c : Dev nD)

/-- The one block of each argument is the argument. -/
theorem Qin_eq : Qin m c = m ((c : Thread nD τ).loc main_arg0) :=
  Memref.read_access_unit_zero (Elt F) main_arg0 (funext fun a => by fin_cases a <;> decide) (fun a => by fin_cases a <;> decide) _
/-- The keys that the body is given are the argument. -/
theorem Kin_eq : Kin m c = m ((c : Thread nD τ).loc main_arg1) :=
  Memref.read_access_unit_zero (Elt F) main_arg1 (funext fun a => by fin_cases a <;> decide) (fun a => by fin_cases a <;> decide) _
/-- The values that the body is given are the argument. -/
theorem Vin_eq : Vin m c = m ((c : Thread nD τ).loc main_arg2) :=
  Memref.read_access_unit_zero (Elt F) main_arg2 (funext fun a => by fin_cases a <;> decide) (fun a => by fin_cases a <;> decide) _

/-- The result's buffer ends at what the body left. -/
theorem final_out : finalA m c (3 : Fin 4) = OUT m c := by
  have ho : (win0_3.blk (0 : Fin 1)).view.read (Elt F) (finalA m c (3 : Fin 4)) = OUT m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (funext fun a => by fin_cases a <;> decide) (fun a => by fin_cases a <;> decide) _).symm.trans ho

end Blocks

/-! ## The result at an index -/

/-- A head is the own head of the device that works on it, at its row there. -/
theorem head_devH : ∀ (c : Dev nD) (h : Fin 16), head (devH c h) 0 (rowH h) = h := by decide
/-- It is the same own head of that device's `x` neighbour. -/
theorem head_pN_devH : ∀ (c : Dev nD) (h : Fin 16), head (pN (devH c h)) 0 (rowH h) = h := by decide

variable (m : (ℓ : Loc nD τ sig) → Buf (Elt Ideal) ℓ)

/-- An element of a device's narrowed keys is the argument's. -/
theorem KSB_apply (c : Dev nD) (i : Fin 4) (h : Fin 16) (hh : head c 0 i = h) (j : Fin 1024) (d : Fin 128) :
    KSB m c (ix3 i j d) = (m ((c : Thread nD τ).loc main_arg1) : S1x1024x16x128.Idx → EReal) (ix4 (0 : Fin 1) j h d) := by
  refine (pay5_apply _ j d).trans ?_
  show Kin m c (ix4 (0 : Fin 1) j (head c 0 i) d) = _
  rw [Kin_eq, hh]
/-- An element of a device's narrowed values is the argument's. -/
theorem VSB_apply (c : Dev nD) (i : Fin 4) (h : Fin 16) (hh : head c 0 i = h) (j : Fin 1024) (d : Fin 128) :
    VSB m c (ix3 i j d) = (m ((c : Thread nD τ).loc main_arg2) : S1x1024x16x128.Idx → EReal) (ix4 (0 : Fin 1) j h d) := by
  refine (pay6_apply _ j d).trans ?_
  show Vin m c (ix4 (0 : Fin 1) j (head c 0 i) d) = _
  rw [Vin_eq, hh]
/-- An element of a device's gathered queries is the argument's. -/
theorem QS_apply (c : Dev nD) (i : Fin 4) (h : Fin 16) (hh : head c 0 i = h) (j : Fin 1024) (d : Fin 128) :
    QS m c (ix3 i j d) = (m ((c : Thread nD τ).loc main_arg0) : S1x1024x16x128.Idx → EReal) (ix4 (0 : Fin 1) j h d) := by
  show Qin m c (ix4 (0 : Fin 1) j (head c 0 i) d) = _
  rw [Qin_eq, hh]

/-- An element of the result is the attention row of its position and head, computed on the device that works on that
    head. -/
theorem OUT_apply (c : Dev nD) (s : Fin 1024) (h : Fin 16) (d : Fin 128) :
    OUT m c (ix4 (0 : Fin 1) s h d)
      = twoHalves (fun d => (m (((devH c h : Dev nD) : Thread nD τ).loc main_arg0) : S1x1024x16x128.Idx → EReal) (ix4 (0 : Fin 1) s h d))
          (fun j d => (m (((devH c h : Dev nD) : Thread nD τ).loc main_arg1) : S1x1024x16x128.Idx → EReal) (ix4 (0 : Fin 1) j h d))
          (fun j d => (m (((pN (devH c h) : Dev nD) : Thread nD τ).loc main_arg1) : S1x1024x16x128.Idx → EReal) (ix4 (0 : Fin 1) j h d))
          (fun j => (m (((devH c h : Dev nD) : Thread nD τ).loc main_arg2) : S1x1024x16x128.Idx → EReal) (ix4 (0 : Fin 1) j h d))
          (fun j => (m (((pN (devH c h) : Dev nD) : Thread nD τ).loc main_arg2) : S1x1024x16x128.Idx → EReal) (ix4 (0 : Fin 1) j h d)) := by
  have e1 : OUT m c (ix4 (0 : Fin 1) s h d) = OG m c (ix3 h s d) := pay15_apply (rowOf (OG m c) h) s d
  have e2 : OG m c (ix3 h s d) = _ := pay14_apply
    (k0_pay1 (tileOf (QS m (devH c h)) (rowH h) (⟨s.val / 512, by have := s.isLt; omega⟩ : Fin 2)) (rowOf (KSB m (devH c h)) (rowH h))
      (rowOf (KSB m (pN (devH c h))) (rowH h)) (rowOf (VSB m (devH c h)) (rowH h)) (rowOf (VSB m (pN (devH c h))) (rowH h)))
    (⟨s.val % 512, Nat.mod_lt _ (by decide)⟩ : Fin 512) d
  refine e1.trans (e2.trans ((tile_apply _ _ _ _ _ _ d).trans ?_))
  have hs : (⟨512 * (s.val / 512) + s.val % 512, by have := s.isLt; omega⟩ : Fin 1024) = s := Fin.ext (by show 512 * (s.val / 512) + s.val % 512 = s.val; omega)
  congr 1
  · funext d
    refine Eq.trans ?_ (QS_apply m _ (rowH h) h (head_devH c h) s d)
    exact congrArg (fun x => QS m (devH c h) (ix3 (rowH h) x d)) hs
  · funext j d; exact KSB_apply m _ (rowH h) h (head_devH c h) j d
  · funext j d; exact KSB_apply m _ (rowH h) h (head_pN_devH c h) j d
  · funext j; exact VSB_apply m _ (rowH h) h (head_devH c h) j d
  · funext j; exact VSB_apply m _ (rowH h) h (head_pN_devH c h) j d

end Cert.Attn
-- ==== Proof.RefValue.lean ====
/-
What the reference computes, over exact numbers: its operations composed, in stages, and an element of the result as the
softmax-weighted sum of its position and head.
-/
module

public import proofs.«01_k».proof.Proof.Gen.ReferenceIdeal.Run
public import proofs.«01_k».proof.Proof.Softmax
public import Idealize.ShloMosaic.Lib.MatmulPlain
public import Idealize.ShloMosaic.Lib.ValueIdx

@[expose] public section

noncomputable section

namespace Cert.Attn

open Cert.ReferenceIdeal Cert.ReferenceIdeal.Gen

open Idealize.ShloMosaic Idealize.ShloMosaic.ValueIdx
open Idealize.ShloMosaic.TcCoe
open scoped BigOperators

/-! ## The stages -/

variable (Q K V : FVec Ideal S1x2048x16x128 .f32)

/-- The scaled scores. -/
def refS : FVec Ideal S1x16x2048x2048 .f32 :=
  mulf (Host.dotGeneral dot_S1x2048x16x128_S1x2048x16x128_S1x16x2048x2048_3_3_1_1_02_02 none Q K)
    (broadcastInDim S1x16x2048x2048 ![] bcast_S_S1x16x2048x2048 (constant S_ .f32 0x3DB504F3#32))

/-- A number for each query and head, spread over the keys. -/
def spreadQ (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)

/-- The largest score of each query. -/
def refM : FVec Ideal S1x16x2048 .f32 :=
  Host.reduce FloatOps.maximumf (refS Q K) (constant S_ .f32 0xFF800000#32) reducesTo_S1x16x2048x2048_S1x16x2048_d3 h_S_

/-- The exponentials of the scores less the largest. -/
def refE : FVec Ideal S1x16x2048x2048 .f32 := Host.exp (subf (refS Q K) (spreadQ (refM Q K)))

/-- Their sum for each query. -/
def refZ : FVec Ideal S1x16x2048 .f32 :=
  Host.reduceAdd (refE Q K) (constant S_ .f32 0x00000000#32) reducesTo_S1x16x2048x2048_S1x16x2048_d3 h_S_

/-- The result. -/
def refOut : FVec Ideal S1x2048x16x128 .f32 :=
  transpose S1x2048x16x128 [0, 3, 1, 2]
    (Host.dotGeneral dot_S1x2048x16x128_S1x16x2048x2048_S1x16x128x2048_1_3_3_2_02_01 none V (Host.divf (refE Q K) (spreadQ (refZ Q K))))
    transposes_S1x16x128x2048_S1x2048x16x128_0_3_1_2

/-! ## The stages at an index -/

/-- A spread number is the same for every key. -/
theorem spreadQ_apply (x : FVec Ideal S1x16x2048 .f32) (b : Fin 1) (h : Fin 16) (q k : Fin 2048) :
    spreadQ x (ix4 b h q k) = x (ix3 b h q) := by
  unfold spreadQ
  refine congrArg x ?_
  funext a
  match a with
  | ⟨0, _⟩ => exact Subsingleton.elim (α := Fin 1) _ _
  | ⟨1, _⟩ => rfl
  | ⟨2, _⟩ => rfl

/-- A scaled score is the score of the query's row and the key's. -/
theorem refS_apply (h : Fin 16) (q k : Fin 2048) :
    refS Q K (ix4 (0 : Fin 1) h q k) = score (fun d => Q (ix4 (0 : Fin 1) q h d)) (fun d => K (ix4 (0 : Fin 1) k h d)) := by
  refine congrArg (· * σ) ?_
  refine (Ideal.dotGeneral_apply _ none _ Q K _).trans ?_
  rw [← Equiv.sum_comp (contrEquiv1 dot_S1x2048x16x128_S1x2048x16x128_S1x16x2048x2048_3_3_1_1_02_02 128 rfl rfl).symm]
  refine Finset.sum_congr rfl fun d _ => ?_
  have hd := contrEquiv1_symm_val dot_S1x2048x16x128_S1x2048x16x128_S1x16x2048x2048_3_3_1_1_02_02 128 rfl rfl d
  refine congr (congrArg HMul.hMul (congrArg Q ?_)) (congrArg K ?_) <;>
  · funext a; apply Fin.ext
    match a with
    | ⟨0, _⟩ => rfl
    | ⟨1, _⟩ => rfl
    | ⟨2, _⟩ => rfl
    | ⟨3, _⟩ => exact hd

/-- An index of the scores is a query's index with a key put in. -/
theorem lift_apply (hr : S1x16x2048x2048.Reduces [3] S1x16x2048) (b : Fin 1) (h : Fin 16) (q k : Fin 2048) :
    hr.lift (ix3 b h q) k = ix4 b h q k := by
  funext a
  match a with
  | ⟨0, _⟩ => rfl
  | ⟨1, _⟩ => rfl
  | ⟨2, _⟩ => rfl
  | ⟨3, _⟩ => rfl

/-- The scores reduce over the keys. -/
theorem reduces_keys : S1x16x2048x2048.Reduces [3] S1x16x2048 := by decide

/-- The largest score of a query. -/
theorem refM_apply (h : Fin 16) (q : Fin 2048) :
    refM Q K (ix3 (0 : Fin 1) h q)
      = Finset.univ.fold max ⊥ fun k => score (fun d => Q (ix4 (0 : Fin 1) q h d)) (fun d => K (ix4 (0 : Fin 1) k h d)) := by
  unfold refM
  rw [Host.reduce_eq_fold_single _ _ _ _ reduces_keys]
  have hi : (constant S_ .f32 0xFF800000#32 : FVec Ideal S_ .f32) (Shape.Idx.first h_S_) = ⊥ := ofBits_ninf
  rw [hi]
  refine congrArg (fun f => (Finset.univ : Finset (Fin 2048)).fold max ⊥ f) (funext fun k => ?_)
  exact (congrArg (refS Q K) (lift_apply reduces_keys 0 h q k)).trans (refS_apply Q K h q k)

/-- An exponential of a score less the largest. -/
theorem refE_apply (h : Fin 16) (q k : Fin 2048) :
    refE Q K (ix4 (0 : Fin 1) h q k)
      = Ideal.exp (score (fun d => Q (ix4 (0 : Fin 1) q h d)) (fun d => K (ix4 (0 : Fin 1) k h d))
          - Finset.univ.fold max ⊥ fun k => score (fun d => Q (ix4 (0 : Fin 1) q h d)) (fun d => K (ix4 (0 : Fin 1) k h d))) := by
  refine congrArg Ideal.exp (congr (congrArg HSub.hSub (refS_apply Q K h q k)) ?_)
  exact (spreadQ_apply _ 0 h q k).trans (refM_apply Q K h q)

/-- The sum of a query's exponentials. -/
theorem refZ_apply (h : Fin 16) (q : Fin 2048) :
    refZ Q K (ix3 (0 : Fin 1) h q) = ∑ k : Fin 2048, refE Q K (ix4 (0 : Fin 1) h q k) := by
  unfold refZ
  refine (Ideal.hostReduceAdd_single reducesTo_S1x16x2048x2048_S1x16x2048_d3 reduces_keys (refE Q K)
    ((constant S_ .f32 0x00000000#32 : FVec Ideal S_ .f32) (Shape.Idx.first h_S_)) (ix3 (0 : Fin 1) h q)).trans ?_
  rw [show (constant S_ .f32 0x00000000#32 : FVec Ideal S_ .f32) (Shape.Idx.first h_S_) = 0 from Ideal.ofBits_zero_f32, zero_add]
  exact Finset.sum_congr rfl fun k _ => congrArg (refE Q K) (lift_apply reduces_keys 0 h q k)

/-- The last step puts the query before the head. -/
theorem turned_apply (x : FVec Ideal S1x16x128x2048 .f32) (q : Fin 2048) (h : Fin 16) (d : Fin 128) :
    transpose S1x2048x16x128 [0, 3, 1, 2] x transposes_S1x16x128x2048_S1x2048x16x128_0_3_1_2 (ix4 (0 : Fin 1) q h d)
      = x (ix4 (0 : Fin 1) h d q) := by
  refine congrArg x ?_
  funext a
  match a with
  | ⟨0, _⟩ => rfl
  | ⟨1, _⟩ => rfl
  | ⟨2, _⟩ => rfl
  | ⟨3, _⟩ => rfl

/-- Weights against values. -/
theorem weigh_apply (p : FVec Ideal S1x16x2048x2048 .f32) (q : Fin 2048) (h : Fin 16) (d : Fin 128) :
    Host.dotGeneral dot_S1x2048x16x128_S1x16x2048x2048_S1x16x128x2048_1_3_3_2_02_01 none V p (ix4 (0 : Fin 1) h d q)
      = ∑ k : Fin 2048, V (ix4 (0 : Fin 1) k h d) * p (ix4 (0 : Fin 1) h q k) := by
  refine (Ideal.dotGeneral_apply _ none _ V p _).trans ?_
  rw [← Equiv.sum_comp (contrEquiv1 dot_S1x2048x16x128_S1x16x2048x2048_S1x16x128x2048_1_3_3_2_02_01 2048 rfl rfl).symm]
  refine Finset.sum_congr rfl fun k _ => ?_
  have hk := contrEquiv1_symm_val dot_S1x2048x16x128_S1x16x2048x2048_S1x16x128x2048_1_3_3_2_02_01 2048 rfl rfl k
  refine congr (congrArg HMul.hMul (congrArg V ?_)) (congrArg p ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-- An element of the reference's result. -/
theorem refOut_apply (q : Fin 2048) (h : Fin 16) (d : Fin 128) :
    refOut Q K V (ix4 (0 : Fin 1) q h d)
      = attend (fun d => Q (ix4 (0 : Fin 1) q h d)) (fun k d => K (ix4 (0 : Fin 1) k h d)) (fun k => V (ix4 (0 : Fin 1) k h d)) := by
  unfold refOut attend
  rw [turned_apply, weigh_apply]
  refine Finset.sum_congr rfl fun k _ => congrArg (V (ix4 (0 : Fin 1) k h d) * ·) ?_
  refine (hostDivf_apply (refE Q K) (spreadQ (refZ Q K)) (ix4 (0 : Fin 1) h q k)).trans ?_
  rw [refE_apply, spreadQ_apply, refZ_apply]
  exact congrArg _ (Finset.sum_congr rfl fun k' _ => refE_apply Q K h q k')

end Cert.Attn
-- ==== Proof.Algebraic.lean ====
/-
The kernel against the reference, over exact numbers, queries and keys finite: each device's result is its block of the
reference's result.
-/
module

public import proofs.«01_k».proof.Defs
public import proofs.«01_k».proof.Proof.RowValue
public import proofs.«01_k».proof.Proof.RefValue

@[expose] public section

noncomputable section

namespace Cert.Attn

open Idealize.ShloMosaic Idealize.ShloMosaic.ValueIdx
open Idealize.ShloMosaic.TcCoe

/-- The side condition of the precondition on the kernel's inputs. -/
theorem pre_kernel : Cert.Pre_finite_scores_KernelIdeal.Facts := ⟨by decide⟩
/-- The side condition of the precondition on the reference's inputs. -/
theorem pre_reference : Cert.Pre_finite_scores_ReferenceIdeal.Facts := ⟨by decide⟩

instance : Cert.Pre_finite_scores_KernelIdeal.Facts := pre_kernel

abbrev Part := (⟨4, ![1, 1024, 16, 128]⟩ : Shape).Idx → EReal
abbrev Whole := (⟨4, ![1, 2048, 16, 128]⟩ : Shape).Idx → EReal

/-! ## The precondition -/

/-- A comparison that holds bounds the absolute value. -/
theorem lt_of_cmp {x y : Ideal .f32} (h : FloatOps.cmpf CmpFPredicate.olt x y = 1#1) : (x : EReal) < y := by
  by_contra hn
  simp [FloatOps.cmpf, Ideal.cmp, hn] at h

/-- Where the precondition holds the queries and keys are finite. -/
theorem finite_of_pre (q k v : Part)
    (h : Cert.Pre_finite_scores_KernelIdeal.fn (F := Ideal) q k v = fun _ => 1#1) (i) : IsReal (q i) ∧ IsReal (k i) := by
  have hi := congrFun h i
  have hb : ∀ a b : BitVec 1, a &&& b = 1#1 → a = 1#1 ∧ b = 1#1 := by decide
  obtain ⟨h₁, h₂⟩ := hb _ _ hi
  refine ⟨IsReal.of_lt ?_, IsReal.of_lt ?_⟩
  · exact (lt_of_cmp h₁).trans_eq ofBits_inf
  · exact (lt_of_cmp h₂).trans_eq ofBits_inf

/-! ## The blocks -/

/-- The half of the sequence that a device holds. -/
def half (c : Dev Cert.KernelIdeal.nD) : Fin 2 := ⟨c.val / 4, by have := c.isLt; change c.val < 8 at this; omega⟩

/-- The device that works on a head for `c` holds the same half as `c`. -/
theorem half_devH : ∀ (c : Dev Cert.KernelIdeal.nD) (h : Fin 16), half (devH c h) = half c := by decide
/-- The neighbour across `x` holds the other half. -/
theorem half_pN : ∀ c : Dev Cert.KernelIdeal.nD, half (pN c) = other (half c) := by decide
/-- Each half is held by some device. -/
theorem half_onto : ∀ x : Fin 2, ∃ c : Dev Cert.KernelIdeal.nD, half c = x := by decide

/-- The place of a device along the cut axis is the half it holds. -/
theorem lin_val : ∀ c : Dev Cert.KernelIdeal.nD, Layout.meshLin [2, 2, 2] c.val [0] = (half c).val := by decide

/-- A device's block of a whole array is the device's half of the sequence. -/
theorem block_apply (c : Dev Cert.KernelIdeal.nD) (v : Whole) (s : Fin 1024) (h : Fin 16) (d : Fin 128) :
    (Layout.blockN ⟨4, ![1, 1024, 16, 128]⟩ ⟨4, ![1, 2048, 16, 128]⟩ (Layout.meshBlock [2, 2, 2] ![[], [0], [], []] c) v : Part) (ix4 (0 : Fin 1) s h d)
      = v (ix4 (0 : Fin 1) (pos (half c) s) h d) := by
  refine congrArg v ?_
  funext a
  apply Fin.ext
  rw [Layout.TilesN.idx_val]
  match a with
  | ⟨0, _⟩ => rfl
  | ⟨1, _⟩ =>
    show Layout.meshLin [2, 2, 2] c.val [0] * 1024 + s.val = 1024 * (half c).val + s.val
    rw [lin_val, Nat.mul_comm]
  | ⟨2, _⟩ => show 0 * 16 + h.val = h.val; omega
  | ⟨3, _⟩ => show 0 * 128 + d.val = d.val; omega

/-- Every position of the sequence is in some half. -/
theorem pos_onto (i : Fin 2048) : ∃ (x : Fin 2) (j : Fin 1024), pos x j = i :=
  ⟨⟨i.val / 1024, by have := i.isLt; omega⟩, ⟨i.val % 1024, Nat.mod_lt _ (by decide)⟩, Fin.ext (Nat.div_add_mod i.val 1024)⟩

/-! ## The claim -/

variable (m : (ℓ : Loc Cert.KernelIdeal.nD Cert.KernelIdeal.τ Cert.KernelIdeal.sig) → Buf (Elt Ideal) ℓ)

/-- If every device's arguments are its blocks of whole arrays, whose queries and keys are finite, its result is its block
    of the reference's result. -/
theorem out_block (Q K V : Whole)
    (hQ : ∀ (c : Dev Cert.KernelIdeal.nD) s h d, (m ((c : Thread Cert.KernelIdeal.nD Cert.KernelIdeal.τ).loc Cert.KernelIdeal.main_arg0) : Part) (ix4 (0 : Fin 1) s h d) = Q (ix4 (0 : Fin 1) (pos (half c) s) h d))
    (hK : ∀ (c : Dev Cert.KernelIdeal.nD) s h d, (m ((c : Thread Cert.KernelIdeal.nD Cert.KernelIdeal.τ).loc Cert.KernelIdeal.main_arg1) : Part) (ix4 (0 : Fin 1) s h d) = K (ix4 (0 : Fin 1) (pos (half c) s) h d))
    (hV : ∀ (c : Dev Cert.KernelIdeal.nD) s h d, (m ((c : Thread Cert.KernelIdeal.nD Cert.KernelIdeal.τ).loc Cert.KernelIdeal.main_arg2) : Part) (ix4 (0 : Fin 1) s h d) = V (ix4 (0 : Fin 1) (pos (half c) s) h d))
    (fQ : ∀ i h d, IsReal (Q (ix4 (0 : Fin 1) i h d))) (fK : ∀ i h d, IsReal (K (ix4 (0 : Fin 1) i h d)))
    (c : Dev Cert.KernelIdeal.nD) :
    OUT m c = Layout.blockN ⟨4, ![1, 1024, 16, 128]⟩ ⟨4, ![1, 2048, 16, 128]⟩ (Layout.meshBlock [2, 2, 2] ![[], [0], [], []] c) (refOut Q K V) := by
  funext i
  obtain ⟨s, h, d, rfl⟩ : ∃ (s : Fin 1024) (h : Fin 16) (d : Fin 128), i = ix4 (0 : Fin 1) s h d :=
    ⟨i 1, i 2, i 3, funext fun a => by
      match a with
      | ⟨0, _⟩ => exact Subsingleton.elim (α := Fin 1) _ _
      | ⟨1, _⟩ => rfl
      | ⟨2, _⟩ => rfl
      | ⟨3, _⟩ => rfl⟩
  refine (OUT_apply m c s h d).trans (Eq.trans ?_ ((block_apply c _ s h d).trans (refOut_apply Q K V _ h d)).symm)
  simp only [hQ, hK, hV, half_pN, half_devH]
  exact twoHalves_eq (half c) (fun d => Q (ix4 (0 : Fin 1) (pos (half c) s) h d)) (fun i d => K (ix4 (0 : Fin 1) i h d))
    (fun i => V (ix4 (0 : Fin 1) i h d)) (fun d => fQ _ h d) (fun i d => fK i h d)

/-- The kernel computes the reference's result where queries and keys are finite. -/
theorem algebraic : Cert.algebraic_KernelIdeal_ReferenceIdeal_pre_finite_scores_KernelIdeal := by
  intro m g m' g' hpre hag
  have hQ := fun c s h d => (congrFun (hag c).1 (ix4 (0 : Fin 1) s h d)).trans (block_apply c _ s h d)
  have hK := fun c s h d => (congrFun (hag c).2.1 (ix4 (0 : Fin 1) s h d)).trans (block_apply c _ s h d)
  have hV := fun c s h d => (congrFun (hag c).2.2 (ix4 (0 : Fin 1) s h d)).trans (block_apply c _ s h d)
  have hf := fun c => finite_of_pre _ _ _ (hpre c)
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨?_, (h.1 c (0 : Fin 4)).trans (final_in m c 0 rfl),
      (h.1 c (1 : Fin 4)).trans (final_in m c 1 rfl), (h.1 c (2 : Fin 4)).trans (final_in m c 2 rfl)⟩) (run_main m g)
    refine (h.1 c (3 : Fin 4)).trans ((final_out m c).trans (out_block m _ _ _ hQ hK hV ?_ ?_ c))
    · intro i h d
      obtain ⟨x, j, rfl⟩ := pos_onto i
      obtain ⟨c, rfl⟩ := half_onto x
      exact hQ c j h d ▸ (hf c _).1
    · intro i h d
      obtain ⟨x, j, rfl⟩ := pos_onto i
      obtain ⟨c, rfl⟩ := half_onto x
      exact hK c j h d ▸ (hf c _).2
  · exact (θ_run Cert.ReferenceIdeal.defs _ _).mono (fun r h => h 0) (Cert.ReferenceIdeal.Value.run (F := Ideal) m' g')

end Cert.Attn
-- ==== Proof.lean ====
/-
The certificate: the witnesses of the programs' stated facts, and the claims, each proved in its own module.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All claims of the certificate. -/
theorem claim : Cert.Claim :=
  ⟨Cert.Kernel.Gen.facts, Cert.KernelIdeal.Gen.facts, Cert.ReferenceIdeal.Gen.facts, Cert.Attn.pre_kernel, Cert.Attn.pre_reference,
    Cert.Attn.frame_kernel, Cert.Attn.frame_ideal, fun m g _ => Cert.Attn.frame_ideal m g trivial,
    Cert.Attn.frame_reference, fun m g _ => Cert.Attn.frame_reference m g trivial, trivial, Cert.Attn.algebraic⟩

end Cert.Proof

end
